-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x32x128 : S_.BroadcastsInDim S1x1024x32x128 (![] : Fin 0 → Fin S1x1024x32x128.rank)

variable [Facts]

def fn {F : FTy → Type} [FloatOps F] (main_arg0 : FVec F S1x1024x1024 .bf16) (main_arg1 : FVec F S1024x1024 .bf16) (main_arg2 : FVec F S1x1024x32x128 .bf16) (main_arg3 : FVec F S1x1024x32x128 .bf16) (main_arg4 : FVec F S1024x1024 .bf16) : IVec S1x1024x1024 1 × IVec S1024x1024 1 × IVec S1x1024x32x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x1024x32x128 .f32 := (extf .f32 · bitsLt_bf16_f32) main_arg2
  let main_v9 : FVec F S1x1024x32x128 .f32 := Host.absf main_v8
  let main_cst_1 : FVec F S_ .f32 := constant S_ .f32 0x7F800000#32
  let main_v10 : FVec F S1x1024x32x128 .f32 := broadcastInDim S1x1024x32x128 ![] bcast_S_S1x1024x32x128 main_cst_1
  let main_v11 : IVec S1x1024x32x128 1 := cmpf .olt main_v9 main_v10
  (main_v3, main_v7, main_v11)
-- ==== Pre_finite_scores_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x32x128 : S_.BroadcastsInDim S1x1024x32x128 (![] : Fin 0 → Fin S1x1024x32x128.rank)

variable [Facts]

def fn {F : FTy → Type} [FloatOps F] (main_arg0 : FVec F S1x1024x1024 .bf16) (main_arg1 : FVec F S1024x4096 .bf16) (main_arg2 : FVec F S1x1024x32x128 .bf16) (main_arg3 : FVec F S1x1024x32x128 .bf16) (main_arg4 : FVec F S4096x1024 .bf16) : IVec S1x1024x1024 1 × IVec S1024x4096 1 × IVec S1x1024x32x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S1x1024x32x128 .f32 := (extf .f32 · bitsLt_bf16_f32) main_arg2
  let main_v9 : FVec F S1x1024x32x128 .f32 := Host.absf main_v8
  let main_cst_1 : FVec F S_ .f32 := constant S_ .f32 0x7F800000#32
  let main_v10 : FVec F S1x1024x32x128 .f32 := broadcastInDim S1x1024x32x128 ![] bcast_S_S1x1024x32x128 main_cst_1
  let main_v11 : IVec S1x1024x32x128 1 := cmpf .olt main_v9 main_v10
  (main_v3, main_v7, main_v11)
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩
abbrev S1024x32x128 : Shape := ⟨3, ![1024, 32, 128]⟩
abbrev S1024x8x128 : Shape := ⟨3, ![1024, 8, 128]⟩
abbrev S256x1024 : Shape := ⟨2, ![256, 1024]⟩
abbrev S4x256x1024 : Shape := ⟨3, ![4, 256, 1024]⟩
abbrev S4 : Shape := ⟨1, ![4]⟩
abbrev S64x1024 : Shape := ⟨2, ![64, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x64x1024 : Shape := ⟨3, ![1, 64, 1024]⟩

abbrev nBuf : Space → Nat
  | .hbm => 38
  | .vmem => 16
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x32x128, .bf16⟩
  | .hbm, ⟨3, _⟩ => ⟨S1x1024x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x32x128, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x8x128, .bf16⟩
  | .hbm, ⟨22, _⟩ => ⟨S1024x1024, .bf16⟩
  | .hbm, ⟨23, _⟩ => ⟨S1024x32x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .bf16⟩
  | .hbm, ⟨34, _⟩ => ⟨S1024x1024, .bf16⟩
  | .hbm, ⟨35, _⟩ => ⟨S1024x1024, .bf16⟩
  | .hbm, ⟨36, _⟩ => ⟨S1024x1024, .f32⟩
  | .hbm, ⟨37, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .f32⟩
  | .local _ .vmem, ⟨12, _⟩ => ⟨S4x256x1024, .bf16⟩
  | .local _ .vmem, ⟨13, _⟩ => ⟨S4x256x1024, .bf16⟩
  | .local _ .vmem, ⟨14, _⟩ => ⟨S256x1024, .bf16⟩
  | .local _ .vmem, ⟨15, _⟩ => ⟨S4x256x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_180 : BitVec 32 := 0#32
  let v278 : BitVec 1 := Scalar.cmpi .ne v2 c0_i32_180
  let v279 : BitVec 32 := Scalar.extui v278
  let c0_i32_181 : BitVec 32 := 0#32
  let v280 : BitVec 1 := Scalar.cmpi .ne v279 c0_i32_181
  v280

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_377 : BitVec 32 := 0#32
  let c0_i32_378 : BitVec 32 := 0#32
  ![v2.toNat, 0, 0]
def k0_dev4 : Nat :=
  let c0_i32_376 : BitVec 32 := 0#32
  let c0_i32_374 : BitVec 32 := 0#32
  let c1_i32_375 : BitVec 32 := 1#32
  let v557 : BitVec 32 := Scalar.muli c0_i32_374 c1_i32_375
  let v558 : BitVec 32 := Scalar.addi c0_i32_376 v557
  v558.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_182 : BitVec 32 := 1#32
  let v281 : BitVec 1 := Scalar.cmpi .ne v2 c1_i32_182
  let v282 : BitVec 32 := Scalar.extui v281
  let c0_i32_183 : BitVec 32 := 0#32
  let v283 : BitVec 1 := Scalar.cmpi .ne v282 c0_i32_183
  v283

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_376 : BitVec 32 := 0#32
  let c0_i32_377 : BitVec 32 := 0#32
  ![v2.toNat, 0, 0]
def k0_dev5 : Nat :=
  let c0_i32_375 : BitVec 32 := 0#32
  let c1_i32_373 : BitVec 32 := 1#32
  let c1_i32_374 : BitVec 32 := 1#32
  let v557 : BitVec 32 := Scalar.muli c1_i32_373 c1_i32_374
  let v558 : BitVec 32 := Scalar.addi c0_i32_375 v557
  v558.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_184 : BitVec 32 := 2#32
  let v284 : BitVec 1 := Scalar.cmpi .ne v2 c2_i32_184
  let v285 : BitVec 32 := Scalar.extui v284
  let c0_i32_185 : BitVec 32 := 0#32
  let v286 : BitVec 1 := Scalar.cmpi .ne v285 c0_i32_185
  v286

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_376 : BitVec 32 := 0#32
  let c0_i32_377 : BitVec 32 := 0#32
  ![v2.toNat, 0, 0]
def k0_dev6 : Nat :=
  let c0_i32_375 : BitVec 32 := 0#32
  let c2_i32_373 : BitVec 32 := 2#32
  let c1_i32_374 : BitVec 32 := 1#32
  let v557 : BitVec 32 := Scalar.muli c2_i32_373 c1_i32_374
  let v558 : BitVec 32 := Scalar.addi c0_i32_375 v557
  v558.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_186 : BitVec 32 := 3#32
  let v287 : BitVec 1 := Scalar.cmpi .ne v2 c3_i32_186
  let v288 : BitVec 32 := Scalar.extui v287
  let c0_i32_187 : BitVec 32 := 0#32
  let v289 : BitVec 1 := Scalar.cmpi .ne v288 c0_i32_187
  v289

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_376 : BitVec 32 := 0#32
  let c0_i32_377 : BitVec 32 := 0#32
  ![v2.toNat, 0, 0]
def k0_dev7 : Nat :=
  let c0_i32_375 : BitVec 32 := 0#32
  let c3_i32_373 : BitVec 32 := 3#32
  let c1_i32_374 : BitVec 32 := 1#32
  let v557 : BitVec 32 := Scalar.muli c3_i32_373 c1_i32_374
  let v558 : BitVec 32 := Scalar.addi c0_i32_375 v557
  v558.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_196 : BitVec 32 := 0#32
  let v302 : BitVec 1 := Scalar.cmpi .eq v2 c0_i32_196
  let v303 : BitVec 32 := Scalar.extui v302
  let c0_i32_197 : BitVec 32 := 0#32
  let v304 : BitVec 1 := Scalar.cmpi .ne v303 c0_i32_197
  v304

def k0_dev8 : Nat :=
  let c0_i32_316 : BitVec 32 := 0#32
  let c1_i32_314 : BitVec 32 := 1#32
  let c1_i32_315 : BitVec 32 := 1#32
  let v447 : BitVec 32 := Scalar.muli c1_i32_314 c1_i32_315
  let v448 : BitVec 32 := Scalar.addi c0_i32_316 v447
  v448.toNat
def k0_dev9 : Nat :=
  let c0_i32_324 : BitVec 32 := 0#32
  let c2_i32_322 : BitVec 32 := 2#32
  let c1_i32_323 : BitVec 32 := 1#32
  let v455 : BitVec 32 := Scalar.muli c2_i32_322 c1_i32_323
  let v456 : BitVec 32 := Scalar.addi c0_i32_324 v455
  v456.toNat
def k0_dev10 : Nat :=
  let c0_i32_332 : BitVec 32 := 0#32
  let c3_i32_330 : BitVec 32 := 3#32
  let c1_i32_331 : BitVec 32 := 1#32
  let v463 : BitVec 32 := Scalar.muli c3_i32_330 c1_i32_331
  let v464 : BitVec 32 := Scalar.addi c0_i32_332 v463
  v464.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_198 : BitVec 32 := 1#32
  let v305 : BitVec 1 := Scalar.cmpi .eq v2 c1_i32_198
  let v306 : BitVec 32 := Scalar.extui v305
  let c0_i32_199 : BitVec 32 := 0#32
  let v307 : BitVec 1 := Scalar.cmpi .ne v306 c0_i32_199
  v307

def k0_dev11 : Nat :=
  let c0_i32_317 : BitVec 32 := 0#32
  let c0_i32_315 : BitVec 32 := 0#32
  let c1_i32_316 : BitVec 32 := 1#32
  let v447 : BitVec 32 := Scalar.muli c0_i32_315 c1_i32_316
  let v448 : BitVec 32 := Scalar.addi c0_i32_317 v447
  v448.toNat
def k0_dev12 : Nat :=
  let c0_i32_325 : BitVec 32 := 0#32
  let c2_i32_323 : BitVec 32 := 2#32
  let c1_i32_324 : BitVec 32 := 1#32
  let v455 : BitVec 32 := Scalar.muli c2_i32_323 c1_i32_324
  let v456 : BitVec 32 := Scalar.addi c0_i32_325 v455
  v456.toNat
def k0_dev13 : Nat :=
  let c0_i32_333 : BitVec 32 := 0#32
  let c3_i32_331 : BitVec 32 := 3#32
  let c1_i32_332 : BitVec 32 := 1#32
  let v463 : BitVec 32 := Scalar.muli c3_i32_331 c1_i32_332
  let v464 : BitVec 32 := Scalar.addi c0_i32_333 v463
  v464.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_200 : BitVec 32 := 2#32
  let v308 : BitVec 1 := Scalar.cmpi .eq v2 c2_i32_200
  let v309 : BitVec 32 := Scalar.extui v308
  let c0_i32_201 : BitVec 32 := 0#32
  let v310 : BitVec 1 := Scalar.cmpi .ne v309 c0_i32_201
  v310

def k0_dev14 : Nat :=
  let c0_i32_317 : BitVec 32 := 0#32
  let c0_i32_315 : BitVec 32 := 0#32
  let c1_i32_316 : BitVec 32 := 1#32
  let v447 : BitVec 32 := Scalar.muli c0_i32_315 c1_i32_316
  let v448 : BitVec 32 := Scalar.addi c0_i32_317 v447
  v448.toNat
def k0_dev15 : Nat :=
  let c0_i32_325 : BitVec 32 := 0#32
  let c1_i32_323 : BitVec 32 := 1#32
  let c1_i32_324 : BitVec 32 := 1#32
  let v455 : BitVec 32 := Scalar.muli c1_i32_323 c1_i32_324
  let v456 : BitVec 32 := Scalar.addi c0_i32_325 v455
  v456.toNat
def k0_dev16 : Nat :=
  let c0_i32_333 : BitVec 32 := 0#32
  let c3_i32_331 : BitVec 32 := 3#32
  let c1_i32_332 : BitVec 32 := 1#32
  let v463 : BitVec 32 := Scalar.muli c3_i32_331 c1_i32_332
  let v464 : BitVec 32 := Scalar.addi c0_i32_333 v463
  v464.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_202 : BitVec 32 := 3#32
  let v311 : BitVec 1 := Scalar.cmpi .eq v2 c3_i32_202
  let v312 : BitVec 32 := Scalar.extui v311
  let c0_i32_203 : BitVec 32 := 0#32
  let v313 : BitVec 1 := Scalar.cmpi .ne v312 c0_i32_203
  v313

def k0_dev17 : Nat :=
  let c0_i32_317 : BitVec 32 := 0#32
  let c0_i32_315 : BitVec 32 := 0#32
  let c1_i32_316 : BitVec 32 := 1#32
  let v447 : BitVec 32 := Scalar.muli c0_i32_315 c1_i32_316
  let v448 : BitVec 32 := Scalar.addi c0_i32_317 v447
  v448.toNat
def k0_dev18 : Nat :=
  let c0_i32_325 : BitVec 32 := 0#32
  let c1_i32_323 : BitVec 32 := 1#32
  let c1_i32_324 : BitVec 32 := 1#32
  let v455 : BitVec 32 := Scalar.muli c1_i32_323 c1_i32_324
  let v456 : BitVec 32 := Scalar.addi c0_i32_325 v455
  v456.toNat
def k0_dev19 : Nat :=
  let c0_i32_333 : BitVec 32 := 0#32
  let c2_i32_331 : BitVec 32 := 2#32
  let c1_i32_332 : BitVec 32 := 1#32
  let v463 : BitVec 32 := Scalar.muli c2_i32_331 c1_i32_332
  let v464 : BitVec 32 := Scalar.addi c0_i32_333 v463
  v464.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_204 : BitVec 32 := 0#32
  let v314 : BitVec 1 := Scalar.cmpi .ne v2 c0_i32_204
  let v315 : BitVec 32 := Scalar.extui v314
  let c0_i32_205 : BitVec 32 := 0#32
  let v316 : BitVec 1 := Scalar.cmpi .ne v315 c0_i32_205
  v316

def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_266 : BitVec 32 := 0#32
  let c0_i32_267 : BitVec 32 := 0#32
  ![v2.toNat, 0, 0]
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_206 : BitVec 32 := 1#32
  let v317 : BitVec 1 := Scalar.cmpi .ne v2 c1_i32_206
  let v318 : BitVec 32 := Scalar.extui v317
  let c0_i32_207 : BitVec 32 := 0#32
  let v319 : BitVec 1 := Scalar.cmpi .ne v318 c0_i32_207
  v319

def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_266 : BitVec 32 := 0#32
  let c0_i32_267 : BitVec 32 := 0#32
  ![v2.toNat, 0, 0]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_208 : BitVec 32 := 2#32
  let v320 : BitVec 1 := Scalar.cmpi .ne v2 c2_i32_208
  let v321 : BitVec 32 := Scalar.extui v320
  let c0_i32_209 : BitVec 32 := 0#32
  let v322 : BitVec 1 := Scalar.cmpi .ne v321 c0_i32_209
  v322

def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_266 : BitVec 32 := 0#32
  let c0_i32_267 : BitVec 32 := 0#32
  ![v2.toNat, 0, 0]
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_210 : BitVec 32 := 3#32
  let v323 : BitVec 1 := Scalar.cmpi .ne v2 c3_i32_210
  let v324 : BitVec 32 := Scalar.extui v323
  let c0_i32_211 : BitVec 32 := 0#32
  let v325 : BitVec 1 := Scalar.cmpi .ne v324 c0_i32_211
  v325

def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_266 : BitVec 32 := 0#32
  let c0_i32_267 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_252 : BitVec 32 := 0#32
  let v386 : BitVec 1 := Scalar.cmpi .ne v2 c0_i32_252
  let v387 : BitVec 32 := Scalar.extui v386
  let c0_i32_253 : BitVec 32 := 0#32
  let v388 : BitVec 1 := Scalar.cmpi .ne v387 c0_i32_253
  v388

def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_263 : BitVec 32 := 0#32
  let c0_i32_264 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_254 : BitVec 32 := 1#32
  let v389 : BitVec 1 := Scalar.cmpi .ne v2 c1_i32_254
  let v390 : BitVec 32 := Scalar.extui v389
  let c0_i32_255 : BitVec 32 := 0#32
  let v391 : BitVec 1 := Scalar.cmpi .ne v390 c0_i32_255
  v391

def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_263 : BitVec 32 := 0#32
  let c0_i32_264 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_256 : BitVec 32 := 2#32
  let v392 : BitVec 1 := Scalar.cmpi .ne v2 c2_i32_256
  let v393 : BitVec 32 := Scalar.extui v392
  let c0_i32_257 : BitVec 32 := 0#32
  let v394 : BitVec 1 := Scalar.cmpi .ne v393 c0_i32_257
  v394

def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_263 : BitVec 32 := 0#32
  let c0_i32_264 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_258 : BitVec 32 := 3#32
  let v395 : BitVec 1 := Scalar.cmpi .ne v2 c3_i32_258
  let v396 : BitVec 32 := Scalar.extui v395
  let c0_i32_259 : BitVec 32 := 0#32
  let v397 : BitVec 1 := Scalar.cmpi .ne v396 c0_i32_259
  v397

def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_263 : BitVec 32 := 0#32
  let c0_i32_264 : BitVec 32 := 0#32
  ![v2.toNat, 0, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 142
  | .vmem => 0
  | .smem => 0
  | _ => 0

abbrev hbmTy0_0 (i : Nat) : BufTy := match i % 128 with
  | 0 => ⟨S1x1024x1024, .bf16⟩
  | 1 => ⟨S1024x4096, .bf16⟩
  | 2 => ⟨S1x1024x32x128, .bf16⟩
  | 3 => ⟨S1x1024x32x128, .bf16⟩
  | 4 => ⟨S4096x1024, .bf16⟩
  | 5 => ⟨S1x1024x1024, .f32⟩
  | 6 => ⟨S1024x4096, .f32⟩
  | 7 => ⟨S1x1024x32x128, .f32⟩
  | 8 => ⟨S1x1024x32x128, .f32⟩
  | 9 => ⟨S4096x1024, .f32⟩
  | 10 => ⟨S1x1024x4096, .f32⟩
  | 11 => ⟨S1x1024x32x128, .f32⟩
  | 12 => ⟨S1024, .i32⟩
  | 13 => ⟨S_, .i32⟩
  | 14 => ⟨S_, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i1⟩
  | 21 => ⟨S1024, .i32⟩
  | 22 => ⟨S1024, .i32⟩
  | 23 => ⟨S_, .i32⟩
  | 24 => ⟨S1024, .i32⟩
  | 25 => ⟨S1024, .i1⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1024, .i32⟩
  | 33 => ⟨S_, .i32⟩
  | 34 => ⟨S_, .i32⟩
  | 35 => ⟨S1024, .i32⟩
  | 36 => ⟨S1024, .i32⟩
  | 37 => ⟨S1024, .i32⟩
  | 38 => ⟨S_, .i32⟩
  | 39 => ⟨S1024, .i32⟩
  | 40 => ⟨S1024, .i1⟩
  | 41 => ⟨S1024, .i32⟩
  | 42 => ⟨S1024, .i32⟩
  | 43 => ⟨S_, .i32⟩
  | 44 => ⟨S1024, .i32⟩
  | 45 => ⟨S1024, .i1⟩
  | 46 => ⟨S1024, .i1⟩
  | 47 => ⟨S_, .i32⟩
  | 48 => ⟨S1024, .i32⟩
  | 49 => ⟨S1024, .i32⟩
  | 50 => ⟨S1024, .i32⟩
  | 51 => ⟨S1x1024, .i32⟩
  | 52 => ⟨S1024x1024, .i32⟩
  | 53 => ⟨S1024x1024, .i32⟩
  | 54 => ⟨S1024x1024, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x1024, .i32⟩
  | 62 => ⟨S1x1024, .i32⟩
  | 63 => ⟨S_, .i32⟩
  | 64 => ⟨S1x1024, .i32⟩
  | 65 => ⟨S1x1024, .i1⟩
  | 66 => ⟨S_, .i32⟩
  | 67 => ⟨S1x1024, .i32⟩
  | 68 => ⟨S1x1024, .i1⟩
  | 69 => ⟨S_, .i32⟩
  | 70 => ⟨S_, .i1⟩
  | 71 => ⟨S1x1024, .i1⟩
  | 72 => ⟨S1x1024, .i1⟩
  | 73 => ⟨S1x1024, .i1⟩
  | 74 => ⟨S1x1024, .i32⟩
  | 75 => ⟨S1x1024, .i32⟩
  | 76 => ⟨S1x1024, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S1024x1, .i32⟩
  | 84 => ⟨S1024x1, .i32⟩
  | 85 => ⟨S_, .i32⟩
  | 86 => ⟨S1024x1, .i32⟩
  | 87 => ⟨S1024x1, .i1⟩
  | 88 => ⟨S_, .i32⟩
  | 89 => ⟨S1024x1, .i32⟩
  | 90 => ⟨S1024x1, .i1⟩
  | 91 => ⟨S_, .i32⟩
  | 92 => ⟨S_, .i1⟩
  | 93 => ⟨S1024x1, .i1⟩
  | 94 => ⟨S1024x1, .i1⟩
  | 95 => ⟨S1024x1, .i1⟩
  | 96 => ⟨S1024x1, .i32⟩
  | 97 => ⟨S1024x1, .i32⟩
  | 98 => ⟨S1024x1, .i32⟩
  | 99 => ⟨S1024x1024, .i32⟩
  | 100 => ⟨S1024x1024, .i32⟩
  | 101 => ⟨S1024x1024, .i1⟩
  | 102 => ⟨S1024x1024, .i1⟩
  | 103 => ⟨S1x32x1024x1024, .f32⟩
  | 104 => ⟨S_, .f32⟩
  | 105 => ⟨S1x32x1024x1024, .f32⟩
  | 106 => ⟨S1x32x1024x1024, .f32⟩
  | 107 => ⟨S1x1x1024x1024, .i1⟩
  | 108 => ⟨S_, .f32⟩
  | 109 => ⟨S_, .f32⟩
  | 110 => ⟨S1x32x1024x1024, .i1⟩
  | 111 => ⟨S1x32x1024x1024, .f32⟩
  | 112 => ⟨S1x32x1024x1024, .f32⟩
  | 113 => ⟨S_, .f32⟩
  | 114 => ⟨S1x32x1024, .f32⟩
  | 115 => ⟨S1x32x1024x1, .f32⟩
  | 116 => ⟨S1x32x1024x1024, .f32⟩
  | 117 => ⟨S1x32x1024x1024, .f32⟩
  | 118 => ⟨S1x32x1024x1024, .f32⟩
  | 119 => ⟨S_, .i1⟩
  | 120 => ⟨S1024, .i1⟩
  | 121 => ⟨S1x1x1024x1, .i1⟩
  | 122 => ⟨S_, .f32⟩
  | 123 => ⟨S1x32x1024, .f32⟩
  | 124 => ⟨S1x32x1024x1, .f32⟩
  | 125 => ⟨S_, .f32⟩
  | 126 => ⟨S_, .f32⟩
  | 127 => ⟨S1x32x1024x1, .i1⟩
  | _ => ⟨S1x1024x1024, .bf16⟩

abbrev hbmTy0_1 (i : Nat) : BufTy := match i % 128 with
  | 0 => ⟨S1x32x1024x1, .f32⟩
  | 1 => ⟨S1x32x1024x1, .f32⟩
  | 2 => ⟨S1x32x1024x1024, .f32⟩
  | 3 => ⟨S1x32x1024x1024, .f32⟩
  | 4 => ⟨S1x1x1024x1, .i1⟩
  | 5 => ⟨S_, .f32⟩
  | 6 => ⟨S_, .f32⟩
  | 7 => ⟨S1x32x1024x1024, .i1⟩
  | 8 => ⟨S1x32x1024x1024, .f32⟩
  | 9 => ⟨S1x32x1024x1024, .f32⟩
  | 10 => ⟨S1x32x128x1024, .f32⟩
  | 11 => ⟨S1x1024x32x128, .f32⟩
  | 12 => ⟨S1x1024x4096, .f32⟩
  | 13 => ⟨S1x1024x1024, .f32⟩
  | _ => ⟨S1x1024x1024, .bf16⟩

abbrev hbmTy (i : Nat) : BufTy := match i / 128 with
  | 0 => hbmTy0_0 i
  | 1 => hbmTy0_1 i
  | _ => ⟨S1x1024x1024, .bf16⟩

abbrev bufTy : (tb : Table) → Fin (tcTables nBuf tb) → BufTy
  | .hbm, ⟨i, _⟩ => hbmTy i
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Segments.lean ====
/-
  The kernel's body as a short program: the printed sequence, whose 57 parts differ only in constant
  offsets, is the same sequence of operations as `bodyOps` below, which names its stages:
  the barrier, the permuted copy of the queries, keys and values (sixteen blocks), the partial product
  of each class of rows for the device that reduces it, the own class, the reduction, the broadcast
  of the reduced class, and the waits.
-/
module

public import proofs.«01_k».proof.Proof.Gen.KernelIdeal.Skeleton

@[expose] public section

set_option maxRecDepth 16384

noncomputable section

namespace Cert.KernelIdeal.Gen

open Idealize.ShloMosaic Idealize.SL.Sem

variable {F : FTy → Type} [FloatOps F]

/-! ## Windows -/

theorem inbQ {s h : ℕ} (hs : s < 4) (hh : h < 8) :
    ∀ a, (![256 * s, 128 * h] : Fin 2 → ℕ) a + S256x128.size a ≤ S1024x1024.size a := by
  intro a
  fin_cases a
  · show 256 * s + 256 ≤ 1024
    omega
  · show 128 * h + 128 ≤ 1024
    omega

theorem inbC {h : ℕ} (hh : h < 8) :
    ∀ a, (![0, 128 * h] : Fin 2 → ℕ) a + S256x128.size a ≤ S256x1024.size a := by
  intro a
  fin_cases a
  · show 0 + 256 ≤ 256
    omega
  · show 128 * h + 128 ≤ 1024
    omega

theorem packedC {h : ℕ} (hh : h < 8) :
    (Rect.unit (s := S256x1024) ![0, 128 * h] S256x128.size (inbC hh)).PackedRows (EltTy.packing .bf16) := by
  have key : ∀ k : Fin 8, (Rect.unit (s := S256x1024) ![0, 128 * k.val] S256x128.size
      (inbC k.isLt)).PackedRows (EltTy.packing .bf16) := by decide
  exact key ⟨h, hh⟩

/-- A class's rows and a head's columns of the permuted queries, keys and values. -/
abbrev rectQ {s h : ℕ} (hs : s < 4) (hh : h < 8) : Rect S1024x1024 :=
  Rect.unit (s := S1024x1024) ![256 * s, 128 * h] S256x128.size (inbQ hs hh)

/-- A head's columns of the gathered heads. -/
abbrev rectC {h : ℕ} (hh : h < 8) : Rect S256x1024 :=
  Rect.unit (s := S256x1024) ![0, 128 * h] S256x128.size (inbC hh)

theorem inbB {b : ℕ} (hb : b < 16) :
    ∀ a, (![64 * b, 0] : Fin 2 → ℕ) a + S64x1024.size a ≤ S1024x1024.size a := by
  intro a
  fin_cases a
  · show 64 * b + 64 ≤ 1024
    omega
  · show 0 + 1024 ≤ 1024
    omega

theorem inbP {b : ℕ} (hb : b < 16) :
    ∀ a, (![256 * (b % 4) + 64 * (b / 4), 0] : Fin 2 → ℕ) a + S64x1024.size a ≤ S1024x1024.size a := by
  intro a
  fin_cases a
  · show 256 * (b % 4) + 64 * (b / 4) + 64 ≤ 1024
    omega
  · show 0 + 1024 ≤ 1024
    omega

theorem packedP {b : ℕ} (hb : b < 16) :
    (Rect.unit (s := S1024x1024) ![256 * (b % 4) + 64 * (b / 4), 0] S64x1024.size (inbP hb)).PackedRows
      (EltTy.packing .bf16) := by
  have key : ∀ k : Fin 16, (Rect.unit (s := S1024x1024) ![256 * (k.val % 4) + 64 * (k.val / 4), 0] S64x1024.size
      (inbP k.isLt)).PackedRows (EltTy.packing .bf16) := by decide
  exact key ⟨b, hb⟩

theorem slicesB {b : ℕ} (hb : b < 16) : S1024x1024.Slices ![64 * b, 0] S64x1024 := by
  have key : ∀ k : Fin 16, S1024x1024.Slices ![64 * k.val, 0] S64x1024 := by decide
  exact key ⟨b, hb⟩

/-- Block b of 64 rows, in order. -/
abbrev rectB {b : ℕ} (hb : b < 16) : Rect S1024x1024 :=
  Rect.unit (s := S1024x1024) ![64 * b, 0] S64x1024.size (inbB hb)

/-- The place of block b when the rows are sorted by class: class b % 4, place b / 4 in it. -/
abbrev rectP {b : ℕ} (hb : b < 16) : Rect S1024x1024 :=
  Rect.unit (s := S1024x1024) ![256 * (b % 4) + 64 * (b / 4), 0] S64x1024.size (inbP hb)

theorem inbS {s : ℕ} (hs : s < 4) :
    ∀ a, (![s, 0, 0] : Fin 3 → ℕ) a + S1x256x1024.size a ≤ S4x256x1024.size a := by
  intro a
  fin_cases a
  · show s + 1 ≤ 4
    omega
  · show 0 + 256 ≤ 256
    omega
  · show 0 + 1024 ≤ 1024
    omega

theorem packedS {s : ℕ} (hs : s < 4) :
    (Rect.unit (s := S4x256x1024) ![s, 0, 0] S1x256x1024.size (inbS hs)).PackedRows (EltTy.packing .bf16) := by
  have key : ∀ k : Fin 4, (Rect.unit (s := S4x256x1024) ![k.val, 0, 0] S1x256x1024.size
      (inbS k.isLt)).PackedRows (EltTy.packing .bf16) := by decide
  exact key ⟨s, hs⟩

theorem wordsS {s : ℕ} (hs : s < 4) :
    (Rect.unit (s := S4x256x1024) ![s, 0, 0] S1x256x1024.size (inbS hs)).WholeWords (EltTy.packing .bf16) := by
  have key : ∀ k : Fin 4, (Rect.unit (s := S4x256x1024) ![k.val, 0, 0] S1x256x1024.size
      (inbS k.isLt)).WholeWords (EltTy.packing .bf16) := by decide
  exact key ⟨s, hs⟩

/-- Slot s of four. -/
abbrev rectS {s : ℕ} (hs : s < 4) : Rect S4x256x1024 :=
  Rect.unit (s := S4x256x1024) ![s, 0, 0] S1x256x1024.size (inbS hs)

theorem inbT {s r : ℕ} (hs : s < 4) (hr : r < 4) :
    ∀ a, (![s, 64 * r, 0] : Fin 3 → ℕ) a + S1x64x1024.size a ≤ S4x256x1024.size a := by
  intro a
  fin_cases a
  · show s + 1 ≤ 4
    omega
  · show 64 * r + 64 ≤ 256
    omega
  · show 0 + 1024 ≤ 1024
    omega

/-- Rows 64 r to 64 r + 63 of slot s. -/
abbrev rectT {s r : ℕ} (hs : s < 4) (hr : r < 4) : Rect S4x256x1024 :=
  Rect.unit (s := S4x256x1024) ![s, 64 * r, 0] S1x64x1024.size (inbT hs hr)

theorem inbO {q r : ℕ} (hq : q < 4) (hr : r < 4) :
    ∀ a, (![256 * r + 64 * q, 0] : Fin 2 → ℕ) a + S64x1024.size a ≤ S1024x1024.size a := by
  intro a
  fin_cases a
  · show 256 * r + 64 * q + 64 ≤ 1024
    omega
  · show 0 + 1024 ≤ 1024
    omega

/-- Where rows 64 r to 64 r + 63 of class q lie in the result. -/
abbrev rectO {q r : ℕ} (hq : q < 4) (hr : r < 4) : Rect S1024x1024 :=
  Rect.unit (s := S1024x1024) ![256 * r + 64 * q, 0] S64x1024.size (inbO hq hr)

theorem slicesR {r : ℕ} (hr : r < 4) : S256x1024.Slices ![64 * r, 0] S64x1024 := by
  have key : ∀ k : Fin 4, S256x1024.Slices ![64 * k.val, 0] S64x1024 := by decide
  exact key ⟨r, hr⟩

theorem inbOne {s : ℕ} (hs : s < 4) : ∀ a, (![s] : Fin 1 → ℕ) a + S1.size a ≤ S4.size a := by
  intro a
  fin_cases a
  show s + 1 ≤ 4
  omega

abbrev rectWide : Rect S1024x1024 :=
  Rect.unit (s := S1024x1024) ![0, 0] S1024x1024.size inb_S1024x1024_S1024x1024_0_0
abbrev rectClass : Rect S256x1024 :=
  Rect.unit (s := S256x1024) ![0, 0] S256x1024.size inb_S256x1024_S256x1024_0_0

/-! ## The device's own place, as the kernel computes it -/

/-- The device's place as a word. -/
abbrev placeW (d0 : Dev nD) : BitVec 32 := Scalar.remsi (Scalar.divsi (Dev.word d0) 1#32) 4#32
/-- Whether the device's place is s, as the kernel's branches ask it. -/
abbrev isW (d0 : Dev nD) (s : ℕ) : BitVec 1 :=
  Scalar.cmpi .ne (Scalar.extui (Scalar.cmpi .eq (placeW d0) (BitVec.ofNat 32 s)) : BitVec 32) 0#32
/-- Whether it is not. -/
abbrev isntW (d0 : Dev nD) (s : ℕ) : BitVec 1 :=
  Scalar.cmpi .ne (Scalar.extui (Scalar.cmpi .ne (placeW d0) (BitVec.ofNat 32 s)) : BitVec 32) 0#32

theorem place_inb : ∀ d0 : Dev nD, ∀ a, (k0_off2 d0) a + S1x256x1024.size a ≤ S4x256x1024.size a := by decide +kernel
theorem place_inb1 : ∀ d0 : Dev nD, ∀ a, (k0_off1 d0) a + S1.size a ≤ S4.size a := by decide +kernel
theorem place_words : ∀ d0 : Dev nD,
    (Rect.unit (s := S4x256x1024) (k0_off2 d0) S1x256x1024.size (place_inb d0)).WholeWords (EltTy.packing .bf16) := by
  decide +kernel

/-! ## The stages -/

abbrev VM (s : Shape) (e : EltTy) := Memref sig .tc .vmem s e
abbrev KProg (F : FTy → Type) (α : Type) := Prog (TpuEff nD τ sig (Elt F) Λ₀ .tc) α

/-- Slot s of a buffer of four slots. -/
abbrev slot (arg : VM S4x256x1024 .bf16) {s : ℕ} (hs : s < 4) : VM S256x1024 .bf16 :=
  (arg.slice (rectS hs) (fun _ => rfl)).squeeze S256x1024 squeezes_S1x256x1024_S256x1024
/-- The slot that carries the device's own place. -/
abbrev slotAt (arg : VM S4x256x1024 .bf16) (d0 : Dev nD) : VM S256x1024 .bf16 :=
  (arg.slice (Rect.unit (s := S4x256x1024) (k0_off2 d0) S1x256x1024.size (place_inb d0)) (fun _ => rfl)).squeeze S256x1024
    squeezes_S1x256x1024_S256x1024
/-- Semaphore s of four. -/
abbrev semOf (a : DmaSems sig S4) {s : ℕ} (hs : s < 4) : DmaSem sig :=
  ((a.slice (Rect.unit (s := S4) ![s] S1.size (inbOne hs))).squeeze S_ squeezes_S1_S_).sem
/-- The semaphore of the device's own place. -/
abbrev semAt (a : DmaSems sig S4) (d0 : Dev nD) : DmaSem sig :=
  ((a.slice (Rect.unit (s := S4) (k0_off1 d0) S1.size (place_inb1 d0))).squeeze S_ squeezes_S1_S_).sem

/-- One head of class s: the scores, their exponentials, the product with the values, scaled. -/
def headOps (arg6 arg7 arg8 : VM S1024x1024 .bf16) (arg10 : VM S256x1024 .bf16)
    (harg10 : arg10.IsWhole) {s h : ℕ} (hs : s < 4) (hh : h < 8) : KProg F PUnit := do
  let q : Vec F S256x128 .bf16 ← Prog.lift (.load arg6 (rectQ hs hh).toLoadRect (View.loadsAt_vmem h_S256x128))
  let k : Vec F S256x128 .bf16 ← Prog.lift (.load arg7 (rectQ hs hh).toLoadRect (View.loadsAt_vmem h_S256x128))
  let v : Vec F S256x128 .bf16 ← Prog.lift (.load arg8 (rectQ hs hh).toLoadRect (View.loadsAt_vmem h_S256x128))
  let _c : Vec F S256x128 .bf16 ← Prog.lift (.load arg10 (rectC hh).toLoadRect (View.loadsAt_vmem h_S256x128))
  Prog.lift (.store arg10 (rectC hh) (k0_pay1 q k v) Finset.univ (View.stores_vmem h_S256x128 (harg10.storeExact_slice rfl _ (packedC hh)) (fun _ => rfl)) (.inl rfl))

/-- The eight heads of class s. -/
def classOps (arg6 arg7 arg8 : VM S1024x1024 .bf16) (arg10 : VM S256x1024 .bf16)
    (harg10 : arg10.IsWhole) {s : ℕ} (hs : s < 4) : KProg F PUnit := do
  headOps arg6 arg7 arg8 arg10 harg10 hs (show 0 < 8 by decide)
  headOps arg6 arg7 arg8 arg10 harg10 hs (show 1 < 8 by decide)
  headOps arg6 arg7 arg8 arg10 harg10 hs (show 2 < 8 by decide)
  headOps arg6 arg7 arg8 arg10 harg10 hs (show 3 < 8 by decide)
  headOps arg6 arg7 arg8 arg10 harg10 hs (show 4 < 8 by decide)
  headOps arg6 arg7 arg8 arg10 harg10 hs (show 5 < 8 by decide)
  headOps arg6 arg7 arg8 arg10 harg10 hs (show 6 < 8 by decide)
  headOps arg6 arg7 arg8 arg10 harg10 hs (show 7 < 8 by decide)

/-- Block b of the queries to its place. -/
def copyQ (arg6 : VM S1024x1024 .bf16) (harg6 : arg6.IsWhole) (q : FVec F S1024x1024 .bf16) {b : ℕ} (hb : b < 16) : KProg F PUnit := do
  let _a : Vec F S64x1024 .bf16 ← Prog.lift (.load arg6 (rectP hb).toLoadRect (View.loadsAt_vmem h_S64x1024))
  Prog.lift (.store arg6 (rectP hb) (shapeCast S64x1024 (extractStridedSlice S64x1024 ![64 * b, 0] q (slicesB hb)) shapeCasts_S64x1024_S64x1024 : FVec F S64x1024 .bf16) Finset.univ (View.stores_vmem h_S64x1024 (harg6.storeExact_slice rfl _ (packedP hb)) (fun _ => rfl)) (.inl rfl))

/-- Block b of the keys, or of the values, to its place. -/
def copyK (arg2 arg7 : VM S1024x1024 .bf16) (harg7 : arg7.IsWhole) {b : ℕ} (hb : b < 16) : KProg F PUnit := do
  let k : Vec F S64x1024 .bf16 ← Prog.lift (.load arg2 (rectB hb).toLoadRect (View.loadsAt_vmem h_S64x1024))
  let _b : Vec F S64x1024 .bf16 ← Prog.lift (.load arg7 (rectP hb).toLoadRect (View.loadsAt_vmem h_S64x1024))
  Prog.lift (.store arg7 (rectP hb) (k0_pay147 k) Finset.univ (View.stores_vmem h_S64x1024 (harg7.storeExact_slice rfl _ (packedP hb)) (fun _ => rfl)) (.inl rfl))

/-- Block b of the queries, keys and values to its place. -/
def copyOps (arg2 arg3 arg6 arg7 arg8 : VM S1024x1024 .bf16) (harg6 : arg6.IsWhole) (harg7 : arg7.IsWhole)
    (harg8 : arg8.IsWhole) (q : FVec F S1024x1024 .bf16) {b : ℕ} (hb : b < 16) : KProg F PUnit := do
  copyQ arg6 harg6 q hb
  copyK arg2 arg7 harg7 hb
  copyK arg3 arg8 harg8 hb

/-- The barrier: a unit to each other device, three units awaited. -/
def barrierOps (d0 : Dev nD) : KProg F PUnit := do
  semSignalWord (⟨k0_dev1 d0, k0_dev1_lt d0⟩ : Dev nD) (SemArray.scalar (d := default) (sig.barrier 0 rfl)).sem 1#32
  semSignalWord (⟨k0_dev2 d0, k0_dev2_lt d0⟩ : Dev nD) (SemArray.scalar (d := default) (sig.barrier 0 rfl)).sem 1#32
  semSignalWord (⟨k0_dev3 d0, k0_dev3_lt d0⟩ : Dev nD) (SemArray.scalar (d := default) (sig.barrier 0 rfl)).sem 1#32
  semWaitWord (SemArray.scalar (d := default) (sig.barrier 0 rfl)).sem 3#32

/-- The queries, the sixteen blocks, and the output weights. -/
def stageOps (arg0 arg1 arg2 arg3 arg4 arg6 arg7 arg8 arg9 : VM S1024x1024 .bf16) (harg6 : arg6.IsWhole)
    (harg7 : arg7.IsWhole) (harg8 : arg8.IsWhole) (harg9 : arg9.IsWhole) : KProg F PUnit := do
  let x : Vec F S1024x1024 .bf16 ← Prog.lift (.load arg0 rectWide.toLoadRect (View.loadsAt_vmem h_S1024x1024))
  let w : Vec F S1024x1024 .bf16 ← Prog.lift (.load arg1 rectWide.toLoadRect (View.loadsAt_vmem h_S1024x1024))
  copyOps arg2 arg3 arg6 arg7 arg8 harg6 harg7 harg8 (k0_pay145 x w) (show 0 < 16 by decide)
  copyOps arg2 arg3 arg6 arg7 arg8 harg6 harg7 harg8 (k0_pay145 x w) (show 1 < 16 by decide)
  copyOps arg2 arg3 arg6 arg7 arg8 harg6 harg7 harg8 (k0_pay145 x w) (show 2 < 16 by decide)
  copyOps arg2 arg3 arg6 arg7 arg8 harg6 harg7 harg8 (k0_pay145 x w) (show 3 < 16 by decide)
  copyOps arg2 arg3 arg6 arg7 arg8 harg6 harg7 harg8 (k0_pay145 x w) (show 4 < 16 by decide)
  copyOps arg2 arg3 arg6 arg7 arg8 harg6 harg7 harg8 (k0_pay145 x w) (show 5 < 16 by decide)
  copyOps arg2 arg3 arg6 arg7 arg8 harg6 harg7 harg8 (k0_pay145 x w) (show 6 < 16 by decide)
  copyOps arg2 arg3 arg6 arg7 arg8 harg6 harg7 harg8 (k0_pay145 x w) (show 7 < 16 by decide)
  copyOps arg2 arg3 arg6 arg7 arg8 harg6 harg7 harg8 (k0_pay145 x w) (show 8 < 16 by decide)
  copyOps arg2 arg3 arg6 arg7 arg8 harg6 harg7 harg8 (k0_pay145 x w) (show 9 < 16 by decide)
  copyOps arg2 arg3 arg6 arg7 arg8 harg6 harg7 harg8 (k0_pay145 x w) (show 10 < 16 by decide)
  copyOps arg2 arg3 arg6 arg7 arg8 harg6 harg7 harg8 (k0_pay145 x w) (show 11 < 16 by decide)
  copyOps arg2 arg3 arg6 arg7 arg8 harg6 harg7 harg8 (k0_pay145 x w) (show 12 < 16 by decide)
  copyOps arg2 arg3 arg6 arg7 arg8 harg6 harg7 harg8 (k0_pay145 x w) (show 13 < 16 by decide)
  copyOps arg2 arg3 arg6 arg7 arg8 harg6 harg7 harg8 (k0_pay145 x w) (show 14 < 16 by decide)
  copyOps arg2 arg3 arg6 arg7 arg8 harg6 harg7 harg8 (k0_pay145 x w) (show 15 < 16 by decide)
  let o : Vec F S1024x1024 .bf16 ← Prog.lift (.load arg4 rectWide.toLoadRect (View.loadsAt_vmem h_S1024x1024))
  let _o : Vec F S1024x1024 .bf16 ← Prog.lift (.load arg9 rectWide.toLoadRect (View.loadsAt_vmem h_S1024x1024))
  Prog.lift (.store arg9 rectWide (k0_pay197 o) Finset.univ (View.stores_vmem h_S1024x1024 (harg9.storeExact_slice rfl _ packedbf16_S1024x1024_S1024x1024_0_0) (fun _ => rfl)) (.inl rfl))

/-- The partial product of class s stored in its slot and sent to device s. -/
def sendOps (d0 : Dev nD) (arg6 arg7 arg8 arg9 : VM S1024x1024 .bf16) (arg10 : VM S256x1024 .bf16) (harg10 : arg10.IsWhole)
    (arg12 : VM S4x256x1024 .bf16) (harg12 : arg12.IsWhole) (arg13 : VM S4x256x1024 .bf16) (harg13 : arg13.IsWhole)
    (arg16 arg17 : DmaSems sig S4) (tgt : Dev nD) {s : ℕ} (hs : s < 4) : KProg F PUnit := do
  classOps arg6 arg7 arg8 arg10 harg10 hs
  let c : Vec F S256x1024 .bf16 ← Prog.lift (.load arg10 rectClass.toLoadRect (View.loadsAt_vmem h_S256x1024))
  let w : Vec F S1024x1024 .bf16 ← Prog.lift (.load arg9 rectWide.toLoadRect (View.loadsAt_vmem h_S1024x1024))
  let _a : Vec F S1x256x1024 .bf16 ← Prog.lift (.load arg12 (rectS hs).toLoadRect (View.loadsAt_vmem h_S1x256x1024))
  Prog.lift (.store arg12 (rectS hs) (k0_pay16 c w) Finset.univ (View.stores_vmem h_S1x256x1024 (harg12.storeExact_slice rfl _ (packedS hs)) (fun _ => rfl)) (.inl rfl))
  Prog.lift (.enqueueDma (slot arg12 hs) (.remote (Dev.tc tgt) (slotAt arg13 d0) (.dma (semOf arg16 hs))) (.dma (semAt arg17 d0)) ((harg12.wordExact_slice rfl _ (wordsS hs)).reshape _ _) ((harg13.wordExact_slice rfl _ (place_words d0)).reshape _ _) ⟨⟨rfl, Or.inl rfl⟩, trivial⟩)

/-- The product of the device's own class, kept. -/
def ownOps (arg6 arg7 arg8 arg9 : VM S1024x1024 .bf16) (arg10 : VM S256x1024 .bf16) (harg10 : arg10.IsWhole)
    (arg11 : VM S256x1024 .f32) {s : ℕ} (hs : s < 4) : KProg F PUnit := do
  classOps arg6 arg7 arg8 arg10 harg10 hs
  let c : Vec F S256x1024 .bf16 ← Prog.lift (.load arg10 rectClass.toLoadRect (View.loadsAt_vmem h_S256x1024))
  let w : Vec F S1024x1024 .bf16 ← Prog.lift (.load arg9 rectWide.toLoadRect (View.loadsAt_vmem h_S1024x1024))
  let _a : Vec F S256x1024 .f32 ← Prog.lift (.load arg11 rectClass.toLoadRect (View.loadsAt_vmem h_S256x1024))
  Prog.lift (.store arg11 rectClass (k0_pay199 c w) Finset.univ (View.stores_vmem_bits_univ h_S256x1024 rfl) (.inl rfl))

/-- Wait for slot s of what the others send. -/
def recvOps (arg12 : VM S4x256x1024 .bf16) (harg12 : arg12.IsWhole) (arg13 : VM S4x256x1024 .bf16) (harg13 : arg13.IsWhole)
    (arg17 : DmaSems sig S4) {s : ℕ} (hs : s < 4) : KProg F PUnit :=
  Prog.lift (.waitDma2 (semOf arg17 hs) (slot arg12 hs) (slot arg13 hs) ((harg12.wordExact_slice rfl _ (wordsS hs)).reshape _ _) ((harg13.wordExact_slice rfl _ (wordsS hs)).reshape _ _))

/-- The reduced class: the own product and the three received ones. -/
abbrev sumPay (a : Vec F S256x1024 .f32) (b1 b2 b3 : Vec F S1x256x1024 .bf16) : FVec F S256x1024 .f32 := k0_pay121 a b1 b2 b3

/-- Rows 64 r to 64 r + 63 of the reduced class stored in the result. -/
def putOps (arg5 : VM S1024x1024 .f32) (t : FVec F S256x1024 .f32) {q r : ℕ} (hq : q < 4) (hr : r < 4) : KProg F PUnit := do
  let _a : Vec F S64x1024 .f32 ← Prog.lift (.load arg5 (rectO hq hr).toLoadRect (View.loadsAt_vmem h_S64x1024))
  Prog.lift (.store arg5 (rectO hq hr) (extractStridedSlice S64x1024 ![64 * r, 0] t (slicesR hr)) Finset.univ (View.stores_vmem_bits_univ h_S64x1024 rfl) (.inl rfl))

/-- The reduced class q sent to device o. -/
def castOps (arg14 : VM S256x1024 .bf16) (harg14 : arg14.IsWhole) (arg15 : VM S4x256x1024 .bf16) (harg15 : arg15.IsWhole)
    (arg18 arg19 : DmaSems sig S4) (tgt : Dev nD) {q o : ℕ} (hq : q < 4) (ho : o < 4) : KProg F PUnit :=
  Prog.lift (.enqueueDma arg14 (.remote (Dev.tc tgt) (slot arg15 hq) (.dma (semOf arg18 ho))) (.dma (semOf arg19 hq)) harg14.wordExact ((harg15.wordExact_slice rfl _ (wordsS hq)).reshape _ _) ⟨⟨rfl, Or.inl rfl⟩, trivial⟩)

/-- Device q reduces its class, stores it in the result and sends it to the others. -/
def reduceOps (arg5 : VM S1024x1024 .f32) (arg11 : VM S256x1024 .f32) (arg12 : VM S4x256x1024 .bf16) (harg12 : arg12.IsWhole)
    (arg13 : VM S4x256x1024 .bf16) (harg13 : arg13.IsWhole) (arg14 : VM S256x1024 .bf16) (harg14 : arg14.IsWhole)
    (arg15 : VM S4x256x1024 .bf16) (harg15 : arg15.IsWhole) (arg17 arg18 arg19 : DmaSems sig S4)
    (t1 t2 t3 : Dev nD) {q o1 o2 o3 : ℕ} (hq : q < 4) (h1 : o1 < 4) (h2 : o2 < 4) (h3 : o3 < 4) : KProg F PUnit := do
  recvOps arg12 harg12 arg13 harg13 arg17 h1
  recvOps arg12 harg12 arg13 harg13 arg17 h2
  recvOps arg12 harg12 arg13 harg13 arg17 h3
  let a : Vec F S256x1024 .f32 ← Prog.lift (.load arg11 rectClass.toLoadRect (View.loadsAt_vmem h_S256x1024))
  let b1 : Vec F S1x256x1024 .bf16 ← Prog.lift (.load arg13 (rectS h1).toLoadRect (View.loadsAt_vmem h_S1x256x1024))
  let b2 : Vec F S1x256x1024 .bf16 ← Prog.lift (.load arg13 (rectS h2).toLoadRect (View.loadsAt_vmem h_S1x256x1024))
  let b3 : Vec F S1x256x1024 .bf16 ← Prog.lift (.load arg13 (rectS h3).toLoadRect (View.loadsAt_vmem h_S1x256x1024))
  putOps arg5 (sumPay a b1 b2 b3) hq (show 0 < 4 by decide)
  putOps arg5 (sumPay a b1 b2 b3) hq (show 1 < 4 by decide)
  putOps arg5 (sumPay a b1 b2 b3) hq (show 2 < 4 by decide)
  putOps arg5 (sumPay a b1 b2 b3) hq (show 3 < 4 by decide)
  let _a : Vec F S256x1024 .bf16 ← Prog.lift (.load arg14 rectClass.toLoadRect (View.loadsAt_vmem h_S256x1024))
  Prog.lift (.store arg14 rectClass (k0_pay126 a b1 b2 b3) Finset.univ (View.stores_vmem h_S256x1024 (harg14.storeExact_slice rfl _ packedbf16_S256x1024_S256x1024_0_0) (fun _ => rfl)) (.inl rfl))
  castOps arg14 harg14 arg15 harg15 arg18 arg19 t1 hq h1
  castOps arg14 harg14 arg15 harg15 arg18 arg19 t2 hq h2
  castOps arg14 harg14 arg15 harg15 arg18 arg19 t3 hq h3

/-- Wait until the copy of slot s has left. -/
def sentOps (d0 : Dev nD) (arg12 : VM S4x256x1024 .bf16) (harg12 : arg12.IsWhole) (arg13 : VM S4x256x1024 .bf16) (harg13 : arg13.IsWhole)
    (arg16 : DmaSems sig S4) {s : ℕ} (hs : s < 4) : KProg F PUnit :=
  Prog.lift (.waitDma2 (semOf arg16 hs) (slotAt arg13 d0) (slot arg12 hs) ((harg13.wordExact_slice rfl _ (place_words d0)).reshape _ _) ((harg12.wordExact_slice rfl _ (wordsS hs)).reshape _ _))

/-- Wait for the reduced class of device o. -/
def gotOps (arg14 : VM S256x1024 .bf16) (harg14 : arg14.IsWhole) (arg15 : VM S4x256x1024 .bf16) (harg15 : arg15.IsWhole)
    (arg19 : DmaSems sig S4) {o : ℕ} (ho : o < 4) : KProg F PUnit :=
  Prog.lift (.waitDma2 (semOf arg19 ho) arg14 (slot arg15 ho) harg14.wordExact ((harg15.wordExact_slice rfl _ (wordsS ho)).reshape _ _))

/-- Rows 64 r to 64 r + 63 of the class received from device o stored in the result. -/
def fillOps (arg5 : VM S1024x1024 .f32) (arg15 : VM S4x256x1024 .bf16) {o r : ℕ} (ho : o < 4) (hr : r < 4) : KProg F PUnit := do
  let a : Vec F S1x64x1024 .bf16 ← Prog.lift (.load arg15 (rectT ho hr).toLoadRect (View.loadsAt_vmem h_S1x64x1024))
  let _a : Vec F S64x1024 .f32 ← Prog.lift (.load arg5 (rectO ho hr).toLoadRect (View.loadsAt_vmem h_S64x1024))
  Prog.lift (.store arg5 (rectO ho hr) (k0_pay206 a) Finset.univ (View.stores_vmem_bits_univ h_S64x1024 rfl) (.inl rfl))

/-- Wait until the copy of the reduced class to device o has left. -/
def goneOps (d0 : Dev nD) (arg14 : VM S256x1024 .bf16) (harg14 : arg14.IsWhole) (arg15 : VM S4x256x1024 .bf16) (harg15 : arg15.IsWhole)
    (arg18 : DmaSems sig S4) {o : ℕ} (ho : o < 4) : KProg F PUnit :=
  Prog.lift (.waitDma2 (semOf arg18 ho) (slotAt arg15 d0) arg14 ((harg15.wordExact_slice rfl _ (place_words d0)).reshape _ _) harg14.wordExact)

/-- A stage done when a branch is taken. -/
abbrev onlyIf (w : BitVec 1) (p : KProg F PUnit) : KProg F PUnit :=
  if _h : w = 1#1 then p else pure ⟨⟩

/-! ## The printed body is this program -/

/-- A branch of the printed text, which carries what follows it inside both of its arms, is the stage
    behind its condition followed by what follows it. -/
theorem jp_step {α : Type} (w : BitVec 1) (p : KProg F PUnit) {A : w = 1#1 → KProg F α} {B : ¬ w = 1#1 → KProg F α}
    (k : PUnit → KProg F α) {k' : KProg F α} (hA : ∀ h, A h = p >>= k) (hB : ∀ h, B h = k ⟨⟩) (hk : k ⟨⟩ = k') :
    dite (w = 1#1) A B = onlyIf w p >>= fun _ => k' := by
  subst hk
  unfold onlyIf
  split
  · rename_i h
    exact hA h
  · rename_i h
    exact hB h

theorem dev_lt4 : k0_dev4 < nD := by decide
theorem dev_lt5 : k0_dev5 < nD := by decide
theorem dev_lt6 : k0_dev6 < nD := by decide
theorem dev_lt7 : k0_dev7 < nD := by decide
theorem dev_lt8 : k0_dev8 < nD := by decide
theorem dev_lt9 : k0_dev9 < nD := by decide
theorem dev_lt10 : k0_dev10 < nD := by decide
theorem dev_lt11 : k0_dev11 < nD := by decide
theorem dev_lt12 : k0_dev12 < nD := by decide
theorem dev_lt13 : k0_dev13 < nD := by decide
theorem dev_lt14 : k0_dev14 < nD := by decide
theorem dev_lt15 : k0_dev15 < nD := by decide
theorem dev_lt16 : k0_dev16 < nD := by decide
theorem dev_lt17 : k0_dev17 < nD := by decide
theorem dev_lt18 : k0_dev18 < nD := by decide
theorem dev_lt19 : k0_dev19 < nD := by decide

/-- The kernel's body. -/
def bodyOps (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) : KProg F PUnit := do
  let d0 : Dev nD ← Prog.lift .deviceId
  barrierOps d0
  stageOps arg0 arg1 arg2 arg3 arg4 arg6 arg7 arg8 arg9 harg6 harg7 harg8 harg9
  onlyIf (isntW d0 0) (sendOps d0 arg6 arg7 arg8 arg9 arg10 harg10 arg12 harg12 arg13 harg13 arg16 arg17 (⟨k0_dev4, dev_lt4⟩ : Dev nD) (show 0 < 4 by decide))
  onlyIf (isntW d0 1) (sendOps d0 arg6 arg7 arg8 arg9 arg10 harg10 arg12 harg12 arg13 harg13 arg16 arg17 (⟨k0_dev5, dev_lt5⟩ : Dev nD) (show 1 < 4 by decide))
  onlyIf (isntW d0 2) (sendOps d0 arg6 arg7 arg8 arg9 arg10 harg10 arg12 harg12 arg13 harg13 arg16 arg17 (⟨k0_dev6, dev_lt6⟩ : Dev nD) (show 2 < 4 by decide))
  onlyIf (isntW d0 3) (sendOps d0 arg6 arg7 arg8 arg9 arg10 harg10 arg12 harg12 arg13 harg13 arg16 arg17 (⟨k0_dev7, dev_lt7⟩ : Dev nD) (show 3 < 4 by decide))
  onlyIf (isW d0 0) (ownOps arg6 arg7 arg8 arg9 arg10 harg10 arg11 (show 0 < 4 by decide))
  onlyIf (isW d0 1) (ownOps arg6 arg7 arg8 arg9 arg10 harg10 arg11 (show 1 < 4 by decide))
  onlyIf (isW d0 2) (ownOps arg6 arg7 arg8 arg9 arg10 harg10 arg11 (show 2 < 4 by decide))
  onlyIf (isW d0 3) (ownOps arg6 arg7 arg8 arg9 arg10 harg10 arg11 (show 3 < 4 by decide))
  onlyIf (isW d0 0) (reduceOps arg5 arg11 arg12 harg12 arg13 harg13 arg14 harg14 arg15 harg15 arg17 arg18 arg19 (⟨k0_dev8, dev_lt8⟩ : Dev nD) (⟨k0_dev9, dev_lt9⟩ : Dev nD) (⟨k0_dev10, dev_lt10⟩ : Dev nD) (show 0 < 4 by decide) (show 1 < 4 by decide) (show 2 < 4 by decide) (show 3 < 4 by decide))
  onlyIf (isW d0 1) (reduceOps arg5 arg11 arg12 harg12 arg13 harg13 arg14 harg14 arg15 harg15 arg17 arg18 arg19 (⟨k0_dev11, dev_lt11⟩ : Dev nD) (⟨k0_dev12, dev_lt12⟩ : Dev nD) (⟨k0_dev13, dev_lt13⟩ : Dev nD) (show 1 < 4 by decide) (show 0 < 4 by decide) (show 2 < 4 by decide) (show 3 < 4 by decide))
  onlyIf (isW d0 2) (reduceOps arg5 arg11 arg12 harg12 arg13 harg13 arg14 harg14 arg15 harg15 arg17 arg18 arg19 (⟨k0_dev14, dev_lt14⟩ : Dev nD) (⟨k0_dev15, dev_lt15⟩ : Dev nD) (⟨k0_dev16, dev_lt16⟩ : Dev nD) (show 2 < 4 by decide) (show 0 < 4 by decide) (show 1 < 4 by decide) (show 3 < 4 by decide))
  onlyIf (isW d0 3) (reduceOps arg5 arg11 arg12 harg12 arg13 harg13 arg14 harg14 arg15 harg15 arg17 arg18 arg19 (⟨k0_dev17, dev_lt17⟩ : Dev nD) (⟨k0_dev18, dev_lt18⟩ : Dev nD) (⟨k0_dev19, dev_lt19⟩ : Dev nD) (show 3 < 4 by decide) (show 0 < 4 by decide) (show 1 < 4 by decide) (show 2 < 4 by decide))
  onlyIf (isntW d0 0) (sentOps d0 arg12 harg12 arg13 harg13 arg16 (show 0 < 4 by decide))
  onlyIf (isntW d0 1) (sentOps d0 arg12 harg12 arg13 harg13 arg16 (show 1 < 4 by decide))
  onlyIf (isntW d0 2) (sentOps d0 arg12 harg12 arg13 harg13 arg16 (show 2 < 4 by decide))
  onlyIf (isntW d0 3) (sentOps d0 arg12 harg12 arg13 harg13 arg16 (show 3 < 4 by decide))
  onlyIf (isntW d0 0) (gotOps arg14 harg14 arg15 harg15 arg19 (show 0 < 4 by decide))
  onlyIf (isntW d0 0) (fillOps arg5 arg15 (show 0 < 4 by decide) (show 0 < 4 by decide))
  onlyIf (isntW d0 0) (fillOps arg5 arg15 (show 0 < 4 by decide) (show 1 < 4 by decide))
  onlyIf (isntW d0 0) (fillOps arg5 arg15 (show 0 < 4 by decide) (show 2 < 4 by decide))
  onlyIf (isntW d0 0) (fillOps arg5 arg15 (show 0 < 4 by decide) (show 3 < 4 by decide))
  onlyIf (isntW d0 1) (gotOps arg14 harg14 arg15 harg15 arg19 (show 1 < 4 by decide))
  onlyIf (isntW d0 1) (fillOps arg5 arg15 (show 1 < 4 by decide) (show 0 < 4 by decide))
  onlyIf (isntW d0 1) (fillOps arg5 arg15 (show 1 < 4 by decide) (show 1 < 4 by decide))
  onlyIf (isntW d0 1) (fillOps arg5 arg15 (show 1 < 4 by decide) (show 2 < 4 by decide))
  onlyIf (isntW d0 1) (fillOps arg5 arg15 (show 1 < 4 by decide) (show 3 < 4 by decide))
  onlyIf (isntW d0 2) (gotOps arg14 harg14 arg15 harg15 arg19 (show 2 < 4 by decide))
  onlyIf (isntW d0 2) (fillOps arg5 arg15 (show 2 < 4 by decide) (show 0 < 4 by decide))
  onlyIf (isntW d0 2) (fillOps arg5 arg15 (show 2 < 4 by decide) (show 1 < 4 by decide))
  onlyIf (isntW d0 2) (fillOps arg5 arg15 (show 2 < 4 by decide) (show 2 < 4 by decide))
  onlyIf (isntW d0 2) (fillOps arg5 arg15 (show 2 < 4 by decide) (show 3 < 4 by decide))
  onlyIf (isntW d0 3) (gotOps arg14 harg14 arg15 harg15 arg19 (show 3 < 4 by decide))
  onlyIf (isntW d0 3) (fillOps arg5 arg15 (show 3 < 4 by decide) (show 0 < 4 by decide))
  onlyIf (isntW d0 3) (fillOps arg5 arg15 (show 3 < 4 by decide) (show 1 < 4 by decide))
  onlyIf (isntW d0 3) (fillOps arg5 arg15 (show 3 < 4 by decide) (show 2 < 4 by decide))
  onlyIf (isntW d0 3) (fillOps arg5 arg15 (show 3 < 4 by decide) (show 3 < 4 by decide))
  onlyIf (isntW d0 0) (goneOps d0 arg14 harg14 arg15 harg15 arg18 (show 0 < 4 by decide))
  onlyIf (isntW d0 1) (goneOps d0 arg14 harg14 arg15 harg15 arg18 (show 1 < 4 by decide))
  onlyIf (isntW d0 2) (goneOps d0 arg14 harg14 arg15 harg15 arg18 (show 2 < 4 by decide))
  onlyIf (isntW d0 3) (goneOps d0 arg14 harg14 arg15 harg15 arg18 (show 3 < 4 by decide))
  pure ⟨⟩

end Cert.KernelIdeal.Gen

end
-- ==== Proof.BodyDev.lean ====
/-
  The body as one device runs it: the device's own place decides every branch, so what is left is a
  straight sequence of stages, named here by the device and by the three others in increasing order.
-/
module

public import proofs.«01_k».proof.Proof.Segments

@[expose] public section

set_option maxRecDepth 16384

noncomputable section

namespace Cert.KernelIdeal.Gen

open Idealize.ShloMosaic Idealize.SL.Sem

variable {F : FTy → Type} [FloatOps F]

/-- The other devices, in increasing order. -/
def o1 (c : Dev nD) : Dev nD := (![1, 0, 0, 0] : Fin 4 → Fin 4) c
def o2 (c : Dev nD) : Dev nD := (![2, 2, 1, 1] : Fin 4 → Fin 4) c
def o3 (c : Dev nD) : Dev nD := (![3, 3, 3, 2] : Fin 4 → Fin 4) c
/-- The other devices, in the order the barrier signals them. -/
def n1 (c : Dev nD) : Dev nD := (![1, 2, 3, 0] : Fin 4 → Fin 4) c
def n2 (c : Dev nD) : Dev nD := (![2, 3, 0, 1] : Fin 4 → Fin 4) c
def n3 (c : Dev nD) : Dev nD := (![3, 0, 1, 2] : Fin 4 → Fin 4) c

abbrev mX : VM S1024x1024 .bf16 := Memref.whole cc0_stg0_0
abbrev mWq : VM S1024x1024 .bf16 := Memref.whole cc0_stg1_0
abbrev mK : VM S1024x1024 .bf16 := Memref.whole cc0_stg2_0
abbrev mV : VM S1024x1024 .bf16 := Memref.whole cc0_stg3_0
abbrev mWo : VM S1024x1024 .bf16 := Memref.whole cc0_stg4_0
abbrev mOut : VM S1024x1024 .f32 := Memref.whole cc0_stg5_0
abbrev mQp : VM S1024x1024 .bf16 := Memref.whole cc0_scratch0
abbrev mKp : VM S1024x1024 .bf16 := Memref.whole cc0_scratch1
abbrev mVp : VM S1024x1024 .bf16 := Memref.whole cc0_scratch2
abbrev mW : VM S1024x1024 .bf16 := Memref.whole cc0_scratch3
abbrev mCtx : VM S256x1024 .bf16 := Memref.whole cc0_scratch4
abbrev mOwn : VM S256x1024 .f32 := Memref.whole cc0_scratch5
abbrev mRs : VM S4x256x1024 .bf16 := Memref.whole cc0_scratch6
abbrev mRr : VM S4x256x1024 .bf16 := Memref.whole cc0_scratch7
abbrev mRed : VM S256x1024 .bf16 := Memref.whole cc0_scratch8
abbrev mAg : VM S4x256x1024 .bf16 := Memref.whole cc0_scratch9
abbrev isW_ (b : Ref sig .tc) : (Memref.whole b).IsWhole := Memref.isWhole_whole b

/-- The barrier's semaphore. -/
abbrev barS : Sem sig := (SemArray.scalar (d := default) (sig.barrier 0 rfl)).sem

def barDev (c : Dev nD) : KProg F PUnit := do
  semSignalWord (n1 c) barS 1#32
  semSignalWord (n2 c) barS 1#32
  semSignalWord (n3 c) barS 1#32
  semWaitWord barS 3#32

/-- The partial product of class s stored in its slot. -/
def partDev {s : ℕ} (hs : s < 4) : KProg F PUnit := do
  classOps mQp mKp mVp mCtx (isW_ _) hs
  let c : Vec F S256x1024 .bf16 ← Prog.lift (.load mCtx rectClass.toLoadRect (View.loadsAt_vmem h_S256x1024))
  let w : Vec F S1024x1024 .bf16 ← Prog.lift (.load mW rectWide.toLoadRect (View.loadsAt_vmem h_S1024x1024))
  let _a : Vec F S1x256x1024 .bf16 ← Prog.lift (.load mRs (rectS hs).toLoadRect (View.loadsAt_vmem h_S1x256x1024))
  Prog.lift (.store mRs (rectS hs) (k0_pay16 c w) Finset.univ (View.stores_vmem h_S1x256x1024 ((isW_ cc0_scratch6).storeExact_slice rfl _ (packedS hs)) (fun _ => rfl)) (.inl rfl))

/-- The copy of slot s to device s. -/
def dmaDev (c tgt : Dev nD) {s : ℕ} (hs : s < 4) : KProg F PUnit :=
  Prog.lift (.enqueueDma (slot mRs hs) (.remote (Dev.tc tgt) (slot mRr c.isLt) (.dma (semOf cc0_scratch10 hs))) (.dma (semOf cc0_scratch11 c.isLt)) (((isW_ cc0_scratch6).wordExact_slice rfl _ (wordsS hs)).reshape _ _) (((isW_ cc0_scratch7).wordExact_slice rfl _ (wordsS c.isLt)).reshape _ _) ⟨⟨rfl, Or.inl rfl⟩, trivial⟩)

def sendDev (c tgt : Dev nD) : KProg F PUnit := do
  partDev tgt.isLt
  dmaDev c tgt tgt.isLt

def ownDev (c : Dev nD) : KProg F PUnit := ownOps mQp mKp mVp mW mCtx (isW_ _) mOwn c.isLt

def recvDev (o : Dev nD) : KProg F PUnit := recvOps mRs (isW_ _) mRr (isW_ _) cc0_scratch11 o.isLt

def castDev (c o : Dev nD) : KProg F PUnit :=
  castOps mRed (isW_ _) mAg (isW_ _) cc0_scratch12 cc0_scratch13 o c.isLt o.isLt

/-- The reduction of the device's own class, and its rows of the result. -/
def sumDev (c : Dev nD) : KProg F PUnit := do
  let a : Vec F S256x1024 .f32 ← Prog.lift (.load mOwn rectClass.toLoadRect (View.loadsAt_vmem h_S256x1024))
  let b1 : Vec F S1x256x1024 .bf16 ← Prog.lift (.load mRr (rectS (o1 c).isLt).toLoadRect (View.loadsAt_vmem h_S1x256x1024))
  let b2 : Vec F S1x256x1024 .bf16 ← Prog.lift (.load mRr (rectS (o2 c).isLt).toLoadRect (View.loadsAt_vmem h_S1x256x1024))
  let b3 : Vec F S1x256x1024 .bf16 ← Prog.lift (.load mRr (rectS (o3 c).isLt).toLoadRect (View.loadsAt_vmem h_S1x256x1024))
  putOps mOut (sumPay a b1 b2 b3) c.isLt (show 0 < 4 by decide)
  putOps mOut (sumPay a b1 b2 b3) c.isLt (show 1 < 4 by decide)
  putOps mOut (sumPay a b1 b2 b3) c.isLt (show 2 < 4 by decide)
  putOps mOut (sumPay a b1 b2 b3) c.isLt (show 3 < 4 by decide)
  let _a : Vec F S256x1024 .bf16 ← Prog.lift (.load mRed rectClass.toLoadRect (View.loadsAt_vmem h_S256x1024))
  Prog.lift (.store mRed rectClass (k0_pay126 a b1 b2 b3) Finset.univ (View.stores_vmem h_S256x1024 ((isW_ cc0_scratch8).storeExact_slice rfl _ packedbf16_S256x1024_S256x1024_0_0) (fun _ => rfl)) (.inl rfl))

def sentDev (c o : Dev nD) : KProg F PUnit :=
  Prog.lift (.waitDma2 (semOf cc0_scratch10 o.isLt) (slot mRr c.isLt) (slot mRs o.isLt) (((isW_ cc0_scratch7).wordExact_slice rfl _ (wordsS c.isLt)).reshape _ _) (((isW_ cc0_scratch6).wordExact_slice rfl _ (wordsS o.isLt)).reshape _ _))

def gotDev (o : Dev nD) : KProg F PUnit := gotOps mRed (isW_ _) mAg (isW_ _) cc0_scratch13 o.isLt

def fillDev (o : Dev nD) : KProg F PUnit := do
  fillOps mOut mAg o.isLt (show 0 < 4 by decide)
  fillOps mOut mAg o.isLt (show 1 < 4 by decide)
  fillOps mOut mAg o.isLt (show 2 < 4 by decide)
  fillOps mOut mAg o.isLt (show 3 < 4 by decide)

def goneDev (c o : Dev nD) : KProg F PUnit :=
  Prog.lift (.waitDma2 (semOf cc0_scratch12 o.isLt) (slot mAg c.isLt) mRed (((isW_ cc0_scratch9).wordExact_slice rfl _ (wordsS c.isLt)).reshape _ _) (isW_ cc0_scratch8).wordExact)

def stageDev : KProg F PUnit := stageOps mX mWq mK mV mWo mQp mKp mVp mW (isW_ _) (isW_ _) (isW_ _) (isW_ _)

/-- The body on device c. -/
def bodyDev (c : Dev nD) : KProg F PUnit := do
  barDev c
  stageDev
  sendDev c (o1 c)
  sendDev c (o2 c)
  sendDev c (o3 c)
  ownDev c
  recvDev (o1 c)
  recvDev (o2 c)
  recvDev (o3 c)
  sumDev c
  castDev c (o1 c)
  castDev c (o2 c)
  castDev c (o3 c)
  sentDev c (o1 c)
  sentDev c (o2 c)
  sentDev c (o3 c)
  gotDev (o1 c)
  fillDev (o1 c)
  gotDev (o2 c)
  fillDev (o2 c)
  gotDev (o3 c)
  fillDev (o3 c)
  goneDev c (o1 c)
  goneDev c (o2 c)
  goneDev c (o3 c)

/-! ## The two texts agree -/

theorem off1_eq : ∀ c : Dev nD, k0_off1 c = ![c.val] := by decide +kernel
theorem off2_eq : ∀ c : Dev nD, k0_off2 c = ![c.val, 0, 0] := by decide +kernel

theorem slotAt_eq (arg : VM S4x256x1024 .bf16) (c : Dev nD) : slotAt arg c = slot arg c.isLt := by
  have key : ∀ (off : Fin 3 → ℕ) (e : off = ![c.val, 0, 0]) (i : ∀ a, off a + S1x256x1024.size a ≤ S4x256x1024.size a),
      ((arg.slice (Rect.unit (s := S4x256x1024) off S1x256x1024.size i) (fun _ => rfl)).squeeze S256x1024
        squeezes_S1x256x1024_S256x1024 : VM S256x1024 .bf16) = slot arg c.isLt := by
    intro off e i
    subst e
    rfl
  exact key _ (off2_eq c) (place_inb c)

theorem semAt_eq (a : DmaSems sig S4) (c : Dev nD) : semAt a c = semOf a c.isLt := by
  have key : ∀ (off : Fin 1 → ℕ) (e : off = ![c.val]) (i : ∀ a, off a + S1.size a ≤ S4.size a),
      ((a.slice (Rect.unit (s := S4) off S1.size i)).squeeze S_ squeezes_S1_S_).sem = semOf a c.isLt := by
    intro off e i
    subst e
    rfl
  exact key _ (off1_eq c) (place_inb1 c)

theorem dma_eq (src : VM S256x1024 .bf16) (tgt : Dev nD) (s1 : DmaSem sig) {a b : VM S256x1024 .bf16} {s t : DmaSem sig}
    (hab : a = b) (hst : s = t) (h1 : src.view.WordExact) (h2 : a.view.WordExact) (h3 : b.view.WordExact) :
    (Prog.lift (.enqueueDma src (.remote (Dev.tc tgt) a (.dma s1)) (.dma s) h1 h2 ⟨⟨rfl, Or.inl rfl⟩, trivial⟩) : KProg F PUnit)
      = Prog.lift (.enqueueDma src (.remote (Dev.tc tgt) b (.dma s1)) (.dma t) h1 h3 ⟨⟨rfl, Or.inl rfl⟩, trivial⟩) := by
  subst hab
  subst hst
  rfl

theorem wait_eq (dst : VM S256x1024 .bf16) (s : DmaSem sig) {a b : VM S256x1024 .bf16}
    (hab : a = b) (h1 : dst.view.WordExact) (h2 : a.view.WordExact) (h3 : b.view.WordExact) :
    (Prog.lift (.waitDma2 s a dst h2 h1) : KProg F PUnit) = Prog.lift (.waitDma2 s b dst h3 h1) := by
  subst hab
  rfl

theorem send_eq (c tgt : Dev nD) {s : ℕ} (hs : s < 4) :
    (sendOps c mQp mKp mVp mW mCtx (isW_ _) mRs (isW_ _) mRr (isW_ _) cc0_scratch10 cc0_scratch11 tgt hs : KProg F PUnit)
      = (do
        partDev hs
        dmaDev c tgt hs) := by
  unfold sendOps partDev dmaDev
  simp only [bind_assoc]
  refine bind_congr fun _ => bind_congr fun _ => bind_congr fun _ => bind_congr fun _ => bind_congr fun _ => ?_
  exact dma_eq _ _ _ (slotAt_eq _ c) (semAt_eq _ c) _ _ _

theorem sent_eq (c : Dev nD) {s : ℕ} (hs : s < 4) :
    (sentOps c mRs (isW_ _) mRr (isW_ _) cc0_scratch10 hs : KProg F PUnit)
      = Prog.lift (.waitDma2 (semOf cc0_scratch10 hs) (slot mRr c.isLt) (slot mRs hs) (((isW_ cc0_scratch7).wordExact_slice rfl _ (wordsS c.isLt)).reshape _ _) (((isW_ cc0_scratch6).wordExact_slice rfl _ (wordsS hs)).reshape _ _)) :=
  wait_eq _ _ (slotAt_eq _ c) _ _ _

theorem gone_eq (c : Dev nD) {o : ℕ} (ho : o < 4) :
    (goneOps c mRed (isW_ _) mAg (isW_ _) cc0_scratch12 ho : KProg F PUnit)
      = Prog.lift (.waitDma2 (semOf cc0_scratch12 ho) (slot mAg c.isLt) mRed (((isW_ cc0_scratch9).wordExact_slice rfl _ (wordsS c.isLt)).reshape _ _) (isW_ cc0_scratch8).wordExact) :=
  wait_eq _ _ (slotAt_eq _ c) _ _ _

theorem only_yes {w : BitVec 1} (h : w = 1#1) (p : KProg F PUnit) : onlyIf w p = p := by
  unfold onlyIf
  exact dif_pos h
theorem only_no {w : BitVec 1} (h : ¬ w = 1#1) (p : KProg F PUnit) : onlyIf w p = pure ⟨⟩ := by
  unfold onlyIf
  exact dif_neg h

theorem is_0_0 : isW (⟨0, by decide⟩ : Dev nD) 0 = 1#1 := by decide +kernel
theorem isnt_0_0 : ¬ isntW (⟨0, by decide⟩ : Dev nD) 0 = 1#1 := by decide +kernel
theorem is_0_1 : ¬ isW (⟨0, by decide⟩ : Dev nD) 1 = 1#1 := by decide +kernel
theorem isnt_0_1 : isntW (⟨0, by decide⟩ : Dev nD) 1 = 1#1 := by decide +kernel
theorem is_0_2 : ¬ isW (⟨0, by decide⟩ : Dev nD) 2 = 1#1 := by decide +kernel
theorem isnt_0_2 : isntW (⟨0, by decide⟩ : Dev nD) 2 = 1#1 := by decide +kernel
theorem is_0_3 : ¬ isW (⟨0, by decide⟩ : Dev nD) 3 = 1#1 := by decide +kernel
theorem isnt_0_3 : isntW (⟨0, by decide⟩ : Dev nD) 3 = 1#1 := by decide +kernel
theorem is_1_0 : ¬ isW (⟨1, by decide⟩ : Dev nD) 0 = 1#1 := by decide +kernel
theorem isnt_1_0 : isntW (⟨1, by decide⟩ : Dev nD) 0 = 1#1 := by decide +kernel
theorem is_1_1 : isW (⟨1, by decide⟩ : Dev nD) 1 = 1#1 := by decide +kernel
theorem isnt_1_1 : ¬ isntW (⟨1, by decide⟩ : Dev nD) 1 = 1#1 := by decide +kernel
theorem is_1_2 : ¬ isW (⟨1, by decide⟩ : Dev nD) 2 = 1#1 := by decide +kernel
theorem isnt_1_2 : isntW (⟨1, by decide⟩ : Dev nD) 2 = 1#1 := by decide +kernel
theorem is_1_3 : ¬ isW (⟨1, by decide⟩ : Dev nD) 3 = 1#1 := by decide +kernel
theorem isnt_1_3 : isntW (⟨1, by decide⟩ : Dev nD) 3 = 1#1 := by decide +kernel
theorem is_2_0 : ¬ isW (⟨2, by decide⟩ : Dev nD) 0 = 1#1 := by decide +kernel
theorem isnt_2_0 : isntW (⟨2, by decide⟩ : Dev nD) 0 = 1#1 := by decide +kernel
theorem is_2_1 : ¬ isW (⟨2, by decide⟩ : Dev nD) 1 = 1#1 := by decide +kernel
theorem isnt_2_1 : isntW (⟨2, by decide⟩ : Dev nD) 1 = 1#1 := by decide +kernel
theorem is_2_2 : isW (⟨2, by decide⟩ : Dev nD) 2 = 1#1 := by decide +kernel
theorem isnt_2_2 : ¬ isntW (⟨2, by decide⟩ : Dev nD) 2 = 1#1 := by decide +kernel
theorem is_2_3 : ¬ isW (⟨2, by decide⟩ : Dev nD) 3 = 1#1 := by decide +kernel
theorem isnt_2_3 : isntW (⟨2, by decide⟩ : Dev nD) 3 = 1#1 := by decide +kernel
theorem is_3_0 : ¬ isW (⟨3, by decide⟩ : Dev nD) 0 = 1#1 := by decide +kernel
theorem isnt_3_0 : isntW (⟨3, by decide⟩ : Dev nD) 0 = 1#1 := by decide +kernel
theorem is_3_1 : ¬ isW (⟨3, by decide⟩ : Dev nD) 1 = 1#1 := by decide +kernel
theorem isnt_3_1 : isntW (⟨3, by decide⟩ : Dev nD) 1 = 1#1 := by decide +kernel
theorem is_3_2 : ¬ isW (⟨3, by decide⟩ : Dev nD) 2 = 1#1 := by decide +kernel
theorem isnt_3_2 : isntW (⟨3, by decide⟩ : Dev nD) 2 = 1#1 := by decide +kernel
theorem is_3_3 : isW (⟨3, by decide⟩ : Dev nD) 3 = 1#1 := by decide +kernel
theorem isnt_3_3 : ¬ isntW (⟨3, by decide⟩ : Dev nD) 3 = 1#1 := by decide +kernel

theorem dev1_eq : ∀ c : Dev nD, (⟨k0_dev1 c, k0_dev1_lt c⟩ : Dev nD) = n1 c := by decide +kernel
theorem dev2_eq : ∀ c : Dev nD, (⟨k0_dev2 c, k0_dev2_lt c⟩ : Dev nD) = n2 c := by decide +kernel
theorem dev3_eq : ∀ c : Dev nD, (⟨k0_dev3 c, k0_dev3_lt c⟩ : Dev nD) = n3 c := by decide +kernel

theorem bar_eq (c : Dev nD) : (barrierOps c : KProg F PUnit) = barDev c := by
  unfold barrierOps barDev
  rw [dev1_eq, dev2_eq, dev3_eq]

theorem seq_congr {α β : Type} {p p' : KProg F α} {k k' : α → KProg F β} (h : p = p') (hk : ∀ a, k a = k' a) :
    (p >>= k) = (p' >>= k') := by
  subst h
  exact bind_congr hk

/-- What follows the device's reading of its own place. -/
theorem body_dev : ∃ R : Dev nD → KProg F PUnit,
    (bodyOps mX (isW_ _) mWq (isW_ _) mK (isW_ _) mV (isW_ _) mWo (isW_ _) mOut (isW_ _) mQp (isW_ _) mKp (isW_ _) mVp (isW_ _) mW (isW_ _) mCtx (isW_ _) mOwn (isW_ _) mRs (isW_ _) mRr (isW_ _) mRed (isW_ _) mAg (isW_ _) cc0_scratch10 cc0_scratch11 cc0_scratch12 cc0_scratch13 : KProg F PUnit)
        = (Prog.lift .deviceId >>= R)
      ∧ ∀ c, R c = bodyDev c := by
  refine ⟨_, rfl, fun c => ?_⟩
  match c with
  | ⟨0, _⟩ =>
    simp only [only_yes is_0_0, only_no isnt_0_0, only_no is_0_1, only_yes isnt_0_1, only_no is_0_2, only_yes isnt_0_2, only_no is_0_3, only_yes isnt_0_3, pure_bind, bar_eq, send_eq, sent_eq, gone_eq]
    unfold bodyDev sendDev sentDev goneDev fillDev reduceOps sumDev
    simp only [bind_assoc]
    repeat' first
      | rfl
      | refine seq_congr (by first | rfl | (unfold stageDev; rfl)) fun _ => ?_
  | ⟨1, _⟩ =>
    simp only [only_no is_1_0, only_yes isnt_1_0, only_yes is_1_1, only_no isnt_1_1, only_no is_1_2, only_yes isnt_1_2, only_no is_1_3, only_yes isnt_1_3, pure_bind, bar_eq, send_eq, sent_eq, gone_eq]
    unfold bodyDev sendDev sentDev goneDev fillDev reduceOps sumDev
    simp only [bind_assoc]
    repeat' first
      | rfl
      | refine seq_congr (by first | rfl | (unfold stageDev; rfl)) fun _ => ?_
  | ⟨2, _⟩ =>
    simp only [only_no is_2_0, only_yes isnt_2_0, only_no is_2_1, only_yes isnt_2_1, only_yes is_2_2, only_no isnt_2_2, only_no is_2_3, only_yes isnt_2_3, pure_bind, bar_eq, send_eq, sent_eq, gone_eq]
    unfold bodyDev sendDev sentDev goneDev fillDev reduceOps sumDev
    simp only [bind_assoc]
    repeat' first
      | rfl
      | refine seq_congr (by first | rfl | (unfold stageDev; rfl)) fun _ => ?_
  | ⟨3, _⟩ =>
    simp only [only_no is_3_0, only_yes isnt_3_0, only_no is_3_1, only_yes isnt_3_1, only_no is_3_2, only_yes isnt_3_2, only_yes is_3_3, only_no isnt_3_3, pure_bind, bar_eq, send_eq, sent_eq, gone_eq]
    unfold bodyDev sendDev sentDev goneDev fillDev reduceOps sumDev
    simp only [bind_assoc]
    repeat' first
      | rfl
      | refine seq_congr (by first | rfl | (unfold stageDev; rfl)) fun _ => ?_

end Cert.KernelIdeal.Gen

end
-- ==== Proof.Pieces.lean ====
/-
  What the kernel's buffers hold, for any number model: the queries, keys and values with their rows
  sorted by class, the gathered heads of a class, the partial product of a class, the reduced class,
  and the result; and how a buffer written piece by piece comes to hold a named value.
-/
module

public import proofs.«01_k».proof.Proof.BodyDev
public import proofs.«01_k».proof.Proof.Gen.KernelIdeal.Regions

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's algebra beside the staging one. -/
abbrev UU : Type := UR sig nD τ × URounds (GSem nD τ sig) (Dev nD)

local notation "𝕄" => MT nD τ sig Unit (Elt F) ℕ UU ℕ

abbrev 𝒱₀ : Variants := Variants.none

/-! ## Pieces of a buffer -/

theorem agree_of_read {sp : Space} {s : Shape} {e : EltTy} (v : View sig .tc sp s e) {f g : v.ty.Contents (Elt F)}
    (h : v.read (Elt F) f = v.read (Elt F) g) : ∀ i ∈ v.set, f i = g i := by
  intro i hi
  unfold View.set at hi
  obtain ⟨x, -, rfl⟩ := Finset.mem_map.mp hi
  have hx := congrFun h x
  rw [View.read_apply, View.read_apply] at hx
  exact (cast_inj _).mp hx

theorem write_agree {sp : Space} {s : Shape} {e : EltTy} (v : View sig .tc sp s e) (f g : v.ty.Contents (Elt F))
    {w : s.Idx → Elt F e} (h : w = v.read (Elt F) g) : ∀ i ∈ v.set, v.write (Elt F) f w Finset.univ i = g i :=
  agree_of_read v ((View.read_write_univ f w).trans h)

theorem write_cov {sp : Space} {s : Shape} {e : EltTy} (v : View sig .tc sp s e) (f g : v.ty.Contents (Elt F))
    {w : s.Idx → Elt F e} (h : w = v.read (Elt F) g) {S : Finset v.ty.Idx} (hS : ∀ i ∈ S, f i = g i) :
    ∀ i ∈ S ∪ v.set, v.write (Elt F) f w Finset.univ i = g i := by
  intro i hi
  by_cases hv : i ∈ v.set
  · exact write_agree v f g h i hv
  · rw [View.write_of_not_mem f w Finset.univ (by rwa [View.setOn_univ])]
    exact hS i ((Finset.mem_union.mp hi).resolve_right hv)

/-- A memref's whole buffer on device c, holding g on the indices S. -/
def covPts {s : Shape} {e : EltTy} (c : Dev nD) (m : VM s e) (g : m.view.ty.Contents (Elt F)) (S : Finset m.view.ty.Idx) : sProp 𝕄 :=
  iprop(∃ f : m.view.ty.Contents (Elt F), ⌜∀ i ∈ S, f i = g i⌝ ∗ (m.view.loc (c : Thread nD τ) ↦{fullShare} f))

/-- A memref's whole buffer on device c, at g. -/
abbrev pts {s : Shape} {e : EltTy} (c : Dev nD) (m : VM s e) (g : m.view.ty.Contents (Elt F)) : sProp 𝕄 :=
  (m.view.loc (c : Thread nD τ) ↦{fullShare} g)

theorem covPts_empty {s : Shape} {e : EltTy} (c : Dev nD) (m : VM s e) (g f : m.view.ty.Contents (Elt F)) :
    (pts c m f : sProp 𝕄) ⊢ covPts c m g ∅ := by
  unfold covPts
  iintro H
  iexists f
  isplitr
  · ipureintro
    intro i hi
    exact absurd hi (Finset.notMem_empty i)
  iexact H

theorem covPts_full {s : Shape} {e : EltTy} (c : Dev nD) (m : VM s e) (g : m.view.ty.Contents (Elt F)) {S : Finset m.view.ty.Idx}
    (hS : ∀ i, i ∈ S) : (covPts c m g S : sProp 𝕄) ⊢ pts c m g := by
  unfold covPts
  iintro ⟨%f, %h, H⟩
  have e : f = g := funext fun i => h i (hS i)
  subst e
  iexact H

/-- A load whose value is not used. -/
theorem wp_dead_load {s : Shape} {e : EltTy} (c : Dev nD) (m : VM s e) (r : Rect s) {hl : m.view.LoadsAt r} (g : m.view.ty.Contents (Elt F))
    (S : Finset m.view.ty.Idx) {α : Type} (k : (r.shape.Idx → Elt F e) → KProg F α) (Kt : α → sProp 𝕄) :
    iprop(covPts c m g S ∗ ∀ x, covPts c m g S -∗ wp frame (wpE (defs₀ (F := F)) 𝒱₀ (c : Thread nD τ) none) Set.univ (k x) Kt)
      ⊢ wp frame (wpE (defs₀ (F := F)) 𝒱₀ (c : Thread nD τ) none) Set.univ (Prog.lift (.load m r.toLoadRect hl) >>= k) Kt := by
  rw [Prog.bind_lift]
  unfold covPts
  iintro ⟨⟨%f, %h, H⟩, Hk⟩
  iapply (wp_load_rect (m := m) (r := r) (hl := hl) 𝒱₀ (c : Thread nD τ) none Set.univ (S := Finset.univ) (q := fullShare) (f := f) (Finset.subset_univ _)) $$ [H]
  · iexact H
  iintro H
  iapply Hk
  iexists f
  isplitr
  · ipureintro
    exact h
  iexact H

/-- A load of a buffer at g. -/
theorem wp_live_load {s : Shape} {e : EltTy} (c : Dev nD) (m : VM s e) (r : Rect s) {hl : m.view.LoadsAt r} (g : m.view.ty.Contents (Elt F))
    {S : Finset m.view.ty.Idx} (hS : (m.access r).set ⊆ S) {q : PosShare TreeShare} {α : Type} (k : (r.shape.Idx → Elt F e) → KProg F α) (Kt : α → sProp 𝕄) :
    iprop((m.view.loc (c : Thread nD τ) ↦[S]{q} g) ∗ ((m.view.loc (c : Thread nD τ) ↦[S]{q} g) -∗ wp frame (wpE (defs₀ (F := F)) 𝒱₀ (c : Thread nD τ) none) Set.univ (k ((m.access r).read (Elt F) g)) Kt))
      ⊢ wp frame (wpE (defs₀ (F := F)) 𝒱₀ (c : Thread nD τ) none) Set.univ (Prog.lift (.load m r.toLoadRect hl) >>= k) Kt := by
  rw [Prog.bind_lift]
  iintro ⟨H, Hk⟩
  iapply (wp_load_rect (m := m) (r := r) (hl := hl) 𝒱₀ (c : Thread nD τ) none Set.univ (S := S) (q := q) (f := g) hS) $$ [H]
  · iexact H
  iexact Hk

/-- A store of a piece of g. -/
theorem wp_cov_store {s : Shape} {e : EltTy} (c : Dev nD) (m : VM s e) (r : Rect s) {w : r.shape.Idx → Elt F e}
    {hx : (m.access r).Stores Finset.univ} {hm : (Finset.univ : Finset r.shape.Idx) = Finset.univ ∨ ∀ a, r.stride a = 1} (g : m.view.ty.Contents (Elt F))
    (S : Finset m.view.ty.Idx) (hw : w = (m.access r).read (Elt F) g) (Kt : PUnit → sProp 𝕄) :
    iprop(covPts c m g S ∗ (covPts c m g (S ∪ (m.access r).set) -∗ Kt ⟨⟩))
      ⊢ wp frame (wpE (defs₀ (F := F)) 𝒱₀ (c : Thread nD τ) none) Set.univ (Prog.lift (.store m r w Finset.univ hx hm)) Kt := by
  unfold covPts Prog.lift
  iintro ⟨⟨%f, %h, H⟩, Hk⟩
  iapply (wp_store (m := m) (r := r) (hx := hx) (hm := hm) 𝒱₀ (c : Thread nD τ) none Set.univ (S := Finset.univ) (f := f) (Finset.subset_univ _)) $$ [H]
  · iexact H
  iintro H
  rw [wp_ret]
  imodintro
  iapply Hk
  iexists _
  isplitr
  · ipureintro
    exact write_cov (m.access r) f g hw h
  iexact H

/-- A stage, then what follows. -/
theorem wp_then {α β : Type} (c : Dev nD) (p : KProg F α) (k : α → KProg F β) (Kt : β → sProp 𝕄) :
    (wp frame (wpE (defs₀ (F := F)) 𝒱₀ (c : Thread nD τ) none) Set.univ p
        (fun a => wp frame (wpE (defs₀ (F := F)) 𝒱₀ (c : Thread nD τ) none) Set.univ (k a) Kt))
      ⊢ wp frame (wpE (defs₀ (F := F)) 𝒱₀ (c : Thread nD τ) none) Set.univ (p >>= k) Kt :=
  Entails.of_eq (wp_bind _ _ _ _ _ _).symm

end Cert.KernelIdeal.Gen

end
-- ==== Proof.Vals.lean ====
/-
  The values the kernel's buffers come to hold, from each device's five operands, for any number model.
-/
module

public import proofs.«01_k».proof.Proof.Pieces
public import Idealize.ShloMosaic.Lib.Pipeline.Value

@[expose] public section

set_option maxRecDepth 16384

noncomputable section

namespace Cert.KernelIdeal.Gen

open Idealize.ShloMosaic Idealize.SL.Sem

variable {F : FTy → Type} [FloatOps F]

/-- A device's operands: the input, its columns of the query weights, its heads' keys and values, its
    rows of the output weights. -/
structure Ins (F : FTy → Type) where
  x : Vec F S1024x1024 .bf16
  wq : Vec F S1024x1024 .bf16
  k : Vec F S1024x1024 .bf16
  v : Vec F S1024x1024 .bf16
  wo : Vec F S1024x1024 .bf16

/-! ## Indices -/

def ixW {i j : ℕ} (hi : i < 1024) (hj : j < 1024) : S1024x1024.Idx :=
  fun a => match a with
    | ⟨0, _⟩ => ⟨i, hi⟩
    | ⟨1, _⟩ => ⟨j, hj⟩
def ixC {i j : ℕ} (hi : i < 256) (hj : j < 1024) : S256x1024.Idx :=
  fun a => match a with
    | ⟨0, _⟩ => ⟨i, hi⟩
    | ⟨1, _⟩ => ⟨j, hj⟩
def ixQ {i j : ℕ} (hi : i < 256) (hj : j < 128) : S256x128.Idx :=
  fun a => match a with
    | ⟨0, _⟩ => ⟨i, hi⟩
    | ⟨1, _⟩ => ⟨j, hj⟩
def ixB {i j : ℕ} (hi : i < 64) (hj : j < 1024) : S64x1024.Idx :=
  fun a => match a with
    | ⟨0, _⟩ => ⟨i, hi⟩
    | ⟨1, _⟩ => ⟨j, hj⟩
def ixS {i j : ℕ} (hi : i < 256) (hj : j < 1024) : S1x256x1024.Idx :=
  fun a => match a with
    | ⟨0, _⟩ => ⟨0, Nat.one_pos⟩
    | ⟨1, _⟩ => ⟨i, hi⟩
    | ⟨2, _⟩ => ⟨j, hj⟩

theorem lt_row (i : S1024x1024.Idx) : (i 0).val < 1024 := (i 0).isLt
theorem lt_col (i : S1024x1024.Idx) : (i 1).val < 1024 := (i 1).isLt
theorem ltC_row (i : S256x1024.Idx) : (i 0).val < 256 := (i 0).isLt
theorem ltC_col (i : S256x1024.Idx) : (i 1).val < 1024 := (i 1).isLt
theorem ltS_slot (i : S4x256x1024.Idx) : (i 0).val < 4 := (i 0).isLt
theorem ltS_row (i : S4x256x1024.Idx) : (i 1).val < 256 := (i 1).isLt
theorem ltS_col (i : S4x256x1024.Idx) : (i 2).val < 1024 := (i 2).isLt

/-- The row that lies at place ρ once the rows are sorted by class. -/
def prow (ρ : ℕ) : ℕ := 256 * (ρ / 64 % 4) + 64 * (ρ / 256) + ρ % 64
theorem prow_lt {ρ : ℕ} (h : ρ < 1024) : prow ρ < 1024 := by
  unfold prow
  omega

/-! ## Values -/

/-- The rows sorted by class. -/
def permV (f : Vec F S1024x1024 .bf16) : Vec F S1024x1024 .bf16 :=
  fun i => f (ixW (prow_lt (lt_row i)) (lt_col i))

def qpV (a : Ins F) : Vec F S1024x1024 .bf16 := permV (k0_pay145 a.x a.wq)
def kpV (a : Ins F) : Vec F S1024x1024 .bf16 := permV a.k
def vpV (a : Ins F) : Vec F S1024x1024 .bf16 := permV a.v
/-- The output weights as stored. -/
def woV (a : Ins F) : Vec F S1024x1024 .bf16 := k0_pay197 a.wo

/-- A rectangle's elements. -/
abbrev rd {s : Shape} {α : Type} (r : Rect s) (f : s.Idx → α) : r.shape.Idx → α := fun j => f (r.emb j)

/-- Head h of class s. -/
def headV (a : Ins F) {s h : ℕ} (hs : s < 4) (hh : h < 8) : Vec F S256x128 .bf16 :=
  k0_pay1 (rd (rectQ hs hh) (qpV a)) (rd (rectQ hs hh) (kpV a)) (rd (rectQ hs hh) (vpV a))

/-- The heads of class s beside each other. -/
def ctxV (a : Ins F) {s : ℕ} (hs : s < 4) : Vec F S256x1024 .bf16 :=
  fun i => headV a hs (h := (i 1).val / 128) (by have := ltC_col i; omega)
    (ixQ (ltC_row i) (j := (i 1).val % 128) (by omega))

/-- The partial product of class s. -/
def partV (a : Ins F) {s : ℕ} (hs : s < 4) : Vec F S1x256x1024 .bf16 := k0_pay16 (ctxV a hs) (woV a)
/-- The own class's product. -/
def ownV (a : Ins F) {s : ℕ} (hs : s < 4) : Vec F S256x1024 .f32 := k0_pay199 (ctxV a hs) (woV a)

variable (A : Dev nD → Ins F)

/-- The reduced class of device c, before and after rounding. -/
def sumV (c : Dev nD) : Vec F S256x1024 .f32 :=
  k0_pay121 (ownV (A c) c.isLt) (partV (A (o1 c)) c.isLt) (partV (A (o2 c)) c.isLt) (partV (A (o3 c)) c.isLt)
def redV (c : Dev nD) : Vec F S256x1024 .bf16 :=
  k0_pay126 (ownV (A c) c.isLt) (partV (A (o1 c)) c.isLt) (partV (A (o2 c)) c.isLt) (partV (A (o3 c)) c.isLt)

/-- What the four send slots of device c hold: slot s the partial product of class s. -/
def rsV (a : Ins F) : Vec F S4x256x1024 .bf16 :=
  fun i => partV a (ltS_slot i) (ixS (ltS_row i) (ltS_col i))
/-- What the four receive slots of device c hold: slot p the partial product device p sent. -/
def rrV (c : Dev nD) : Vec F S4x256x1024 .bf16 :=
  fun i => partV (A ⟨(i 0).val, ltS_slot i⟩) c.isLt (ixS (ltS_row i) (ltS_col i))
/-- What the four gathered slots hold: slot q the reduced class of device q. -/
def agV : Vec F S4x256x1024 .bf16 :=
  fun i => redV A ⟨(i 0).val, ltS_slot i⟩ (ixC (ltS_row i) (ltS_col i))

/-- The result on device c: its own class as reduced, the others as received. -/
def outV (c : Dev nD) : Vec F S1024x1024 .f32 :=
  fun i =>
    if (i 0).val / 64 % 4 = c.val then
      sumV A c (ixC (i := 64 * ((i 0).val / 256) + (i 0).val % 64) (by have := lt_row i; omega) (lt_col i))
    else
      k0_pay206 (rd (rectT (s := (i 0).val / 64 % 4) (r := (i 0).val / 256) (by omega) (by have := lt_row i; omega)) (agV A))
        (ixB (i := (i 0).val % 64) (by omega) (lt_col i))

/-! ## Pieces read off the values -/

theorem rdWide {e : EltTy} (f : Vec F S1024x1024 e) : rd rectWide f = f := by
  funext j
  refine congrArg f (funext fun a => Fin.ext ?_)
  match a with
  | ⟨0, _⟩ =>
    show 0 + 1 * (j 0).val = (j 0).val
    omega
  | ⟨1, _⟩ =>
    show 0 + 1 * (j 1).val = (j 1).val
    omega

theorem rdClass {e : EltTy} (f : Vec F S256x1024 e) : rd rectClass f = f := by
  funext j
  refine congrArg f (funext fun a => Fin.ext ?_)
  match a with
  | ⟨0, _⟩ =>
    show 0 + 1 * (j 0).val = (j 0).val
    omega
  | ⟨1, _⟩ =>
    show 0 + 1 * (j 1).val = (j 1).val
    omega

theorem ltB_row (i : S64x1024.Idx) : (i 0).val < 64 := (i 0).isLt

theorem perm_block (f : Vec F S1024x1024 .bf16) {b : ℕ} (hb : b < 16) : rd (rectP hb) (permV f) = rd (rectB hb) f := by
  funext j
  have hj := ltB_row j
  refine congrArg f (funext fun a => Fin.ext ?_)
  match a with
  | ⟨0, _⟩ =>
    show prow (256 * (b % 4) + 64 * (b / 4) + 1 * (j 0).val) = 64 * b + 1 * (j 0).val
    generalize (j 0).val = t at hj ⊢
    have e1 : (256 * (b % 4) + 64 * (b / 4) + 1 * t) / 64 = 4 * (b % 4) + b / 4 := by omega
    have e2 : (256 * (b % 4) + 64 * (b / 4) + 1 * t) / 256 = b % 4 := by omega
    have e3 : (256 * (b % 4) + 64 * (b / 4) + 1 * t) % 64 = t := by omega
    unfold prow
    rw [e1, e2, e3]
    omega
  | ⟨1, _⟩ => rfl

theorem pay_q (f : FVec F S1024x1024 .bf16) {b : ℕ} (hb : b < 16) :
    (shapeCast S64x1024 (extractStridedSlice S64x1024 ![64 * b, 0] f (slicesB hb)) shapeCasts_S64x1024_S64x1024 : FVec F S64x1024 .bf16)
      = rd (rectP hb) (permV f) := by
  rw [shapeCast_self, perm_block]
  funext j
  refine extractStridedSlice_apply _ f _ j _ fun a => ?_
  match a with
  | ⟨0, _⟩ =>
    show 64 * b + 1 * (j 0).val = 64 * b + (j 0).val
    omega
  | ⟨1, _⟩ =>
    show 0 + 1 * (j 1).val = 0 + (j 1).val
    omega

theorem pay_k (f : Vec F S1024x1024 .bf16) {b : ℕ} (hb : b < 16) :
    k0_pay147 (rd (rectB hb) f) = rd (rectP hb) (permV f) := by
  unfold k0_pay147
  simp only [shapeCast_self]
  exact (perm_block f hb).symm

theorem ctx_head (a : Ins F) {s h : ℕ} (hs : s < 4) (hh : h < 8) : headV a hs hh = rd (rectC hh) (ctxV a hs) := by
  funext j
  have h0 : (j 0).val < 256 := (j 0).isLt
  have h1 : (j 1).val < 128 := (j 1).isLt
  have e1 : (0 + 128 * h + 1 * (j 1).val - 0) / 128 = h := by omega
  have key : ∀ (h' j' : ℕ) (hh' : h' < 8) (hj' : j' < 128) (hi' : 0 + 1 * (j 0).val < 256), h' = h → j' = (j 1).val →
      headV a hs hh j = headV a hs hh' (ixQ hi' hj') := by
    intro h' j' hh' hj' hi' e1 e2
    subst e1
    subst e2
    refine congrArg _ (funext fun x => Fin.ext ?_)
    match x with
    | ⟨0, _⟩ =>
      show (j 0).val = 0 + 1 * (j 0).val
      omega
    | ⟨1, _⟩ => rfl
  refine key ((128 * h + 1 * (j 1).val) / 128) ((128 * h + 1 * (j 1).val) % 128) (by omega) (by omega) (by omega) (by omega) (by omega)

theorem idxS_ext (j : S1x256x1024.Idx) {i k : ℕ} (hi : i < 256) (hk : k < 1024) (e1 : i = (j 1).val) (e2 : k = (j 2).val) :
    ixS hi hk = j := by
  subst e1
  subst e2
  funext a
  match a with
  | ⟨0, _⟩ =>
    refine Fin.ext ?_
    have h0 : (j 0).val < 1 := (j 0).isLt
    show 0 = (j 0).val
    omega
  | ⟨1, _⟩ => rfl
  | ⟨2, _⟩ => rfl

theorem rs_slot (a : Ins F) {s : ℕ} (hs : s < 4) : partV a hs = rd (rectS hs) (rsV a) := by
  funext j
  have h0 : (j 0).val < 1 := (j 0).isLt
  have key : ∀ (s' : ℕ) (hs' : s' < 4) (k : S1x256x1024.Idx), s' = s → k = j → partV a hs j = partV a hs' k := by
    intro s' hs' k e1 e2
    subst e1
    subst e2
    rfl
  refine key (s + 1 * (j 0).val) (by omega) _ (by omega) (idxS_ext j _ _ ?_ ?_)
  · show 0 + 1 * (j 1).val = (j 1).val
    omega
  · show 0 + 1 * (j 2).val = (j 2).val
    omega

theorem rr_slot (c p : Dev nD) : partV (A p) c.isLt = rd (rectS p.isLt) (rrV A c) := by
  funext j
  have h0 : (j 0).val < 1 := (j 0).isLt
  have key : ∀ (p' : Dev nD) (k : S1x256x1024.Idx), p' = p → k = j → partV (A p) c.isLt j = partV (A p') c.isLt k := by
    intro p' k e1 e2
    subst e1
    subst e2
    rfl
  refine key ⟨p.val + 1 * (j 0).val, by omega⟩ _ (Fin.ext (show p.val + 1 * (j 0).val = p.val by omega)) (idxS_ext j _ _ ?_ ?_)
  · show 0 + 1 * (j 1).val = (j 1).val
    omega
  · show 0 + 1 * (j 2).val = (j 2).val
    omega

theorem out_own (c : Dev nD) {r : ℕ} (hr : r < 4) :
    extractStridedSlice S64x1024 ![64 * r, 0] (sumV A c) (slicesR hr) = rd (rectO c.isLt hr) (outV A c) := by
  funext j
  have hj := ltB_row j
  have hc : c.val < 4 := c.isLt
  have e : (256 * r + 64 * c.val + 1 * (j 0).val) / 64 % 4 = c.val := by omega
  show _ = if (256 * r + 64 * c.val + 1 * (j 0).val) / 64 % 4 = c.val then _ else _
  rw [if_pos e]
  refine extractStridedSlice_apply _ _ _ j _ fun a => ?_
  match a with
  | ⟨0, _⟩ =>
    show 64 * ((256 * r + 64 * c.val + 1 * (j 0).val) / 256) + (256 * r + 64 * c.val + 1 * (j 0).val) % 64 = 64 * r + (j 0).val
    omega
  | ⟨1, _⟩ =>
    show 0 + 1 * (j 1).val = 0 + (j 1).val
    omega

theorem out_other (c q : Dev nD) (hq : q ≠ c) {r : ℕ} (hr : r < 4) :
    k0_pay206 (rd (rectT q.isLt hr) (agV A)) = rd (rectO q.isLt hr) (outV A c) := by
  funext j
  have hj := ltB_row j
  have hc : q.val < 4 := q.isLt
  have e : ¬ (256 * r + 64 * q.val + 1 * (j 0).val) / 64 % 4 = c.val := by
    intro h
    exact hq (Fin.ext (by omega))
  show _ = if (256 * r + 64 * q.val + 1 * (j 0).val) / 64 % 4 = c.val then _ else _
  rw [if_neg e]
  have key : ∀ (q' r' : ℕ) (hq' : q' < 4) (hr' : r' < 4) (k : S64x1024.Idx), q' = q.val → r' = r → k = j →
      k0_pay206 (rd (rectT q.isLt hr) (agV A)) j = k0_pay206 (rd (rectT hq' hr') (agV A)) k := by
    intro q' r' hq' hr' k e1 e2 e3
    subst e1
    subst e2
    subst e3
    rfl
  refine key _ _ _ _ _ (by show (256 * r + 64 * q.val + 1 * (j 0).val) / 64 % 4 = q.val; omega) (by show (256 * r + 64 * q.val + 1 * (j 0).val) / 256 = r; omega) (funext fun a => Fin.ext ?_)
  match a with
  | ⟨0, _⟩ =>
    show (256 * r + 64 * q.val + 1 * (j 0).val) % 64 = (j 0).val
    omega
  | ⟨1, _⟩ =>
    show 0 + 1 * (j 1).val = (j 1).val
    omega

end Cert.KernelIdeal.Gen

end
-- ==== Proof.Local.lean ====
/-
  The stages that stay on one device: what each buffer holds before and after.
-/
module

public import proofs.«01_k».proof.Proof.Vals

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Stages as triples -/

/-- A stage takes P to Q. -/
def Tri (c : Dev nD) (P : sProp 𝕄) (p : KProg F PUnit) (Q : sProp 𝕄) : Prop :=
  ∀ Kt : PUnit → sProp 𝕄, iprop(P ∗ (Q -∗ Kt ⟨⟩)) ⊢ wp frame (wpE (defs₀ (F := F)) 𝒱₀ (c : Thread nD τ) none) Set.univ p Kt

theorem Tri.seq {c : Dev nD} {P Q R : sProp 𝕄} {p : KProg F PUnit} {k : PUnit → KProg F PUnit} (h : Tri c P p Q) (h' : Tri c Q (k ⟨⟩) R) :
    Tri c P (p >>= k) R := by
  intro Kt
  iintro ⟨HP, Hk⟩
  iapply (wp_then c p k Kt)
  iapply (h _)
  isplitl [HP]
  · iexact HP
  iintro HQ
  iapply (h' Kt)
  isplitl [HQ]
  · iexact HQ
  iexact Hk

theorem Tri.pre {c : Dev nD} {P P' Q : sProp 𝕄} {p : KProg F PUnit} (h : Tri c P p Q) (hP : P' ⊢ P) : Tri c P' p Q := by
  intro Kt
  iintro ⟨HP, Hk⟩
  iapply (h _)
  isplitl [HP]
  · iapply hP
    iexact HP
  iexact Hk

theorem Tri.post {c : Dev nD} {P Q Q' : sProp 𝕄} {p : KProg F PUnit} (h : Tri c P p Q) (hQ : Q ⊢ Q') : Tri c P p Q' := by
  intro Kt
  iintro ⟨HP, Hk⟩
  iapply (h _)
  isplitl [HP]
  · iexact HP
  iintro HQ
  iapply Hk
  iapply hQ
  iexact HQ

theorem Tri.frame {c : Dev nD} {P Q : sProp 𝕄} {p : KProg F PUnit} (h : Tri c P p Q) (R : sProp 𝕄) : Tri c iprop(P ∗ R) p iprop(Q ∗ R) := by
  intro Kt
  iintro ⟨⟨HP, HR⟩, Hk⟩
  iapply (h _)
  isplitl [HP]
  · iexact HP
  iintro HQ
  iapply Hk
  isplitl [HQ]
  · iexact HQ
  iexact HR

/-! ## Covered parts -/

theorem covPts_mono {s : Shape} {e : EltTy} (c : Dev nD) (m : VM s e) (g : m.view.ty.Contents (Elt F)) {S T : Finset m.view.ty.Idx}
    (h : T ⊆ S) : (covPts c m g S : sProp 𝕄) ⊢ covPts c m g T := by
  unfold covPts
  iintro ⟨%f, %hf, H⟩
  iexists f
  isplitr
  · ipureintro
    exact fun i hi => hf i (h hi)
  iexact H

/-- Rows of the sorted order that the first n blocks fill. -/
def upP (n : ℕ) : Finset S1024x1024.Idx := Finset.univ.filter fun i => 4 * ((i 0).val / 64 % 4) + (i 0).val / 256 < n
/-- Columns that the first n heads fill. -/
def upC (n : ℕ) : Finset S256x1024.Idx := Finset.univ.filter fun i => (i 1).val / 128 < n
/-- Rows of the result that belong to class q. -/
def rowsO (q : ℕ) : Finset S1024x1024.Idx := Finset.univ.filter fun i => (i 0).val / 64 % 4 = q

theorem upP_step {b : ℕ} (hb : b < 16) : upP (b + 1) ⊆ upP b ∪ (rectP hb).set := by
  intro i hi
  have h0 := lt_row i
  have h1 := lt_col i
  have hi := (Finset.mem_filter.mp hi).2
  refine Finset.mem_union.mpr ?_
  by_cases h : 4 * ((i 0).val / 64 % 4) + (i 0).val / 256 < b
  · exact .inl (Finset.mem_filter.mpr ⟨Finset.mem_univ _, h⟩)
  · refine .inr (Rect.mem_set_unit.mpr fun a => ?_)
    match a with
    | ⟨0, _⟩ =>
      show 256 * (b % 4) + 64 * (b / 4) ≤ (i 0).val ∧ (i 0).val < 256 * (b % 4) + 64 * (b / 4) + 64
      have e1 : b = 4 * ((i 0).val / 64 % 4) + (i 0).val / 256 := by omega
      have e2 : b % 4 = (i 0).val / 256 := by omega
      have e3 : b / 4 = (i 0).val / 64 % 4 := by omega
      rw [e2, e3]
      omega
    | ⟨1, _⟩ =>
      show 0 ≤ (i 1).val ∧ (i 1).val < 0 + 1024
      omega

theorem upC_step {h : ℕ} (hh : h < 8) : upC (h + 1) ⊆ upC h ∪ (rectC hh).set := by
  intro i hi
  have h0 := ltC_row i
  have h1 := ltC_col i
  have hi := (Finset.mem_filter.mp hi).2
  refine Finset.mem_union.mpr ?_
  by_cases hlt : (i 1).val / 128 < h
  · exact .inl (Finset.mem_filter.mpr ⟨Finset.mem_univ _, hlt⟩)
  · refine .inr (Rect.mem_set_unit.mpr fun a => ?_)
    match a with
    | ⟨0, _⟩ =>
      show 0 ≤ (i 0).val ∧ (i 0).val < 0 + 256
      omega
    | ⟨1, _⟩ =>
      show 128 * h ≤ (i 1).val ∧ (i 1).val < 128 * h + 128
      omega

theorem mem_rectO {q r : ℕ} (hq : q < 4) (hr : r < 4) {i : S1024x1024.Idx} (e1 : (i 0).val / 64 % 4 = q) (e2 : (i 0).val / 256 = r) :
    i ∈ (rectO hq hr).set := by
  have h1 := lt_col i
  refine Rect.mem_set_unit.mpr fun a => ?_
  match a with
  | ⟨0, _⟩ =>
    show 256 * r + 64 * q ≤ (i 0).val ∧ (i 0).val < 256 * r + 64 * q + 64
    omega
  | ⟨1, _⟩ =>
    show 0 ≤ (i 1).val ∧ (i 1).val < 0 + 1024
    omega

theorem rowsO_four {q : ℕ} (hq : q < 4) (S : Finset S1024x1024.Idx) :
    S ∪ rowsO q ⊆ (((S ∪ (rectO hq (show 0 < 4 by decide)).set) ∪ (rectO hq (show 1 < 4 by decide)).set) ∪ (rectO hq (show 2 < 4 by decide)).set)
      ∪ (rectO hq (show 3 < 4 by decide)).set := by
  intro i hi
  have h0 := lt_row i
  simp only [Finset.mem_union]
  rcases Finset.mem_union.mp hi with h | h
  · exact .inl (.inl (.inl (.inl h)))
  · have e := (Finset.mem_filter.mp h).2
    have hc : (i 0).val / 256 = 0 ∨ (i 0).val / 256 = 1 ∨ (i 0).val / 256 = 2 ∨ (i 0).val / 256 = 3 := by omega
    rcases hc with h | h | h | h
    · exact .inl (.inl (.inl (.inr (mem_rectO hq _ e h))))
    · exact .inl (.inl (.inr (mem_rectO hq _ e h)))
    · exact .inl (.inr (mem_rectO hq _ e h))
    · exact .inr (mem_rectO hq _ e h)

theorem acc_whole (b : Ref sig .tc) (r : Rect b.ty.shape) : ((Memref.whole b).access r).set = r.set := View.set_slice_whole b r

/-! ## The copies -/

/-- The inputs and the sorted buffers while block n is next. -/
def cpy (c : Dev nD) (a : Ins F) (n : ℕ) : sProp 𝕄 :=
  iprop(pts c mK a.k ∗ pts c mV a.v ∗ covPts c mQp (qpV a) (upP n) ∗ covPts c mKp (kpV a) (upP n) ∗ covPts c mVp (vpV a) (upP n))

theorem copyQ_tri (c : Dev nD) (a : Ins F) {b : ℕ} (hb : b < 16) :
    Tri c (covPts c mQp (qpV a) (upP b)) (copyQ mQp (isW_ _) (k0_pay145 a.x a.wq) hb) (covPts c mQp (qpV a) (upP (b + 1))) := by
  intro Kt
  unfold copyQ
  iintro ⟨H, Hk⟩
  iapply (wp_dead_load c mQp (rectP hb) (qpV a) (upP b) _ Kt)
  isplitl [H]
  · iexact H
  iintro %x H
  iapply (wp_cov_store c mQp (rectP hb) (qpV a) (upP b) (pay_q (k0_pay145 a.x a.wq) hb) Kt)
  isplitl [H]
  · iexact H
  iintro H
  iapply Hk
  iapply (covPts_mono c mQp (qpV a) (S := upP b ∪ (mQp.access (rectP hb)).set) (by rw [acc_whole]; exact upP_step hb))
  iexact H

theorem copyK_tri (c : Dev nD) (a : Ins F) {b : ℕ} (hb : b < 16) :
    Tri c iprop(pts c mK a.k ∗ covPts c mKp (kpV a) (upP b)) (copyK mK mKp (isW_ _) hb)
      iprop(pts c mK a.k ∗ covPts c mKp (kpV a) (upP (b + 1))) := by
  intro Kt
  unfold copyK
  iintro ⟨⟨HK, H⟩, Hk⟩
  iapply (wp_live_load c mK (rectB hb) a.k (S := Finset.univ) (Finset.subset_univ _) _ Kt)
  isplitl [HK]
  · iexact HK
  iintro HK
  iapply (wp_dead_load c mKp (rectP hb) (kpV a) (upP b) _ Kt)
  isplitl [H]
  · iexact H
  iintro %x H
  iapply (wp_cov_store c mKp (rectP hb) (kpV a) (upP b) (pay_k a.k hb) Kt)
  isplitl [H]
  · iexact H
  iintro H
  iapply Hk
  isplitl [HK]
  · iexact HK
  iapply (covPts_mono c mKp (kpV a) (S := upP b ∪ (mKp.access (rectP hb)).set) (by rw [acc_whole]; exact upP_step hb))
  iexact H

theorem copyV_tri (c : Dev nD) (a : Ins F) {b : ℕ} (hb : b < 16) :
    Tri c iprop(pts c mV a.v ∗ covPts c mVp (vpV a) (upP b)) (copyK mV mVp (isW_ _) hb)
      iprop(pts c mV a.v ∗ covPts c mVp (vpV a) (upP (b + 1))) := by
  intro Kt
  unfold copyK
  iintro ⟨⟨HK, H⟩, Hk⟩
  iapply (wp_live_load c mV (rectB hb) a.v (S := Finset.univ) (Finset.subset_univ _) _ Kt)
  isplitl [HK]
  · iexact HK
  iintro HK
  iapply (wp_dead_load c mVp (rectP hb) (vpV a) (upP b) _ Kt)
  isplitl [H]
  · iexact H
  iintro %x H
  iapply (wp_cov_store c mVp (rectP hb) (vpV a) (upP b) (pay_k a.v hb) Kt)
  isplitl [H]
  · iexact H
  iintro H
  iapply Hk
  isplitl [HK]
  · iexact HK
  iapply (covPts_mono c mVp (vpV a) (S := upP b ∪ (mVp.access (rectP hb)).set) (by rw [acc_whole]; exact upP_step hb))
  iexact H

theorem copy_tri (c : Dev nD) (a : Ins F) {b : ℕ} (hb : b < 16) :
    Tri c (cpy c a b) (copyOps mK mV mQp mKp mVp (isW_ _) (isW_ _) (isW_ _) (k0_pay145 a.x a.wq) hb) (cpy c a (b + 1)) := by
  unfold copyOps
  refine Tri.pre (Tri.seq ((copyQ_tri c a hb).frame iprop((pts c mK a.k ∗ covPts c mKp (kpV a) (upP b)) ∗ (pts c mV a.v ∗ covPts c mVp (vpV a) (upP b))))
    (Tri.seq (Tri.pre ((copyK_tri c a hb).frame iprop(covPts c mQp (qpV a) (upP (b + 1)) ∗ (pts c mV a.v ∗ covPts c mVp (vpV a) (upP b)))) ?_)
      (Tri.pre (Tri.post ((copyV_tri c a hb).frame iprop(covPts c mQp (qpV a) (upP (b + 1)) ∗ (pts c mK a.k ∗ covPts c mKp (kpV a) (upP (b + 1))))) ?_) ?_))) ?_
  · iintro ⟨HQ, HK, HV⟩
    isplitl [HK]
    · iexact HK
    isplitl [HQ]
    · iexact HQ
    iexact HV
  · unfold cpy
    iintro ⟨⟨HV, HVp⟩, HQ, HK, HKp⟩
    isplitl [HK]
    · iexact HK
    isplitl [HV]
    · iexact HV
    isplitl [HQ]
    · iexact HQ
    isplitl [HKp]
    · iexact HKp
    iexact HVp
  · iintro ⟨HK, HQ, HV⟩
    isplitl [HV]
    · iexact HV
    isplitl [HQ]
    · iexact HQ
    iexact HK
  · unfold cpy
    iintro ⟨HK, HV, HQ, HKp, HVp⟩
    isplitl [HQ]
    · iexact HQ
    isplitl [HK HKp]
    · isplitl [HK]
      · iexact HK
      iexact HKp
    isplitl [HV]
    · iexact HV
    iexact HVp

/-- The sorted queries, keys and values. -/
def QKV (c : Dev nD) (a : Ins F) : sProp 𝕄 := iprop(pts c mQp (qpV a) ∗ pts c mKp (kpV a) ∗ pts c mVp (vpV a))

/-- A whole buffer at any contents. -/
abbrev anyPts {s : Shape} {e : EltTy} (c : Dev nD) (m : VM s e) : sProp 𝕄 := iprop(∃ f : m.view.ty.Contents (Elt F), pts c m f)

/-- The device's inputs as staged. -/
def Inp (c : Dev nD) (a : Ins F) : sProp 𝕄 :=
  iprop(pts c mX a.x ∗ pts c mWq a.wq ∗ pts c mK a.k ∗ pts c mV a.v ∗ pts c mWo a.wo)

theorem four_tri {c : Dev nD} {P0 P1 P2 P3 P4 R : sProp 𝕄} {p0 p1 p2 p3 : KProg F PUnit} {k : PUnit → KProg F PUnit}
    (h0 : Tri c P0 p0 P1) (h1 : Tri c P1 p1 P2) (h2 : Tri c P2 p2 P3) (h3 : Tri c P3 p3 P4) (h : Tri c P4 (k ⟨⟩) R) :
    Tri c P0 (p0 >>= fun _ => p1 >>= fun _ => p2 >>= fun _ => p3 >>= k) R :=
  Tri.seq h0 (Tri.seq h1 (Tri.seq h2 (Tri.seq h3 h)))

/-- The sixteen blocks, then what follows. -/
theorem copies_tri (c : Dev nD) (a : Ins F) {P R : sProp 𝕄} {p : KProg F PUnit} (h : Tri c iprop(cpy c a 16 ∗ P) p R) :
    Tri c iprop(cpy c a 0 ∗ P) (do
      copyOps mK mV mQp mKp mVp (isW_ _) (isW_ _) (isW_ _) (k0_pay145 a.x a.wq) (show 0 < 16 by decide)
      copyOps mK mV mQp mKp mVp (isW_ _) (isW_ _) (isW_ _) (k0_pay145 a.x a.wq) (show 1 < 16 by decide)
      copyOps mK mV mQp mKp mVp (isW_ _) (isW_ _) (isW_ _) (k0_pay145 a.x a.wq) (show 2 < 16 by decide)
      copyOps mK mV mQp mKp mVp (isW_ _) (isW_ _) (isW_ _) (k0_pay145 a.x a.wq) (show 3 < 16 by decide)
      copyOps mK mV mQp mKp mVp (isW_ _) (isW_ _) (isW_ _) (k0_pay145 a.x a.wq) (show 4 < 16 by decide)
      copyOps mK mV mQp mKp mVp (isW_ _) (isW_ _) (isW_ _) (k0_pay145 a.x a.wq) (show 5 < 16 by decide)
      copyOps mK mV mQp mKp mVp (isW_ _) (isW_ _) (isW_ _) (k0_pay145 a.x a.wq) (show 6 < 16 by decide)
      copyOps mK mV mQp mKp mVp (isW_ _) (isW_ _) (isW_ _) (k0_pay145 a.x a.wq) (show 7 < 16 by decide)
      copyOps mK mV mQp mKp mVp (isW_ _) (isW_ _) (isW_ _) (k0_pay145 a.x a.wq) (show 8 < 16 by decide)
      copyOps mK mV mQp mKp mVp (isW_ _) (isW_ _) (isW_ _) (k0_pay145 a.x a.wq) (show 9 < 16 by decide)
      copyOps mK mV mQp mKp mVp (isW_ _) (isW_ _) (isW_ _) (k0_pay145 a.x a.wq) (show 10 < 16 by decide)
      copyOps mK mV mQp mKp mVp (isW_ _) (isW_ _) (isW_ _) (k0_pay145 a.x a.wq) (show 11 < 16 by decide)
      copyOps mK mV mQp mKp mVp (isW_ _) (isW_ _) (isW_ _) (k0_pay145 a.x a.wq) (show 12 < 16 by decide)
      copyOps mK mV mQp mKp mVp (isW_ _) (isW_ _) (isW_ _) (k0_pay145 a.x a.wq) (show 13 < 16 by decide)
      copyOps mK mV mQp mKp mVp (isW_ _) (isW_ _) (isW_ _) (k0_pay145 a.x a.wq) (show 14 < 16 by decide)
      copyOps mK mV mQp mKp mVp (isW_ _) (isW_ _) (isW_ _) (k0_pay145 a.x a.wq) (show 15 < 16 by decide)
      p) R :=
  four_tri ((copy_tri c a (show 0 < 16 by decide)).frame P) ((copy_tri c a (show 1 < 16 by decide)).frame P) ((copy_tri c a (show 2 < 16 by decide)).frame P) ((copy_tri c a (show 3 < 16 by decide)).frame P) (four_tri ((copy_tri c a (show 4 < 16 by decide)).frame P) ((copy_tri c a (show 5 < 16 by decide)).frame P) ((copy_tri c a (show 6 < 16 by decide)).frame P) ((copy_tri c a (show 7 < 16 by decide)).frame P)
    (four_tri ((copy_tri c a (show 8 < 16 by decide)).frame P) ((copy_tri c a (show 9 < 16 by decide)).frame P) ((copy_tri c a (show 10 < 16 by decide)).frame P) ((copy_tri c a (show 11 < 16 by decide)).frame P) (four_tri ((copy_tri c a (show 12 < 16 by decide)).frame P) ((copy_tri c a (show 13 < 16 by decide)).frame P) ((copy_tri c a (show 14 < 16 by decide)).frame P) ((copy_tri c a (show 15 < 16 by decide)).frame P) h)))

theorem mem_wide (i : S1024x1024.Idx) : i ∈ rectWide.set := by
  have h0 := lt_row i
  have h1 := lt_col i
  refine Rect.mem_set_unit.mpr fun a => ?_
  match a with
  | ⟨0, _⟩ =>
    show 0 ≤ (i 0).val ∧ (i 0).val < 0 + 1024
    omega
  | ⟨1, _⟩ =>
    show 0 ≤ (i 1).val ∧ (i 1).val < 0 + 1024
    omega

/-- A load of a whole buffer. -/
theorem wide_load (c : Dev nD) (m : VM S1024x1024 .bf16) {hl : m.view.LoadsAt rectWide} (g : m.view.ty.Contents (Elt F)) (x : Vec F S1024x1024 .bf16)
    (hx : (m.access rectWide).read (Elt F) g = x) (k : Vec F S1024x1024 .bf16 → KProg F PUnit) (Kt : PUnit → sProp 𝕄) :
    iprop(pts c m g ∗ (pts c m g -∗ wp frame (wpE (defs₀ (F := F)) 𝒱₀ (c : Thread nD τ) none) Set.univ (k x) Kt))
      ⊢ wp frame (wpE (defs₀ (F := F)) 𝒱₀ (c : Thread nD τ) none) Set.univ (Prog.lift (.load m rectWide.toLoadRect hl) >>= k) Kt := by
  subst hx
  exact wp_live_load c m rectWide g (S := Finset.univ) (Finset.subset_univ _) k Kt

theorem stageTail_tri (c : Dev nD) (a : Ins F) :
    Tri c iprop(pts c mWo a.wo ∗ covPts c mW (woV a) ∅) (do
      let o : Vec F S1024x1024 .bf16 ← Prog.lift (.load mWo rectWide.toLoadRect (View.loadsAt_vmem h_S1024x1024))
      let _o : Vec F S1024x1024 .bf16 ← Prog.lift (.load mW rectWide.toLoadRect (View.loadsAt_vmem h_S1024x1024))
      Prog.lift (.store mW rectWide (k0_pay197 o) Finset.univ (View.stores_vmem h_S1024x1024 ((isW_ _).storeExact_slice rfl _ packedbf16_S1024x1024_S1024x1024_0_0) (fun _ => rfl)) (.inl rfl)))
      iprop(pts c mWo a.wo ∗ pts c mW (woV a)) := by
  intro Kt
  iintro ⟨⟨HWo, HW⟩, Hk⟩
  iapply (wide_load c mWo a.wo a.wo (rdWide a.wo) _ Kt)
  isplitl [HWo]
  · iexact HWo
  iintro HWo
  iapply (wp_dead_load c mW rectWide (woV a) ∅ _ Kt)
  isplitl [HW]
  · iexact HW
  iintro %x H
  iapply (wp_cov_store c mW rectWide (woV a) ∅ (rdWide (woV a)).symm Kt)
  isplitl [H]
  · iexact H
  iintro H
  iapply Hk
  isplitl [HWo]
  · iexact HWo
  iapply (covPts_full c mW (woV a) (S := ∅ ∪ (mW.access rectWide).set) fun i => Finset.mem_union.mpr (.inr (by rw [acc_whole]; exact mem_wide i)))
  iexact H

/-- The sorted buffers complete. -/
theorem cpy_done (c : Dev nD) (a : Ins F) : (cpy c a 16 : sProp 𝕄) ⊢ iprop((pts c mK a.k ∗ pts c mV a.v) ∗ QKV c a) := by
  have hu : ∀ i, i ∈ upP 16 := fun i => Finset.mem_filter.mpr ⟨Finset.mem_univ _, by have := lt_row i; omega⟩
  unfold cpy QKV
  iintro ⟨HK, HV, HQ, HKp, HVp⟩
  isplitl [HK HV]
  · isplitl [HK]
    · iexact HK
    iexact HV
  isplitl [HQ]
  · iapply (covPts_full c mQp (qpV a) (S := upP 16) hu)
    iexact HQ
  isplitl [HKp]
  · iapply (covPts_full c mKp (kpV a) (S := upP 16) hu)
    iexact HKp
  iapply (covPts_full c mVp (vpV a) (S := upP 16) hu)
  iexact HVp

theorem up_zero : upP 0 = ∅ := Finset.filter_eq_empty_iff.mpr fun i _ => by omega
theorem upC_zero : upC 0 = ∅ := Finset.filter_eq_empty_iff.mpr fun i _ => by omega

theorem stage_tri (c : Dev nD) (a : Ins F) :
    Tri c iprop(Inp c a ∗ anyPts c mQp ∗ anyPts c mKp ∗ anyPts c mVp ∗ anyPts c mW) (stageDev (F := F))
      iprop(Inp c a ∗ QKV c a ∗ pts c mW (woV a)) := by
  intro Kt
  unfold stageDev stageOps Inp
  iintro ⟨⟨⟨HX, HWq, HK, HV, HWo⟩, ⟨%f1, HQp⟩, ⟨%f2, HKp⟩, ⟨%f3, HVp⟩, ⟨%f4, HW⟩⟩, Hk⟩
  iapply (wide_load c mX a.x a.x (rdWide a.x) _ Kt)
  isplitl [HX]
  · iexact HX
  iintro HX
  iapply (wide_load c mWq a.wq a.wq (rdWide a.wq) _ Kt)
  isplitl [HWq]
  · iexact HWq
  iintro HWq
  ihave HQp := (covPts_empty c mQp (qpV a) f1) $$ HQp
  ihave HKp := (covPts_empty c mKp (kpV a) f2) $$ HKp
  ihave HVp := (covPts_empty c mVp (vpV a) f3) $$ HVp
  ihave HW := (covPts_empty c mW (woV a) f4) $$ HW
  iapply (copies_tri c a (((stageTail_tri c a).frame (cpy c a 16)).pre sep_comm.1) Kt)
  isplitl [HK HV HQp HKp HVp HWo HW]
  · isplitl [HK HV HQp HKp HVp]
    · unfold cpy
      rw [up_zero]
      isplitl [HK]
      · iexact HK
      isplitl [HV]
      · iexact HV
      isplitl [HQp]
      · iexact HQp
      isplitl [HKp]
      · iexact HKp
      iexact HVp
    isplitl [HWo]
    · iexact HWo
    iexact HW
  iintro ⟨⟨HWo, HW⟩, H⟩
  ihave H := (cpy_done c a) $$ H
  icases H with ⟨⟨HK, HV⟩, H⟩
  iapply Hk
  isplitl [HX HWq HK HV HWo]
  · isplitl [HX]
    · iexact HX
    isplitl [HWq]
    · iexact HWq
    isplitl [HK]
    · iexact HK
    isplitl [HV]
    · iexact HV
    iexact HWo
  isplitl [H]
  · iexact H
  iexact HW

end Cert.KernelIdeal.Gen

end
-- ==== Proof.Class.lean ====
/-
  The stages that compute one class of rows, its reduction, and its rows of the result.
-/
module

public import proofs.«01_k».proof.Proof.Local

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A class's heads -/

/-- The sorted buffers, and the gathered heads of class s while head n is next. -/
def hds (c : Dev nD) (a : Ins F) {s : ℕ} (hs : s < 4) (n : ℕ) : sProp 𝕄 := iprop(QKV c a ∗ covPts c mCtx (ctxV a hs) (upC n))

theorem head_tri (c : Dev nD) (a : Ins F) {s h : ℕ} (hs : s < 4) (hh : h < 8) :
    Tri c (hds c a hs h) (headOps mQp mKp mVp mCtx (isW_ _) hs hh) (hds c a hs (h + 1)) := by
  intro Kt
  unfold headOps hds QKV
  iintro ⟨⟨⟨HQ, HK, HV⟩, H⟩, Hk⟩
  iapply (wp_live_load c mQp (rectQ hs hh) (qpV a) (S := Finset.univ) (Finset.subset_univ _) _ Kt)
  isplitl [HQ]
  · iexact HQ
  iintro HQ
  iapply (wp_live_load c mKp (rectQ hs hh) (kpV a) (S := Finset.univ) (Finset.subset_univ _) _ Kt)
  isplitl [HK]
  · iexact HK
  iintro HK
  iapply (wp_live_load c mVp (rectQ hs hh) (vpV a) (S := Finset.univ) (Finset.subset_univ _) _ Kt)
  isplitl [HV]
  · iexact HV
  iintro HV
  iapply (wp_dead_load c mCtx (rectC hh) (ctxV a hs) (upC h) _ Kt)
  isplitl [H]
  · iexact H
  iintro %x H
  iapply (wp_cov_store c mCtx (rectC hh) (ctxV a hs) (upC h) (ctx_head a hs hh) Kt)
  isplitl [H]
  · iexact H
  iintro H
  iapply Hk
  isplitl [HQ HK HV]
  · isplitl [HQ]
    · iexact HQ
    isplitl [HK]
    · iexact HK
    iexact HV
  iapply (covPts_mono c mCtx (ctxV a hs) (S := upC h ∪ (mCtx.access (rectC hh)).set) (by rw [acc_whole]; exact upC_step hh))
  iexact H

theorem four_end {c : Dev nD} {P0 P1 P2 P3 P4 : sProp 𝕄} {p0 p1 p2 p3 : KProg F PUnit}
    (h0 : Tri c P0 p0 P1) (h1 : Tri c P1 p1 P2) (h2 : Tri c P2 p2 P3) (h3 : Tri c P3 p3 P4) :
    Tri c P0 (p0 >>= fun _ => p1 >>= fun _ => p2 >>= fun _ => p3) P4 :=
  Tri.seq h0 (Tri.seq h1 (Tri.seq h2 h3))

/-- The eight heads of a class. -/
theorem class_tri (c : Dev nD) (a : Ins F) {s : ℕ} (hs : s < 4) :
    Tri c iprop(QKV c a ∗ anyPts c mCtx) (classOps mQp mKp mVp mCtx (isW_ _) hs) iprop(QKV c a ∗ pts c mCtx (ctxV a hs)) := by
  unfold classOps
  refine Tri.pre (Tri.post (four_tri (head_tri c a hs (show 0 < 8 by decide)) (head_tri c a hs (show 1 < 8 by decide)) (head_tri c a hs (show 2 < 8 by decide)) (head_tri c a hs (show 3 < 8 by decide))
    (four_end (head_tri c a hs (show 4 < 8 by decide)) (head_tri c a hs (show 5 < 8 by decide)) (head_tri c a hs (show 6 < 8 by decide)) (head_tri c a hs (show 7 < 8 by decide)))) ?_) ?_
  · unfold hds
    iintro ⟨H, HC⟩
    isplitl [H]
    · iexact H
    iapply (covPts_full c mCtx (ctxV a hs) (S := upC 8) fun i => Finset.mem_filter.mpr ⟨Finset.mem_univ _, by have := ltC_col i; omega⟩)
    iexact HC
  · unfold hds
    rw [upC_zero]
    iintro ⟨H, %f, HC⟩
    isplitl [H]
    · iexact H
    iapply (covPts_empty c mCtx (ctxV a hs) f)
    iexact HC

/-! ## Slots -/

/-- Slot s of a buffer of four slots on device c, at f. -/
def slotPts {e : EltTy} (c : Dev nD) (m : VM S4x256x1024 e) {s : ℕ} (hs : s < 4) (f : m.view.ty.Contents (Elt F)) : sProp 𝕄 :=
  (m.view.loc (c : Thread nD τ) ↦[(m.access (rectS hs)).set]{fullShare} f)
/-- The same at any contents. -/
def anySlot {e : EltTy} (c : Dev nD) (m : VM S4x256x1024 e) {s : ℕ} (hs : s < 4) : sProp 𝕄 :=
  iprop(∃ f : m.view.ty.Contents (Elt F), slotPts c m hs f)

theorem mem_class (i : S256x1024.Idx) : i ∈ rectClass.set := by
  have h0 := ltC_row i
  have h1 := ltC_col i
  refine Rect.mem_set_unit.mpr fun a => ?_
  match a with
  | ⟨0, _⟩ =>
    show 0 ≤ (i 0).val ∧ (i 0).val < 0 + 256
    omega
  | ⟨1, _⟩ =>
    show 0 ≤ (i 1).val ∧ (i 1).val < 0 + 1024
    omega

/-- A load of a whole class buffer. -/
theorem class_load {e : EltTy} (c : Dev nD) (m : VM S256x1024 e) {hl : m.view.LoadsAt rectClass} (g : m.view.ty.Contents (Elt F)) (x : Vec F S256x1024 e)
    (hx : (m.access rectClass).read (Elt F) g = x) (k : Vec F S256x1024 e → KProg F PUnit) (Kt : PUnit → sProp 𝕄) :
    iprop(pts c m g ∗ (pts c m g -∗ wp frame (wpE (defs₀ (F := F)) 𝒱₀ (c : Thread nD τ) none) Set.univ (k x) Kt))
      ⊢ wp frame (wpE (defs₀ (F := F)) 𝒱₀ (c : Thread nD τ) none) Set.univ (Prog.lift (.load m rectClass.toLoadRect hl) >>= k) Kt := by
  subst hx
  exact wp_live_load c m rectClass g (S := Finset.univ) (Finset.subset_univ _) k Kt

/-- A load of a slot. -/
theorem slot_load {e : EltTy} (c : Dev nD) (m : VM S4x256x1024 e) {s : ℕ} (hs : s < 4) {hl : m.view.LoadsAt (rectS hs)} (g : m.view.ty.Contents (Elt F)) (x : Vec F S1x256x1024 e)
    (hx : (m.access (rectS hs)).read (Elt F) g = x) (k : Vec F S1x256x1024 e → KProg F PUnit) (Kt : PUnit → sProp 𝕄) :
    iprop(slotPts c m hs g ∗ (slotPts c m hs g -∗ wp frame (wpE (defs₀ (F := F)) 𝒱₀ (c : Thread nD τ) none) Set.univ (k x) Kt))
      ⊢ wp frame (wpE (defs₀ (F := F)) 𝒱₀ (c : Thread nD τ) none) Set.univ (Prog.lift (.load m (rectS hs).toLoadRect hl) >>= k) Kt := by
  subst hx
  exact wp_live_load c m (rectS hs) g (S := (m.access (rectS hs)).set) (Finset.Subset.refl _) k Kt

/-- A store of a slot of g. -/
theorem slot_store {e : EltTy} (c : Dev nD) (m : VM S4x256x1024 e) {s : ℕ} (hs : s < 4) {w : (rectS hs).shape.Idx → Elt F e}
    {hx : (m.access (rectS hs)).Stores Finset.univ} {hm : (Finset.univ : Finset (rectS hs).shape.Idx) = Finset.univ ∨ ∀ a, (rectS hs).stride a = 1} (f g : m.view.ty.Contents (Elt F))
    (hw : w = (m.access (rectS hs)).read (Elt F) g) (Kt : PUnit → sProp 𝕄) :
    iprop(slotPts c m hs f ∗ (slotPts c m hs g -∗ Kt ⟨⟩))
      ⊢ wp frame (wpE (defs₀ (F := F)) 𝒱₀ (c : Thread nD τ) none) Set.univ (Prog.lift (.store m (rectS hs) w Finset.univ hx hm)) Kt := by
  unfold slotPts Prog.lift
  iintro ⟨H, Hk⟩
  iapply (wp_store (m := m) (r := rectS hs) (hx := hx) (hm := hm) 𝒱₀ (c : Thread nD τ) none Set.univ (S := (m.access (rectS hs)).set) (f := f) (View.setOn_subset_set _ _)) $$ [H]
  · iexact H
  iintro H
  rw [wp_ret]
  imodintro
  iapply Hk
  iapply (Entails.of_eq (pointsTo_congr (ℓ := m.view.loc (c : Thread nD τ)) (q := fullShare) (write_agree (m.access (rectS hs)) f g hw)))
  iexact H

/-- The partial product of class s. -/
theorem part_tri (c : Dev nD) (a : Ins F) {s : ℕ} (hs : s < 4) :
    Tri c iprop((QKV c a ∗ anyPts c mCtx) ∗ pts c mW (woV a) ∗ anySlot c mRs hs) (partDev hs)
      iprop((QKV c a ∗ anyPts c mCtx) ∗ pts c mW (woV a) ∗ slotPts c mRs hs (rsV a)) := by
  unfold partDev
  refine Tri.seq ((class_tri c a hs).frame _) ?_
  intro Kt
  unfold anySlot
  iintro ⟨⟨⟨HQ, HC⟩, HW, %f, HS⟩, Hk⟩
  iapply (class_load c mCtx (ctxV a hs) (ctxV a hs) (rdClass (ctxV a hs)) _ Kt)
  isplitl [HC]
  · iexact HC
  iintro HC
  iapply (wide_load c mW (woV a) (woV a) (rdWide (woV a)) _ Kt)
  isplitl [HW]
  · iexact HW
  iintro HW
  iapply (slot_load c mRs hs f _ rfl _ Kt)
  isplitl [HS]
  · iexact HS
  iintro HS
  iapply (slot_store c mRs hs f (rsV a) (rs_slot a hs) Kt)
  isplitl [HS]
  · iexact HS
  iintro HS
  iapply Hk
  isplitl [HQ HC]
  · isplitl [HQ]
    · iexact HQ
    iexists _
    iexact HC
  isplitl [HW]
  · iexact HW
  iexact HS

/-- The own class's product. -/
theorem own_tri (c : Dev nD) (a : Ins F) :
    Tri c iprop((QKV c a ∗ anyPts c mCtx) ∗ pts c mW (woV a) ∗ anyPts c mOwn) (ownDev (F := F) c)
      iprop((QKV c a ∗ anyPts c mCtx) ∗ pts c mW (woV a) ∗ pts c mOwn (ownV a c.isLt)) := by
  unfold ownDev ownOps
  refine Tri.seq ((class_tri c a c.isLt).frame _) ?_
  intro Kt
  iintro ⟨⟨⟨HQ, HC⟩, HW, %f, HS⟩, Hk⟩
  iapply (class_load c mCtx (ctxV a c.isLt) (ctxV a c.isLt) (rdClass (ctxV a c.isLt)) _ Kt)
  isplitl [HC]
  · iexact HC
  iintro HC
  iapply (wide_load c mW (woV a) (woV a) (rdWide (woV a)) _ Kt)
  isplitl [HW]
  · iexact HW
  iintro HW
  ihave HS := (covPts_empty c mOwn (ownV a c.isLt) f) $$ HS
  iapply (wp_dead_load c mOwn rectClass (ownV a c.isLt) ∅ _ Kt)
  isplitl [HS]
  · iexact HS
  iintro %x HS
  iapply (wp_cov_store c mOwn rectClass (ownV a c.isLt) ∅ (rdClass (ownV a c.isLt)).symm Kt)
  isplitl [HS]
  · iexact HS
  iintro HS
  iapply Hk
  isplitl [HQ HC]
  · isplitl [HQ]
    · iexact HQ
    iexists _
    iexact HC
  isplitl [HW]
  · iexact HW
  iapply (covPts_full c mOwn (ownV a c.isLt) (S := ∅ ∪ (mOwn.access rectClass).set) fun i => Finset.mem_union.mpr (.inr (by rw [acc_whole]; exact mem_class i)))
  iexact HS

/-! ## The result's rows -/

variable (A : Dev nD → Ins F)

theorem put_tri (c : Dev nD) (S : Finset S1024x1024.Idx) {r : ℕ} (hr : r < 4) :
    Tri c (covPts c mOut (outV A c) S) (putOps mOut (sumV A c) c.isLt hr) (covPts c mOut (outV A c) (S ∪ (rectO c.isLt hr).set)) := by
  intro Kt
  unfold putOps
  iintro ⟨H, Hk⟩
  iapply (wp_dead_load c mOut (rectO c.isLt hr) (outV A c) S _ Kt)
  isplitl [H]
  · iexact H
  iintro %x H
  iapply (wp_cov_store c mOut (rectO c.isLt hr) (outV A c) S (out_own A c hr) Kt)
  isplitl [H]
  · iexact H
  iintro H
  iapply Hk
  iapply (Entails.of_eq (congrArg (fun T => covPts c mOut (outV A c) (S ∪ T)) (acc_whole cc0_stg5_0 (rectO c.isLt hr))))
  iexact H

theorem rectT_sub {s r : ℕ} (hs : s < 4) (hr : r < 4) : (rectT hs hr).set ⊆ (rectS hs).set := by
  intro i hi
  have h := Rect.mem_set_unit.mp hi
  refine Rect.mem_set_unit.mpr fun a => ?_
  match a with
  | ⟨0, _⟩ => exact h 0
  | ⟨1, _⟩ =>
    have hl := ltS_row i
    show 0 ≤ (i 1).val ∧ (i 1).val < 0 + 256
    omega
  | ⟨2, _⟩ => exact h 2

theorem fill1_tri (c o : Dev nD) (ho : o ≠ c) (S : Finset S1024x1024.Idx) {r : ℕ} (hr : r < 4) :
    Tri c iprop(covPts c mOut (outV A c) S ∗ slotPts c mAg o.isLt (agV A)) (fillOps mOut mAg o.isLt hr)
      iprop(covPts c mOut (outV A c) (S ∪ (rectO o.isLt hr).set) ∗ slotPts c mAg o.isLt (agV A)) := by
  intro Kt
  unfold fillOps slotPts
  iintro ⟨⟨H, HS⟩, Hk⟩
  iapply (wp_live_load c mAg (rectT o.isLt hr) (agV A) (S := (mAg.access (rectS o.isLt)).set) (by rw [acc_whole, acc_whole]; exact rectT_sub o.isLt hr) _ Kt)
  isplitl [HS]
  · iexact HS
  iintro HS
  iapply (wp_dead_load c mOut (rectO o.isLt hr) (outV A c) S _ Kt)
  isplitl [H]
  · iexact H
  iintro %x H
  iapply (wp_cov_store c mOut (rectO o.isLt hr) (outV A c) S (out_other A c o ho hr) Kt)
  isplitl [H]
  · iexact H
  iintro H
  iapply Hk
  isplitl [H]
  · iapply (Entails.of_eq (congrArg (fun T => covPts c mOut (outV A c) (S ∪ T)) (acc_whole cc0_stg5_0 (rectO o.isLt hr))))
    iexact H
  iexact HS

/-- The rows received from device o. -/
theorem fill_tri (c o : Dev nD) (ho : o ≠ c) (S : Finset S1024x1024.Idx) :
    Tri c iprop(covPts c mOut (outV A c) S ∗ slotPts c mAg o.isLt (agV A)) (fillDev o)
      iprop(covPts c mOut (outV A c) (S ∪ rowsO o.val) ∗ slotPts c mAg o.isLt (agV A)) := by
  unfold fillDev
  refine Tri.post (four_end (fill1_tri A c o ho S (show 0 < 4 by decide)) (fill1_tri A c o ho _ (show 1 < 4 by decide))
    (fill1_tri A c o ho _ (show 2 < 4 by decide)) (fill1_tri A c o ho _ (show 3 < 4 by decide))) ?_
  iintro ⟨H, HS⟩
  isplitl [H]
  · iapply (covPts_mono c mOut (outV A c) (rowsO_four o.isLt S))
    iexact H
  iexact HS

/-- The reduced class rounded, stored; the rest kept. -/
theorem redStore_tri (c : Dev nD) (S : Finset S1024x1024.Idx) :
    Tri c iprop(covPts c mOut (outV A c) S ∗ covPts c mRed (redV A c) ∅) (do
      let _a : Vec F S256x1024 .bf16 ← Prog.lift (.load mRed rectClass.toLoadRect (View.loadsAt_vmem h_S256x1024))
      Prog.lift (.store mRed rectClass (k0_pay126 (ownV (A c) c.isLt) (partV (A (o1 c)) c.isLt) (partV (A (o2 c)) c.isLt) (partV (A (o3 c)) c.isLt)) Finset.univ (View.stores_vmem h_S256x1024 ((isW_ cc0_scratch8).storeExact_slice rfl _ packedbf16_S256x1024_S256x1024_0_0) (fun _ => rfl)) (.inl rfl)))
      iprop(pts c mRed (redV A c) ∗ covPts c mOut (outV A c) S) := by
  intro Kt
  iintro ⟨⟨HT, HR⟩, Hk⟩
  iapply (wp_dead_load c mRed rectClass (redV A c) ∅ _ Kt)
  isplitl [HR]
  · iexact HR
  iintro %x HR
  iapply (wp_cov_store c mRed rectClass (redV A c) ∅ (rdClass (redV A c)).symm Kt)
  isplitl [HR]
  · iexact HR
  iintro HR
  iapply Hk
  isplitl [HR]
  · iapply (covPts_full c mRed (redV A c) (S := ∅ ∪ (mRed.access rectClass).set) fun i => Finset.mem_union.mpr (.inr (by rw [acc_whole]; exact mem_class i)))
    iexact HR
  iexact HT

/-- The three received slots. -/
def rr3 (c : Dev nD) : sProp 𝕄 :=
  iprop(slotPts c mRr (o1 c).isLt (rrV A c) ∗ slotPts c mRr (o2 c).isLt (rrV A c) ∗ slotPts c mRr (o3 c).isLt (rrV A c))

/-- The reduction of the own class. -/
theorem sum_tri (c : Dev nD) :
    Tri c iprop(pts c mOwn (ownV (A c) c.isLt) ∗ rr3 A c ∗ anyPts c mOut ∗ anyPts c mRed) (sumDev (F := F) c)
      iprop(pts c mOwn (ownV (A c) c.isLt) ∗ rr3 A c ∗ covPts c mOut (outV A c) (∅ ∪ rowsO c.val) ∗ pts c mRed (redV A c)) := by
  intro Kt
  unfold sumDev rr3
  iintro ⟨⟨HO, ⟨H1, H2, H3⟩, ⟨%f, HT⟩, ⟨%g, HR⟩⟩, Hk⟩
  iapply (class_load c mOwn (ownV (A c) c.isLt) (ownV (A c) c.isLt) (rdClass (ownV (A c) c.isLt)) _ Kt)
  isplitl [HO]
  · iexact HO
  iintro HO
  iapply (slot_load c mRr (o1 c).isLt (rrV A c) (partV (A (o1 c)) c.isLt) (rr_slot A c (o1 c)).symm _ Kt)
  isplitl [H1]
  · iexact H1
  iintro H1
  iapply (slot_load c mRr (o2 c).isLt (rrV A c) (partV (A (o2 c)) c.isLt) (rr_slot A c (o2 c)).symm _ Kt)
  isplitl [H2]
  · iexact H2
  iintro H2
  iapply (slot_load c mRr (o3 c).isLt (rrV A c) (partV (A (o3 c)) c.isLt) (rr_slot A c (o3 c)).symm _ Kt)
  isplitl [H3]
  · iexact H3
  iintro H3
  ihave HT := (covPts_empty c mOut (outV A c) f) $$ HT
  ihave HR := (covPts_empty c mRed (redV A c) g) $$ HR
  iapply (four_tri (R := iprop(pts c mRed (redV A c) ∗ covPts c mOut (outV A c) (((((∅ : Finset S1024x1024.Idx) ∪ (rectO c.isLt (show 0 < 4 by decide)).set) ∪ (rectO c.isLt (show 1 < 4 by decide)).set) ∪ (rectO c.isLt (show 2 < 4 by decide)).set)
      ∪ (rectO c.isLt (show 3 < 4 by decide)).set)))
    ((put_tri A c ∅ (show 0 < 4 by decide)).frame (covPts c mRed (redV A c) ∅)) ((put_tri A c _ (show 1 < 4 by decide)).frame _)
    ((put_tri A c _ (show 2 < 4 by decide)).frame _) ((put_tri A c _ (show 3 < 4 by decide)).frame _) (redStore_tri A c _) Kt)
  isplitl [HT HR]
  · isplitl [HT]
    · iexact HT
    iexact HR
  iintro ⟨HR, HT⟩
  iapply Hk
  isplitl [HO]
  · iexact HO
  isplitl [H1 H2 H3]
  · isplitl [H1]
    · iexact H1
    isplitl [H2]
    · iexact H2
    iexact H3
  isplitl [HT]
  · iapply (covPts_mono c mOut (outV A c) (rowsO_four c.isLt ∅))
    iexact HT
  iexact HR

end Cert.KernelIdeal.Gen

end
-- ==== Proof.Sched.lean ====
/-
  The protocol between the devices: one barrier cell and sixteen transfer cells on each device, what
  each is paid and by whom, and what each device owes.
-/
module

public import proofs.«01_k».proof.Proof.Class

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb (URounds (GSem nD τ sig) (Dev nD)) 𝕄 := embR

/-! ## Cells -/

/-- Transfer semaphore i of the array k: the partial products sent and received, the reduced classes
    sent and received. -/
def semNo (k i : Fin 4) : DmaSem sig :=
  match k with
  | 0 => semOf cc0_scratch10 i.isLt
  | 1 => semOf cc0_scratch11 i.isLt
  | 2 => semOf cc0_scratch12 i.isLt
  | 3 => semOf cc0_scratch13 i.isLt
abbrev sm (p : Fin 4 × Fin 4) : SemLoc sig := .dma (semNo p.1 p.2)
theorem sm_inj : Function.Injective sm := by decide
theorem sm_ne_bar (p : Fin 4 × Fin 4) : sm p ≠ .reg barS := fun h => by cases h

abbrev barCell (c : Dev nD) : GSem nD τ sig := ((c : Thread nD τ), .reg barS)
abbrev dcell (k : Fin 4) (c : Dev nD) (i : Fin 4) : GSem nD τ sig := ((c : Thread nD τ), sm (k, i))

open Classical in
/-- Which transfer semaphore a semaphore is. -/
def dec (s : SemLoc sig) : Option (Fin 4 × Fin 4) := if h : ∃ p, sm p = s then some h.choose else none
theorem dec_sm (p : Fin 4 × Fin 4) : dec (sm p) = some p := by
  unfold dec
  have h : ∃ q, sm q = sm p := ⟨p, rfl⟩
  rw [dif_pos h]
  exact congrArg some (sm_inj h.choose_spec)

/-- The units of one transfer. -/
abbrev NN : ℕ := (slot mRr (show 0 < 4 by decide)).view.dmaCredit
theorem NN_pos : 0 < NN := View.dmaCredit_pos _ (by decide)

/-- The part of the reduced class that the transfer to device o takes. -/
def sh (c o : Dev nD) : PosShare TreeShare :=
  if o = o1 c then fullShare.left else if o = o2 c then fullShare.right.left else fullShare.right.right

variable (A : Dev nD → Ins F)

/-! ## What is paid -/

/-- What device e hands device c at the barrier: the two slots c writes on e, and that the two cells c raises there are open. -/
def barPay (c e : Dev nD) : sProp 𝕄 :=
  iprop(anySlot e mRr c.isLt ∗ anySlot e mAg c.isLt ∗ reached ER (dcell 1 e c) 0 ∗ reached ER (dcell 3 e c) 0)
/-- The reduced class, in part. -/
def redPts (c o : Dev nD) : sProp 𝕄 := (mRed.view.loc (c : Thread nD τ) ↦{sh c o} (redV A c))
/-- What a transfer cell of device c is paid. -/
def dmaPay (c : Dev nD) (p : Fin 4 × Fin 4) : sProp 𝕄 :=
  match p.1 with
  | 0 => slotPts c mRs p.2.isLt (rsV (A c))
  | 1 => slotPts c mRr p.2.isLt (rrV A c)
  | 2 => redPts A c p.2
  | 3 => slotPts c mAg p.2.isLt (agV A)

/-- The schedule: one round; the barrier cell paid by each other device, a transfer cell by its one transfer. -/
def rd0 : Rounds.Schedule (GSem nD τ sig) (Dev nD) 𝕄 where
  duties g r :=
    if r = 0 ∧ g.1.2 = .tc then
      if g.2 = .reg barS then Finset.univ.erase g.1.1
      else match dec g.2 with
        | some p => if p.2 = g.1.1 then ∅ else {0}
        | none => ∅
    else ∅
  unitless _ := False
  amount g _ _ := if g.2 = .reg barS then 1 else NN
  payload g _ d :=
    if g.2 = .reg barS then barPay g.1.1 d
    else match dec g.2 with
      | some p => dmaPay A g.1.1 p
      | none => iprop(emp)
  amount_pos g _ _ _ := by
    by_cases h : g.2 = .reg barS
    · rw [if_pos h]
      exact Nat.one_pos
    · rw [if_neg h]
      exact NN_pos

instance slotPts_storable {e : EltTy} (c : Dev nD) (m : VM S4x256x1024 e) {s : ℕ} (hs : s < 4) (f : m.view.ty.Contents (Elt F)) :
    BI.Storable (upEmb : UEmb _ 𝕄) (slotPts c m hs f) := by
  unfold slotPts
  infer_instance
instance anySlot_storable {e : EltTy} (c : Dev nD) (m : VM S4x256x1024 e) {s : ℕ} (hs : s < 4) :
    BI.Storable (upEmb : UEmb _ 𝕄) (anySlot (F := F) c m hs) := by
  unfold anySlot
  infer_instance
instance redPts_storable (c o : Dev nD) : BI.Storable (upEmb : UEmb _ 𝕄) (redPts A c o) := by
  unfold redPts
  infer_instance
instance barPay_storable (c e : Dev nD) : BI.Storable (upEmb : UEmb _ 𝕄) (barPay (F := F) c e) := by
  unfold barPay
  infer_instance

instance dmaPay_storable (c : Dev nD) (p : Fin 4 × Fin 4) : BI.Storable (upEmb : UEmb _ 𝕄) (dmaPay A c p) := by
  obtain ⟨k, i⟩ := p
  unfold dmaPay
  fin_cases k <;> (dsimp only; infer_instance)

instance rd0_storable (g : GSem nD τ sig) (r : ℕ) (d : Dev nD) :
    BI.Storable (upEmb : UEmb _ 𝕄) ((rd0 (F := F) A).payload g r d) := by
  show BI.Storable upEmb (if g.2 = .reg barS then barPay g.1.1 d
    else match dec g.2 with
      | some p => dmaPay A g.1.1 p
      | none => iprop(emp))
  split
  · infer_instance
  · split <;> infer_instance

theorem duties_bar (c : Dev nD) : (rd0 (F := F) A).duties (barCell c) 0 = Finset.univ.erase c := by
  dsimp only [rd0]
  rw [if_pos ⟨rfl, rfl⟩, if_pos rfl]
theorem duties_dma (k : Fin 4) {c i : Dev nD} (h : i ≠ c) : (rd0 (F := F) A).duties (dcell k c i) 0 = {0} := by
  dsimp only [rd0]
  rw [if_pos ⟨rfl, rfl⟩, if_neg (sm_ne_bar _), dec_sm]
  exact if_neg h
theorem duties_own (k : Fin 4) (c : Dev nD) (r : ℕ) : (rd0 (F := F) A).duties (dcell k c c) r = ∅ := by
  dsimp only [rd0]
  split
  · rw [if_neg (sm_ne_bar _), dec_sm]
    exact if_pos rfl
  · rfl
theorem duties_later (g : GSem nD τ sig) : ∀ r, 1 ≤ r → (rd0 (F := F) A).duties g r = ∅ := fun r hr => by
  dsimp only [rd0]
  rw [if_neg (fun h => by omega)]

theorem amount_bar (c d : Dev nD) : (rd0 (F := F) A).amount (barCell c) 0 d = 1 := by
  dsimp only [rd0]
  exact if_pos rfl
theorem amount_dma (k : Fin 4) (c i d : Dev nD) : (rd0 (F := F) A).amount (dcell k c i) 0 d = NN := by
  dsimp only [rd0]
  exact if_neg (sm_ne_bar _)
theorem expect_bar (c : Dev nD) : (rd0 (F := F) A).expect (barCell c) 0 = 3 := by
  unfold Schedule.expect Schedule.amountOf
  rw [duties_bar, Finset.sum_congr rfl fun d _ => amount_bar A c d]
  rw [Finset.sum_const, Finset.card_erase_of_mem (Finset.mem_univ c)]
  rfl
theorem expect_dma (k : Fin 4) {c i : Dev nD} (h : i ≠ c) : (rd0 (F := F) A).expect (dcell k c i) 0 = NN := by
  unfold Schedule.expect Schedule.amountOf
  rw [duties_dma A k h, Finset.sum_singleton, amount_dma]
theorem payload_bar (c e : Dev nD) : (rd0 (F := F) A).payload (barCell c) 0 e = barPay c e := by
  dsimp only [rd0]
  exact if_pos rfl
theorem payload_dma (k : Fin 4) (c i d : Dev nD) : (rd0 (F := F) A).payload (dcell k c i) 0 d = dmaPay A c (k, i) := by
  dsimp only [rd0]
  rw [if_neg (sm_ne_bar _), dec_sm]
theorem rest_dma (k : Fin 4) {c i : Dev nD} (h : i ≠ c) :
    bigSep ((rd0 (F := F) A).duties (dcell k c i) 0 \ ∅) (fun u => (rd0 (F := F) A).payload (dcell k c i) 0 u) = dmaPay A c (k, i) := by
  rw [Finset.sdiff_empty, duties_dma A k h, bigSep_singleton, payload_dma]

/-! ## The other devices -/

theorem o1_ne : ∀ c : Dev nD, o1 c ≠ c := by decide
theorem o2_ne : ∀ c : Dev nD, o2 c ≠ c := by decide
theorem o3_ne : ∀ c : Dev nD, o3 c ≠ c := by decide
theorem n1_ne : ∀ c : Dev nD, n1 c ≠ c := by decide
theorem n2_ne : ∀ c : Dev nD, n2 c ≠ c := by decide
theorem n3_ne : ∀ c : Dev nD, n3 c ≠ c := by decide
theorem erase_o : ∀ c : Dev nD, (Finset.univ.erase c : Finset (Dev nD)) = {o1 c, o2 c, o3 c} := by decide
theorem erase_n : ∀ c : Dev nD, (Finset.univ.erase c : Finset (Dev nD)) = {n1 c, n2 c, n3 c} := by decide
theorem o_apart : ∀ c : Dev nD, o1 c ∉ ({o2 c, o3 c} : Finset (Dev nD)) ∧ o2 c ∉ ({o3 c} : Finset (Dev nD)) := by decide
theorem n_apart : ∀ c : Dev nD, n1 c ∉ ({n2 c, n3 c} : Finset (Dev nD)) ∧ n2 c ∉ ({n3 c} : Finset (Dev nD)) := by decide
theorem dev_cases : ∀ q c : Dev nD, q = c ∨ q = o1 c ∨ q = o2 c ∨ q = o3 c := by decide

theorem others_o (c : Dev nD) (Φ : Dev nD → sProp 𝕄) :
    bigSep (Finset.univ.erase c) Φ = iprop(Φ (o1 c) ∗ Φ (o2 c) ∗ Φ (o3 c)) := by
  rw [erase_o, bigSep_insert (o_apart c).1, bigSep_insert (o_apart c).2, bigSep_singleton]
  rfl
theorem others_n (c : Dev nD) (Φ : Dev nD → sProp 𝕄) :
    bigSep (Finset.univ.erase c) Φ = iprop(Φ (n1 c) ∗ Φ (n2 c) ∗ Φ (n3 c)) := by
  rw [erase_n, bigSep_insert (n_apart c).1, bigSep_insert (n_apart c).2, bigSep_singleton]
  rfl
theorem rest_bar (c : Dev nD) :
    bigSep ((rd0 (F := F) A).duties (barCell c) 0 \ ∅) (fun u => (rd0 (F := F) A).payload (barCell c) 0 u)
      = iprop(barPay c (o1 c) ∗ barPay c (o2 c) ∗ barPay c (o3 c)) := by
  rw [Finset.sdiff_empty, duties_bar, bigSep_congr fun e _ => payload_bar A c e, others_o]

/-! ## What each device owes, and the levels -/

/-- The transfers of the reduced class still owed, the last first. -/
def ag3 (c : Dev nD) : CellTallies nD τ sig Unit := 0 + tallyAt (dcell 3 (o3 c) c) () NN
def ag2 (c : Dev nD) : CellTallies nD τ sig Unit := ag3 c + tallyAt (dcell 3 (o2 c) c) () NN
def ag1 (c : Dev nD) : CellTallies nD τ sig Unit := ag2 c + tallyAt (dcell 3 (o1 c) c) () NN
/-- And the partial products. -/
def rs3 (c : Dev nD) : CellTallies nD τ sig Unit := ag1 c + tallyAt (dcell 1 (o3 c) c) () NN
def rs2 (c : Dev nD) : CellTallies nD τ sig Unit := rs3 c + tallyAt (dcell 1 (o2 c) c) () NN
def rs1 (c : Dev nD) : CellTallies nD τ sig Unit := rs2 c + tallyAt (dcell 1 (o1 c) c) () NN
/-- And the barrier's units. -/
def br3 (c : Dev nD) : CellTallies nD τ sig Unit := rs1 c + tallyAt (barCell (n3 c)) () 1
def br2 (c : Dev nD) : CellTallies nD τ sig Unit := br3 c + tallyAt (barCell (n2 c)) () 1
def O₀ (c : Dev nD) : CellTallies nD τ sig Unit := br2 c + tallyAt (barCell (n1 c)) () 1

def L (g : GSem nD τ sig) : Finset Unit := if g.1.2 = .tc then {()} else ∅
/-- Barrier cells at 1, received partial products at 2, received classes at 3, the rest at 0. -/
def lv (g : GSem nD τ sig) (_ : Unit) : ℕ :=
  if g.2 = .reg barS then 1
  else match dec g.2 with
    | some p => if p.1 = 1 then 2 else if p.1 = 3 then 3 else 0
    | none => 0
theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) (u : Unit) : lv (barCell c) u = 1 := if_pos rfl
theorem lv_dma (k : Fin 4) (c i : Dev nD) (u : Unit) : lv (dcell k c i) u = if k = 1 then 2 else if k = 3 then 3 else 0 := by
  unfold lv
  rw [if_neg (sm_ne_bar _), dec_sm]

theorem tally_pos {O : CellTallies nD τ sig Unit} {g' g : GSem nD τ sig} {n : ℕ} {u : Unit} (h : 0 < (O + tallyAt g' () n) g u) :
    0 < O g u ∨ g = g' := by
  rw [Pi.add_apply, Finsupp.add_apply] at h
  rcases Nat.add_pos_iff_pos_or_pos.mp h with h | h
  · exact .inl h
  · rw [tallyAt_apply] at h
    split at h
    · next hg => exact .inr hg.1
    · exact absurd h (Nat.lt_irrefl 0)

theorem ag1_pos {c : Dev nD} {g : GSem nD τ sig} {u : Unit} (h : 0 < ag1 c g u) : ∃ e : Dev nD, g = dcell 3 e c := by
  rcases tally_pos h with h | h
  · rcases tally_pos h with h | h
    · rcases tally_pos h with h | h
      · exact absurd h (Nat.lt_irrefl 0)
      · exact ⟨_, h⟩
    · exact ⟨_, h⟩
  · exact ⟨_, h⟩
theorem rs1_pos {c : Dev nD} {g : GSem nD τ sig} {u : Unit} (h : 0 < rs1 c g u) : ∃ e : Dev nD, g = dcell 3 e c ∨ g = dcell 1 e c := by
  rcases tally_pos h with h | h
  · rcases tally_pos h with h | h
    · rcases tally_pos h with h | h
      · exact (ag1_pos h).imp fun _ => .inl
      · exact ⟨_, .inr h⟩
    · exact ⟨_, .inr h⟩
  · exact ⟨_, .inr h⟩
theorem O₀_pos {c : Dev nD} {g : GSem nD τ sig} {u : Unit} (h : 0 < O₀ c g u) :
    ∃ e : Dev nD, g = dcell 3 e c ∨ g = dcell 1 e c ∨ g = barCell e := by
  rcases tally_pos h with h | h
  · rcases tally_pos h with h | h
    · rcases tally_pos h with h | h
      · exact (rs1_pos h).imp fun _ h => h.imp id .inl
      · exact ⟨_, .inr (.inr h)⟩
    · exact ⟨_, .inr (.inr h)⟩
  · exact ⟨_, .inr (.inr h)⟩

theorem mayWait_bar (c : Dev nD) : (levAts L lv : sProp 𝕄) ⊢ MayWait (c : Thread nD τ) (.reg barS) () (rs1 c) :=
  MayOwe.of_cut (L := L) (lev := lv) 1 (fun p hp => by rw [Finset.mem_singleton.mp hp, L_tc]; exact Finset.mem_singleton_self _)
    (fun g u hg => by
      obtain ⟨e, rfl | rfl⟩ := rs1_pos hg <;> (rw [L_tc]; exact Finset.mem_singleton_self _))
    (fun p hp => by rw [Finset.mem_singleton.mp hp, lv_bar])
    (fun g u hg => by
      obtain ⟨e, rfl | rfl⟩ := rs1_pos hg <;> (rw [lv_dma]; decide))

theorem mayWait_rs (c i : Dev nD) : (levAts L lv : sProp 𝕄) ⊢ MayWait (c : Thread nD τ) (sm (1, i)) () (ag1 c) :=
  MayOwe.of_cut (L := L) (lev := lv) 2 (fun p hp => by rw [Finset.mem_singleton.mp hp, L_tc]; exact Finset.mem_singleton_self _)
    (fun g u hg => by
      obtain ⟨e, rfl⟩ := ag1_pos hg
      rw [L_tc]
      exact Finset.mem_singleton_self _)
    (fun p hp => by
      rw [Finset.mem_singleton.mp hp, lv_dma]
      decide)
    (fun g u hg => by
      obtain ⟨e, rfl⟩ := ag1_pos hg
      rw [lv_dma]
      decide)

end Cert.KernelIdeal.Gen

end
-- ==== Proof.Comm.lean ====
/-
  The stages in which the devices meet: the barrier, the copies, and the waits.
-/
module

public import proofs.«01_k».proof.Proof.Sched

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Ins F)

/-! ## The records every device may consult -/

def barEmb : Dev nD ↪ GSem nD τ sig := ⟨fun c => barCell c, fun _ _ h => congrArg (fun g : GSem nD τ sig => g.1.1) h⟩
def dmaEmb : Dev nD × (Fin 4 × Fin 4) ↪ GSem nD τ sig :=
  ⟨fun x => ((x.1 : Thread nD τ), sm x.2), fun _ _ h =>
    Prod.ext (congrArg (fun g : GSem nD τ sig => g.1.1) h) (sm_inj (congrArg Prod.snd h))⟩
abbrev barCells : Finset (GSem nD τ sig) := Finset.univ.map barEmb
abbrev dmaCells : Finset (GSem nD τ sig) := Finset.univ.map dmaEmb

theorem bar_mem (c : Dev nD) : barCell c ∈ (barCells ∪ dmaCells : Finset (GSem nD τ sig)) :=
  Finset.mem_union_left _ (Finset.mem_map_of_mem barEmb (Finset.mem_univ c))
theorem dma_mem (k : Fin 4) (c i : Dev nD) : dcell k c i ∈ (barCells ∪ dmaCells : Finset (GSem nD τ sig)) :=
  Finset.mem_union_right _ (Finset.mem_map_of_mem dmaEmb (Finset.mem_univ (c, (k, i))))

/-- Every cell's invariant under one map of names; round 0 of every barrier cell reached. -/
def records (κ : GSem nD τ sig → ℕ) : sProp 𝕄 :=
  iprop((bigSep (barCells ∪ dmaCells) fun g => cellInv ER (rd0 A) (κ g) g) ∗ bigSep barCells fun g => reached ER g 0)
/-- With the levels. -/
def Rec (κ : GSem nD τ sig → ℕ) : sProp 𝕄 := iprop(records A κ ∗ levAts L lv)

instance records_persistent (κ : GSem nD τ sig → ℕ) : BI.Persistent (records A κ) := by
  unfold records
  infer_instance
instance Rec_persistent (κ : GSem nD τ sig → ℕ) : BI.Persistent (Rec A κ) := by
  unfold Rec
  infer_instance

variable (κ : GSem nD τ sig → ℕ)

theorem Rec_inv {g : GSem nD τ sig} (hg : g ∈ (barCells ∪ dmaCells : Finset (GSem nD τ sig))) : Rec A κ ⊢ cellInv ER (rd0 A) (κ g) g := by
  unfold Rec records
  iintro ⟨⟨H, -⟩, -⟩
  iapply (show (bigSep (barCells ∪ dmaCells) fun g => (cellInv ER (rd0 A) (κ g) g : sProp 𝕄)) ⊢ cellInv ER (rd0 A) (κ g) g from bigSep_elim hg)
  iexact H
theorem Rec_reached (c : Dev nD) : Rec A κ ⊢ reached ER (barCell c) 0 := by
  unfold Rec records
  iintro ⟨⟨-, H⟩, -⟩
  iapply (show (bigSep barCells fun g => (reached ER g 0 : sProp 𝕄)) ⊢ reached ER (barCell c) 0 from
    bigSep_elim (Finset.mem_map_of_mem barEmb (Finset.mem_univ c)))
  iexact H
theorem Rec_lev : Rec A κ ⊢ levAts L lv := by
  unfold Rec
  iintro ⟨-, H⟩
  iexact H

/-- What a device owes, whatever waits it has made. -/
def owesA (c : Dev nD) (O : CellTallies nD τ sig Unit) : sProp 𝕄 := iprop(∃ W, owes (c : Thread nD τ) O W)

/-! ## Waits -/

theorem wait_tri (c : Dev nD) (k : Fin 4) {i : Dev nD} (hi : i ≠ c) (O : CellTallies nD τ sig Unit)
    (hO : (levAts L lv : sProp 𝕄) ⊢ MayWait (c : Thread nD τ) (sm (k, i)) () O) (src dst : VM S256x1024 .bf16)
    (hN : dst.view.dmaCredit = NN) (h1 : src.view.WordExact) (h2 : dst.view.WordExact) {s : DmaSem sig} (hs : s = semNo k i)
    {pay : sProp 𝕄} (hp : dmaPay A c (k, i) = pay) :
    Tri c iprop(Rec A κ ∗ cred (tallyAt (dcell k c i) () NN) ∗ owesA c O ∗ atPos ER (dcell k c i) 0 ∅ 0)
      (Prog.lift (.waitDma2 s src dst h1 h2)) iprop(owesA c O ∗ atPos ER (dcell k c i) 1 ∅ 0 ∗ pay) := by
  subst hs
  subst hp
  intro Kt
  unfold owesA Prog.lift
  iintro ⟨⟨#HR, Hc, ⟨%W, HO⟩, Hat⟩, Hk⟩
  iapply (Rounds.wp_wait_rest_token 𝒱₀ ER (rd0 A) (c : Thread nD τ) none (κ := κ (dcell k c i))
      (wpE_waitDma2_eq (src := src) (dst := dst) 𝒱₀ (c : Thread nD τ) none Set.univ) (Set.mem_univ _) () (O := O) (W := W) (R := 0) (m := 0) (T := ∅)
      ((Nat.zero_add _).trans (hN.trans (expect_dma A k hi).symm))) $$ [Hc HO Hat]
  · rw [hN]
    isplitr
    · iapply (Rec_inv A κ (dma_mem k c i))
      iexact HR
    isplitl [Hc]
    · iexact Hc
    isplitl [HO]
    · iexact HO
    isplitr
    · iapply hO
      iapply (Rec_lev A κ)
      iexact HR
    iexact Hat
  iintro ⟨HO, Hat, -, Hpay⟩
  ihave Hpay := (Entails.of_eq (rest_dma A k hi)) $$ Hpay
  rw [wp_ret]
  imodintro
  iapply Hk
  isplitl [HO]
  · iexists _
    iexact HO
  isplitl [Hat]
  · iexact Hat
  iexact Hpay

theorem none_owed (c : Dev nD) (s : SemLoc sig) : (levAts L lv : sProp 𝕄) ⊢ MayWait (c : Thread nD τ) s () 0 := by
  rw [MayWait_zero]
  iintro -
  iempintro

/-- The partial product of device o. -/
theorem recv_tri (c : Dev nD) {o : Dev nD} (ho : o ≠ c) :
    Tri c iprop(Rec A κ ∗ cred (tallyAt (dcell 1 c o) () NN) ∗ owesA c (ag1 c) ∗ atPos ER (dcell 1 c o) 0 ∅ 0) (recvDev o)
      iprop(owesA c (ag1 c) ∗ atPos ER (dcell 1 c o) 1 ∅ 0 ∗ slotPts c mRr o.isLt (rrV A c)) :=
  wait_tri A κ c 1 ho (ag1 c) (mayWait_rs c o) (slot mRs o.isLt) (slot mRr o.isLt) rfl (((isW_ cc0_scratch6).wordExact_slice rfl _ (wordsS o.isLt)).reshape _ _) (((isW_ cc0_scratch7).wordExact_slice rfl _ (wordsS o.isLt)).reshape _ _) rfl rfl

/-- A slot sent has left. -/
theorem sent_tri (c : Dev nD) {o : Dev nD} (ho : o ≠ c) :
    Tri c iprop(Rec A κ ∗ cred (tallyAt (dcell 0 c o) () NN) ∗ owesA c (0) ∗ atPos ER (dcell 0 c o) 0 ∅ 0) (sentDev c o)
      iprop(owesA c (0) ∗ atPos ER (dcell 0 c o) 1 ∅ 0 ∗ slotPts c mRs o.isLt (rsV (A c))) :=
  wait_tri A κ c 0 ho (0) (none_owed c _) (slot mRr c.isLt) (slot mRs o.isLt) rfl (((isW_ cc0_scratch7).wordExact_slice rfl _ (wordsS c.isLt)).reshape _ _) (((isW_ cc0_scratch6).wordExact_slice rfl _ (wordsS o.isLt)).reshape _ _) rfl rfl

/-- The reduced class of device o. -/
theorem got_tri (c : Dev nD) {o : Dev nD} (ho : o ≠ c) :
    Tri c iprop(Rec A κ ∗ cred (tallyAt (dcell 3 c o) () NN) ∗ owesA c (0) ∗ atPos ER (dcell 3 c o) 0 ∅ 0) (gotDev o)
      iprop(owesA c (0) ∗ atPos ER (dcell 3 c o) 1 ∅ 0 ∗ slotPts c mAg o.isLt (agV A)) :=
  wait_tri A κ c 3 ho (0) (none_owed c _) (mRed) (slot mAg o.isLt) rfl (isW_ cc0_scratch8).wordExact (((isW_ cc0_scratch9).wordExact_slice rfl _ (wordsS o.isLt)).reshape _ _) rfl rfl

/-- The reduced class sent has left. -/
theorem gone_tri (c : Dev nD) {o : Dev nD} (ho : o ≠ c) :
    Tri c iprop(Rec A κ ∗ cred (tallyAt (dcell 2 c o) () NN) ∗ owesA c (0) ∗ atPos ER (dcell 2 c o) 0 ∅ 0) (goneDev c o)
      iprop(owesA c (0) ∗ atPos ER (dcell 2 c o) 1 ∅ 0 ∗ redPts A c o) :=
  wait_tri A κ c 2 ho (0) (none_owed c _) (slot mAg c.isLt) (mRed) rfl (((isW_ cc0_scratch9).wordExact_slice rfl _ (wordsS c.isLt)).reshape _ _) (isW_ cc0_scratch8).wordExact rfl rfl

/-! ## Copies -/

theorem slot_set {e : EltTy} (m : VM S4x256x1024 .bf16) {s : ℕ} (hs : s < 4) : (slot m hs).view.set = (m.access (rectS hs)).set :=
  View.set_reshape _ _

/-- A slot read as the class it carries. -/
abbrev flat : S256x1024.Idx ≃ S1x256x1024.Idx :=
  Shape.reshapeEquiv (s := S1x256x1024) (s' := S256x1024) (by decide)

theorem rs_lands (c o : Dev nD) (f : (slot mRr c.isLt).view.ty.Contents (Elt F)) :
    ∀ i ∈ (mRr.access (rectS c.isLt)).set,
      (slot mRr c.isLt).view.write (Elt F) f ((slot mRs o.isLt).view.read (Elt F) (rsV (A c))) Finset.univ i = rrV A o i := by
  rw [← slot_set (e := .bf16)]
  refine write_agree (slot mRr c.isLt).view f (rrV A o) (funext fun x => ?_)
  show rd (rectS o.isLt) (rsV (A c)) (Shape.reshapeEquiv _ x) = rd (rectS c.isLt) (rrV A o) (Shape.reshapeEquiv _ x)
  rw [← rs_slot (A c) o.isLt, ← rr_slot A o c]

theorem flat_val (h : S256x1024.numel = S1x256x1024.numel) (x : S256x1024.Idx) :
    Shape.reshapeEquiv h x = ixS (i := (x 0).val) (j := (x 1).val) (ltC_row x) (ltC_col x) := by
  refine Shape.reshapeEquiv_eq_of_rowMajor h ?_
  rw [Shape.rowMajor_val_three, Shape.rowMajor_val_two]
  show (0 * 256 + (x 0).val) * 1024 + (x 1).val = (x 0).val * 1024 + (x 1).val
  rw [Nat.zero_mul, Nat.zero_add]

theorem ag_lands (c : Dev nD) (f : (slot mAg c.isLt).view.ty.Contents (Elt F)) :
    ∀ i ∈ (mAg.access (rectS c.isLt)).set,
      (slot mAg c.isLt).view.write (Elt F) f (mRed.view.read (Elt F) (redV A c)) Finset.univ i = agV A i := by
  rw [← slot_set (e := .bf16)]
  refine write_agree (slot mAg c.isLt).view f (agV A) (funext fun x => ?_)
  show redV A c x = rd (rectS c.isLt) (agV A) (Shape.reshapeEquiv _ x)
  rw [flat_val]
  have key : ∀ (q : Dev nD) (k : S256x1024.Idx), q = c → k = x → redV A c x = redV A q k := by
    intro q k e1 e2
    subst e1
    subst e2
    rfl
  refine key ⟨c.val + 1 * 0, c.isLt⟩ _ rfl (funext fun a => Fin.ext ?_)
  match a with
  | ⟨0, _⟩ =>
    show 0 + 1 * (x 0).val = (x 0).val
    omega
  | ⟨1, _⟩ =>
    show 0 + 1 * (x 1).val = (x 1).val
    omega

theorem red_set : mRed.view.set = Finset.univ := View.set_whole _

/-- The partial product of class o on its way to device o. -/
theorem dma_tri (c : Dev nD) {o : Dev nD} (ho : o ≠ c) (O : CellTallies nD τ sig Unit) :
    Tri c iprop(Rec A κ ∗ slotPts c mRs o.isLt (rsV (A c)) ∗ anySlot o mRr c.isLt ∗ reached ER (dcell 1 o c) 0
        ∗ owesA c (O + tallyAt (dcell 1 o c) () NN) ∗ dutyTok ER (dcell 0 c o) 0 0 ∗ reached ER (dcell 0 c o) 0 ∗ dutyTok ER (dcell 1 o c) 0 0)
      (dmaDev c o o.isLt) iprop(owesA c O ∗ cred (tallyAt (dcell 0 c o) () NN)) := by
  intro Kt
  unfold dmaDev owesA Prog.lift anySlot slotPts
  iintro ⟨⟨#HR, Hs, ⟨%f, Hd⟩, Hr1, ⟨%W, HO⟩, Ht0, Hr0, Ht1⟩, Hk⟩
  iapply (Rounds.wp_send_pointsTo 𝒱₀ ER (rd0 A) (c : Thread nD τ) none (c' := (o : Thread nD τ)) (src := slot mRs o.isLt) (dst := slot mRr c.isLt)
      (sS := sm (0, o)) (sem := sm (1, c)) (q := fullShare) (fs := rsV (A c)) (κ₁ := κ (dcell 0 c o)) (κ₂ := κ (dcell 1 o c))
      (r₁ := 0) (r₂ := 0) (d₁ := 0) (d₂ := 0) (fd := f)
      (by rw [duties_dma A 0 ho]; exact Finset.mem_singleton_self _) (by rw [duties_dma A 1 ho.symm]; exact Finset.mem_singleton_self _)
      () () NN rfl (amount_dma A 0 c o 0) (amount_dma A 1 o c 0) O rfl (W := W)
      (by rw [payload_dma, slot_set (e := .bf16)]; exact BI.Entails.refl _)
      (by rw [payload_dma, slot_set (e := .bf16)]; exact Entails.of_eq (pointsTo_congr (rs_lands A c o f)))) $$ [Hs Hd Hr1 HO Ht0 Hr0 Ht1]
  · isplitr
    · iapply (Rec_inv A κ (dma_mem 0 c o))
      iexact HR
    isplitr
    · iapply (Rec_inv A κ (dma_mem 1 o c))
      iexact HR
    rw [slot_set (e := .bf16), slot_set (e := .bf16)]
    isplitl [Hs]
    · iexact Hs
    isplitl [Hd]
    · iexact Hd
    isplitl [HO]
    · iexact HO
    isplitl [Ht0]
    · iexact Ht0
    isplitl [Hr0]
    · iexact Hr0
    isplitl [Ht1]
    · iexact Ht1
    iexact Hr1
  iintro ⟨Hc, HO⟩
  rw [wp_ret]
  imodintro
  iapply Hk
  isplitl [HO]
  · iexists _
    iexact HO
  iexact Hc

/-- The reduced class on its way to device o. -/
theorem cast_tri (c : Dev nD) {o : Dev nD} (ho : o ≠ c) (O : CellTallies nD τ sig Unit) :
    Tri c iprop(Rec A κ ∗ redPts A c o ∗ anySlot o mAg c.isLt ∗ reached ER (dcell 3 o c) 0
        ∗ owesA c (O + tallyAt (dcell 3 o c) () NN) ∗ dutyTok ER (dcell 2 c o) 0 0 ∗ reached ER (dcell 2 c o) 0 ∗ dutyTok ER (dcell 3 o c) 0 0)
      (castDev c o) iprop(owesA c O ∗ cred (tallyAt (dcell 2 c o) () NN)) := by
  intro Kt
  unfold castDev castOps owesA Prog.lift anySlot slotPts redPts
  iintro ⟨⟨#HR, Hs, ⟨%f, Hd⟩, Hr1, ⟨%W, HO⟩, Ht0, Hr0, Ht1⟩, Hk⟩
  iapply (Rounds.wp_send_pointsTo 𝒱₀ ER (rd0 A) (c : Thread nD τ) none (c' := (o : Thread nD τ)) (src := mRed) (dst := slot mAg c.isLt)
      (sS := sm (2, o)) (sem := sm (3, c)) (q := sh c o) (fs := redV A c) (κ₁ := κ (dcell 2 c o)) (κ₂ := κ (dcell 3 o c))
      (r₁ := 0) (r₂ := 0) (d₁ := 0) (d₂ := 0) (fd := f)
      (by rw [duties_dma A 2 ho]; exact Finset.mem_singleton_self _) (by rw [duties_dma A 3 ho.symm]; exact Finset.mem_singleton_self _)
      () () NN rfl (amount_dma A 2 c o 0) (amount_dma A 3 o c 0) O rfl (W := W)
      (by rw [payload_dma, red_set]; exact BI.Entails.refl _)
      (by rw [payload_dma, slot_set (e := .bf16)]; exact Entails.of_eq (pointsTo_congr (ag_lands A c f)))) $$ [Hs Hd Hr1 HO Ht0 Hr0 Ht1]
  · isplitr
    · iapply (Rec_inv A κ (dma_mem 2 c o))
      iexact HR
    isplitr
    · iapply (Rec_inv A κ (dma_mem 3 o c))
      iexact HR
    rw [slot_set (e := .bf16), red_set]
    isplitl [Hs]
    · iexact Hs
    isplitl [Hd]
    · iexact Hd
    isplitl [HO]
    · iexact HO
    isplitl [Ht0]
    · iexact Ht0
    isplitl [Hr0]
    · iexact Hr0
    isplitl [Ht1]
    · iexact Ht1
    iexact Hr1
  iintro ⟨Hc, HO⟩
  rw [wp_ret]
  imodintro
  iapply Hk
  isplitl [HO]
  · iexists _
    iexact HO
  iexact Hc

/-! ## The barrier -/

/-- One unit to device e. -/
theorem signal_tri (c : Dev nD) {e : Dev nD} (he : e ≠ c) (O : CellTallies nD τ sig Unit) :
    Tri c iprop(Rec A κ ∗ owesA c (O + tallyAt (barCell e) () 1) ∗ dutyTok ER (barCell e) 0 c ∗ barPay e c)
      (semSignalWord e barS 1#32) (owesA c O) := by
  intro Kt
  unfold semSignalWord owesA
  iintro ⟨⟨#HR, ⟨%W, HO⟩, Ht, Hp⟩, Hk⟩
  iapply (Rounds.wp_signal 𝒱₀ ER (rd0 A) (c : Thread nD τ) none (dst := (e : Thread nD τ)) (sem := barS) (r := 0) (d := c) (κ := κ (barCell e))
      (by rw [duties_bar]; exact Finset.mem_erase.mpr ⟨he.symm, Finset.mem_univ _⟩) (amount_bar A e c) () O rfl) $$ [HO Ht Hp]
  · isplitr
    · iapply (Rec_inv A κ (bar_mem e))
      iexact HR
    isplitl [HO]
    · iexact HO
    isplitl [Ht]
    · iexact Ht
    isplitl [Hp]
    · rw [payload_bar]
      iexact Hp
    iapply (Rec_reached A κ e)
    iexact HR
  iintro HO
  rw [wp_ret]
  imodintro
  iapply Hk
  iexists _
  iexact HO

/-- The three units awaited. -/
theorem await_tri (c : Dev nD) :
    Tri c iprop(Rec A κ ∗ cred (tallyAt (barCell c) () 3) ∗ owesA c (rs1 c) ∗ atPos ER (barCell c) 0 ∅ 0)
      (semWaitWord barS 3#32) iprop(owesA c (rs1 c) ∗ atPos ER (barCell c) 1 ∅ 0 ∗ barPay c (o1 c) ∗ barPay c (o2 c) ∗ barPay c (o3 c)) := by
  intro Kt
  unfold semWaitWord owesA
  iintro ⟨⟨#HR, Hc, ⟨%W, HO⟩, Hat⟩, Hk⟩
  iapply (Rounds.wp_wait_rest_token 𝒱₀ ER (rd0 A) (c : Thread nD τ) none (κ := κ (barCell c))
      (wpE_semWait_eq 𝒱₀ (c : Thread nD τ) none Set.univ) (Set.mem_univ _) () (O := rs1 c) (W := W) (R := 0) (m := 0) (T := ∅)
      ((Nat.zero_add 3).trans (expect_bar A c).symm)) $$ [Hc HO Hat]
  · isplitr
    · iapply (Rec_inv A κ (bar_mem c))
      iexact HR
    isplitl [Hc]
    · iexact Hc
    isplitl [HO]
    · iexact HO
    isplitr
    · iapply (mayWait_bar c)
      iapply (Rec_lev A κ)
      iexact HR
    iexact Hat
  iintro ⟨HO, Hat, -, Hpay⟩
  ihave Hpay := (Entails.of_eq (rest_bar A c)) $$ Hpay
  rw [wp_ret]
  imodintro
  iapply Hk
  isplitl [HO]
  · iexists _
    iexact HO
  isplitl [Hat]
  · iexact Hat
  iexact Hpay

end Cert.KernelIdeal.Gen

end
-- ==== Proof.BodyRun.lean ====
/-
  The kernel's body on one device, whole.
-/
module

public import proofs.«01_k».proof.Proof.Comm

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Ins F) (κ : GSem nD τ sig → ℕ)

/-- A stage done, its continuation left to do. -/
theorem step_tri {c : Dev nD} {P Q : sProp 𝕄} {p : KProg F PUnit} (h : Tri c P p Q) (k : PUnit → KProg F PUnit) (Kt : PUnit → sProp 𝕄) :
    iprop(P ∗ (Q -∗ wp frame (wpE (defs₀ (F := F)) 𝒱₀ (c : Thread nD τ) none) Set.univ (k ⟨⟩) Kt))
      ⊢ wp frame (wpE (defs₀ (F := F)) 𝒱₀ (c : Thread nD τ) none) Set.univ (p >>= k) Kt := by
  iintro H
  iapply (wp_then c p k Kt)
  iapply (h _)
  iexact H

/-! ## Buffers cut and joined -/

theorem mem_slot {i : S4x256x1024.Idx} {s : ℕ} (hs : s < 4) : i ∈ (rectS hs).set ↔ (i 0).val = s := by
  have h1 := ltS_row i
  have h2 := ltS_col i
  rw [Rect.mem_set_unit]
  constructor
  · intro h
    have h0 := h 0
    change s ≤ (i 0).val ∧ (i 0).val < s + 1 at h0
    omega
  · intro h a
    match a with
    | ⟨0, _⟩ =>
      show s ≤ (i 0).val ∧ (i 0).val < s + 1
      omega
    | ⟨1, _⟩ =>
      show 0 ≤ (i 1).val ∧ (i 1).val < 0 + 256
      omega
    | ⟨2, _⟩ =>
      show 0 ≤ (i 2).val ∧ (i 2).val < 0 + 1024
      omega

theorem slots_apart (t : Dev nD) (t' : Dev nD) (hne : t ≠ t') : Disjoint (rectS t.isLt).set (rectS t'.isLt).set := by
  rw [Finset.disjoint_left]
  intro i hi hi'
  exact hne (Fin.ext (((mem_slot t.isLt).mp hi).symm.trans ((mem_slot t'.isLt).mp hi')))

/-- Slot t of a buffer, as elements of the buffer. -/
def slotSet {e : EltTy} (c : Dev nD) (m : VM S4x256x1024 e) (t : Dev nD) : Finset (Idx (m.view.loc (c : Thread nD τ))) := (m.access (rectS t.isLt)).set

section Slots

variable {e : EltTy} (m : VM S4x256x1024 e) (c : Dev nD)
  (hd : ∀ t ∈ (Finset.univ : Finset (Dev nD)), ∀ t' ∈ (Finset.univ : Finset (Dev nD)), t ≠ t' →
    Disjoint (slotSet c m t) (slotSet c m t'))
  (hu : (Finset.univ : Finset (Dev nD)).biUnion (slotSet c m) = Finset.univ)

include hd hu in
theorem cut_slots : (anyPts c m : sProp 𝕄) ⊢ bigSep Finset.univ fun i : Dev nD => anySlot c m i.isLt := by
  iintro ⟨%f, H⟩
  have e : (m.view.loc (c : Thread nD τ) ↦[(Finset.univ : Finset (Dev nD)).biUnion (slotSet c m)]{fullShare} f : sProp 𝕄) = _ :=
    pointsTo_biUnion (Finset.univ : Finset (Dev nD)) (slotSet c m) hd
  rw [hu] at e
  ihave H := (Entails.of_eq e) $$ H
  have h : (bigSep (Finset.univ : Finset (Dev nD)) fun i => (m.view.loc (c : Thread nD τ) ↦[slotSet c m i]{fullShare} f : sProp 𝕄))
      ⊢ bigSep (Finset.univ : Finset (Dev nD)) fun i => anySlot c m i.isLt := bigSep_mono fun i _ => by
    change (m.view.loc (c : Thread nD τ) ↦[slotSet c m i]{fullShare} f : sProp 𝕄) ⊢ iprop(∃ f : m.view.ty.Contents (Elt F), m.view.loc (c : Thread nD τ) ↦[slotSet c m i]{fullShare} f)
    iintro H
    iexists f
    iexact H
  iapply h
  iexact H

include hd hu in
theorem join_slots : (bigSep Finset.univ fun i : Dev nD => anySlot c m i.isLt) ⊢ (anyPts c m : sProp 𝕄) := by
  change (bigSep (Finset.univ : Finset (Dev nD)) fun i => iprop(∃ f : m.view.ty.Contents (Elt F), m.view.loc (c : Thread nD τ) ↦[slotSet c m i]{fullShare} f)) ⊢ _
  have hn : ∀ _ : Dev nD, Nonempty (m.view.ty.Contents (Elt F)) := fun _ => ⟨fun _ => Classical.choice inferInstance⟩
  iintro H
  ihave H := (bigSep_exists_pi (Y := fun _ : Dev nD => m.view.ty.Contents (Elt F)) Finset.univ
    (fun (i : Dev nD) (f : m.view.ty.Contents (Elt F)) => (m.view.loc (c : Thread nD τ) ↦[slotSet c m i]{fullShare} f : sProp 𝕄))) $$ H
  icases H with ⟨%fs, H⟩
  ihave H := (show bigSep (Finset.univ : Finset (Dev nD)) (fun t => (m.view.loc (c : Thread nD τ) ↦[slotSet c m t]{fullShare} fs t : sProp 𝕄)) ⊢ _ from
    pointsTo_biUnion_join (Finset.univ : Finset (Dev nD)) (slotSet c m) fs (fs 0) hd) $$ H
  icases H with ⟨%g, -, H⟩
  iexists g
  iapply (Entails.of_eq (congrArg (fun S => (m.view.loc (c : Thread nD τ) ↦[S]{fullShare} g : sProp 𝕄)) hu))
  iexact H

include hd hu in
theorem cut_o : (anyPts c m : sProp 𝕄) ⊢ iprop(anySlot c m c.isLt ∗ anySlot c m (o1 c).isLt ∗ anySlot c m (o2 c).isLt ∗ anySlot c m (o3 c).isLt) :=
  (cut_slots m c hd hu).trans (Entails.of_eq (by
    rw [bigSep_univ_at (fun i : Dev nD => (anySlot c m i.isLt : sProp 𝕄)) c, others_o c (fun i : Dev nD => (anySlot c m i.isLt : sProp 𝕄))]))
include hd hu in
theorem cut_n : (anyPts c m : sProp 𝕄) ⊢ iprop(anySlot c m c.isLt ∗ anySlot c m (n1 c).isLt ∗ anySlot c m (n2 c).isLt ∗ anySlot c m (n3 c).isLt) :=
  (cut_slots m c hd hu).trans (Entails.of_eq (by
    rw [bigSep_univ_at (fun i : Dev nD => (anySlot c m i.isLt : sProp 𝕄)) c, others_n c (fun i : Dev nD => (anySlot c m i.isLt : sProp 𝕄))]))
include hd hu in
theorem join_o : iprop(anySlot c m c.isLt ∗ anySlot c m (o1 c).isLt ∗ anySlot c m (o2 c).isLt ∗ anySlot c m (o3 c).isLt) ⊢ (anyPts c m : sProp 𝕄) :=
  (Entails.of_eq (by
    rw [bigSep_univ_at (fun i : Dev nD => (anySlot c m i.isLt : sProp 𝕄)) c, others_o c (fun i : Dev nD => (anySlot c m i.isLt : sProp 𝕄))])).trans (join_slots m c hd hu)

end Slots

theorem apart_Rs (c : Dev nD) : ∀ t ∈ (Finset.univ : Finset (Dev nD)), ∀ t' ∈ (Finset.univ : Finset (Dev nD)), t ≠ t' →
    Disjoint (slotSet c mRs t) (slotSet c mRs t') := by
  intro t _ t' _ hne
  unfold slotSet
  rw [acc_whole, acc_whole]
  exact slots_apart t t' hne
theorem all_Rs (c : Dev nD) : (Finset.univ : Finset (Dev nD)).biUnion (slotSet c mRs) = Finset.univ := by
  refine Finset.eq_univ_of_forall fun i => Finset.mem_biUnion.mpr ⟨⟨(i 0).val, ltS_slot i⟩, Finset.mem_univ _, ?_⟩
  unfold slotSet
  rw [acc_whole]
  exact (mem_slot (ltS_slot i)).mpr rfl

theorem apart_Rr (c : Dev nD) : ∀ t ∈ (Finset.univ : Finset (Dev nD)), ∀ t' ∈ (Finset.univ : Finset (Dev nD)), t ≠ t' →
    Disjoint (slotSet c mRr t) (slotSet c mRr t') := by
  intro t _ t' _ hne
  unfold slotSet
  rw [acc_whole, acc_whole]
  exact slots_apart t t' hne
theorem all_Rr (c : Dev nD) : (Finset.univ : Finset (Dev nD)).biUnion (slotSet c mRr) = Finset.univ := by
  refine Finset.eq_univ_of_forall fun i => Finset.mem_biUnion.mpr ⟨⟨(i 0).val, ltS_slot i⟩, Finset.mem_univ _, ?_⟩
  unfold slotSet
  rw [acc_whole]
  exact (mem_slot (ltS_slot i)).mpr rfl

theorem apart_Ag (c : Dev nD) : ∀ t ∈ (Finset.univ : Finset (Dev nD)), ∀ t' ∈ (Finset.univ : Finset (Dev nD)), t ≠ t' →
    Disjoint (slotSet c mAg t) (slotSet c mAg t') := by
  intro t _ t' _ hne
  unfold slotSet
  rw [acc_whole, acc_whole]
  exact slots_apart t t' hne
theorem all_Ag (c : Dev nD) : (Finset.univ : Finset (Dev nD)).biUnion (slotSet c mAg) = Finset.univ := by
  refine Finset.eq_univ_of_forall fun i => Finset.mem_biUnion.mpr ⟨⟨(i 0).val, ltS_slot i⟩, Finset.mem_univ _, ?_⟩
  unfold slotSet
  rw [acc_whole]
  exact (mem_slot (ltS_slot i)).mpr rfl

theorem slot_any {e : EltTy} (c : Dev nD) (m : VM S4x256x1024 e) {s : ℕ} (hs : s < 4) (f : m.view.ty.Contents (Elt F)) :
    (slotPts c m hs f : sProp 𝕄) ⊢ anySlot c m hs := by
  unfold anySlot
  iintro H
  iexists f
  iexact H

theorem o2_ne_o1 : ∀ c : Dev nD, o2 c ≠ o1 c := by decide
theorem o3_ne_o1 : ∀ c : Dev nD, o3 c ≠ o1 c := by decide
theorem o3_ne_o2 : ∀ c : Dev nD, o3 c ≠ o2 c := by decide

theorem cut_red (c : Dev nD) : (pts c mRed (redV A c) : sProp 𝕄) ⊢ iprop(redPts A c (o1 c) ∗ redPts A c (o2 c) ∗ redPts A c (o3 c)) := by
  unfold redPts sh
  rw [if_pos rfl, if_neg (o2_ne_o1 c), if_pos rfl, if_neg (o3_ne_o1 c), if_neg (o3_ne_o2 c)]
  iintro H
  ihave H := (pointsTo_share (PosShare.mem_left_op_right fullShare)).1 $$ H
  icases H with ⟨H1, H⟩
  ihave H := (pointsTo_share (PosShare.mem_left_op_right fullShare.right)).1 $$ H
  isplitl [H1]
  · iexact H1
  iexact H

theorem join_red (c : Dev nD) : iprop(redPts A c (o1 c) ∗ redPts A c (o2 c) ∗ redPts A c (o3 c)) ⊢ (pts c mRed (redV A c) : sProp 𝕄) := by
  unfold redPts sh
  rw [if_pos rfl, if_neg (o2_ne_o1 c), if_pos rfl, if_neg (o3_ne_o1 c), if_neg (o3_ne_o2 c)]
  iintro ⟨H1, H⟩
  iapply (pointsTo_share (PosShare.mem_left_op_right fullShare)).2
  isplitl [H1]
  · iexact H1
  iapply (pointsTo_share (PosShare.mem_left_op_right fullShare.right)).2
  iexact H

theorem out_full (c : Dev nD) : (covPts c mOut (outV A c) ((((∅ ∪ rowsO c.val) ∪ rowsO (o1 c).val) ∪ rowsO (o2 c).val) ∪ rowsO (o3 c).val) : sProp 𝕄)
    ⊢ pts c mOut (outV A c) := by
  refine covPts_full c mOut (outV A c) fun i => ?_
  have h := lt_row i
  have hq : (i 0).val / 64 % 4 < 4 := Nat.mod_lt _ (by decide)
  have hm : ∀ q : Dev nD, (⟨(i 0).val / 64 % 4, hq⟩ : Dev nD) = q → i ∈ rowsO q.val := fun q e =>
    Finset.mem_filter.mpr ⟨Finset.mem_univ _, congrArg Fin.val e⟩
  simp only [Finset.mem_union]
  rcases dev_cases ⟨(i 0).val / 64 % 4, hq⟩ c with e | e | e | e
  · exact Or.inl (Or.inl (Or.inl (Or.inr (hm _ e))))
  · exact Or.inl (Or.inl (Or.inr (hm _ e)))
  · exact Or.inl (Or.inr (hm _ e))
  · exact Or.inr (hm _ e)

/-! ## What a device holds for its peers -/

/-- Its rights in the copy of a partial product to device o. -/
def sendT (c o : Dev nD) : sProp 𝕄 := iprop(dutyTok ER (dcell 0 c o) 0 0 ∗ reached ER (dcell 0 c o) 0 ∗ dutyTok ER (dcell 1 o c) 0 0)
/-- Its rights in the copy of the reduced class to device o. -/
def castT (c o : Dev nD) : sProp 𝕄 := iprop(dutyTok ER (dcell 2 c o) 0 0 ∗ reached ER (dcell 2 c o) 0 ∗ dutyTok ER (dcell 3 o c) 0 0)
/-- Its places at the four cells it shares with device e. -/
def posT (r : ℕ) (c e : Dev nD) : sProp 𝕄 :=
  iprop(atPos ER (dcell 0 c e) r ∅ 0 ∗ atPos ER (dcell 1 c e) r ∅ 0 ∗ atPos ER (dcell 2 c e) r ∅ 0 ∗ atPos ER (dcell 3 c e) r ∅ 0)
/-- What device e is to pay device c. -/
def dueT (c e : Dev nD) : sProp 𝕄 := iprop(cred (tallyAt (dcell 1 c e) () NN) ∗ cred (tallyAt (dcell 3 c e) () NN))

/-- The four cells it shares with device e have opened. -/
def upT (c e : Dev nD) : sProp 𝕄 := iprop(reached ER (dcell 1 c e) 0 ∗ reached ER (dcell 3 c e) 0)
instance upT_persistent (c e : Dev nD) : BI.Persistent (upT (F := F) c e) := by
  unfold upT
  infer_instance

/-- The protocol's part of what a device enters the body with. -/
def talkPre (c : Dev nD) : sProp 𝕄 :=
  iprop(owesA c (O₀ c) ∗ cred (tallyAt (barCell c) () 3) ∗ atPos ER (barCell c) 0 ∅ 0
    ∗ (bigSep (Finset.univ.erase c) fun e => dutyTok ER (barCell e) 0 c)
    ∗ (bigSep Finset.univ fun e => upT c e)
    ∗ (bigSep Finset.univ fun e => posT 0 c e)
    ∗ (bigSep (Finset.univ.erase c) fun e => iprop(sendT c e ∗ castT c e ∗ dueT c e)))
/-- And leaves it with. -/
def talkPost (c : Dev nD) : sProp 𝕄 :=
  iprop(owesA c 0 ∗ atPos ER (barCell c) 1 ∅ 0 ∗ posT 0 c c ∗ bigSep (Finset.univ.erase c) fun e => posT 1 c e)

/-- The scratch buffers. -/
def scr (c : Dev nD) : sProp 𝕄 :=
  iprop(anyPts c mQp ∗ anyPts c mKp ∗ anyPts c mVp ∗ anyPts c mW ∗ anyPts c mCtx ∗ anyPts c mOwn ∗ anyPts c mRs ∗ anyPts c mRr ∗ anyPts c mRed ∗ anyPts c mAg)

theorem bar_tri (c : Dev nD) :
    Tri c iprop(Rec A κ ∗ owesA c (O₀ c) ∗ (dutyTok ER (barCell (n1 c)) 0 c ∗ barPay (n1 c) c) ∗ (dutyTok ER (barCell (n2 c)) 0 c ∗ barPay (n2 c) c)
        ∗ (dutyTok ER (barCell (n3 c)) 0 c ∗ barPay (n3 c) c) ∗ cred (tallyAt (barCell c) () 3) ∗ atPos ER (barCell c) 0 ∅ 0)
      (barDev c) iprop(owesA c (rs1 c) ∗ atPos ER (barCell c) 1 ∅ 0 ∗ barPay c (o1 c) ∗ barPay c (o2 c) ∗ barPay c (o3 c)) := by
  intro Kt
  unfold barDev
  iintro ⟨⟨#HR, HO, ⟨T1, B1⟩, ⟨T2, B2⟩, ⟨T3, B3⟩, Hc, Ha⟩, Hk⟩
  iapply (step_tri (signal_tri A κ c (n1_ne c) (br2 c)) _ _)
  isplitl [HO T1 B1]
  · isplitr
    · iexact HR
    isplitl [HO]
    · iexact HO
    isplitl [T1]
    · iexact T1
    iexact B1
  iintro HO
  iapply (step_tri (signal_tri A κ c (n2_ne c) (br3 c)) _ _)
  isplitl [HO T2 B2]
  · isplitr
    · iexact HR
    isplitl [HO]
    · iexact HO
    isplitl [T2]
    · iexact T2
    iexact B2
  iintro HO
  iapply (step_tri (signal_tri A κ c (n3_ne c) (rs1 c)) _ _)
  isplitl [HO T3 B3]
  · isplitr
    · iexact HR
    isplitl [HO]
    · iexact HO
    isplitl [T3]
    · iexact T3
    iexact B3
  iintro HO
  iapply ((await_tri A κ c) _)
  isplitl [Hc HO Ha]
  · isplitr
    · iexact HR
    isplitl [Hc]
    · iexact Hc
    isplitl [HO]
    · iexact HO
    iexact Ha
  iintro H
  iapply Hk
  iexact H

/-- What the six products share. -/
def work (c : Dev nD) : sProp 𝕄 := iprop((QKV c (A c) ∗ anyPts c mCtx) ∗ pts c mW (woV (A c)))

theorem send_tri (c : Dev nD) {o : Dev nD} (ho : o ≠ c) (O : CellTallies nD τ sig Unit) :
    Tri c iprop(Rec A κ ∗ work A c ∗ anySlot c mRs o.isLt ∗ anySlot o mRr c.isLt ∗ reached ER (dcell 1 o c) 0 ∗ sendT c o ∗ owesA c (O + tallyAt (dcell 1 o c) () NN))
      (sendDev c o) iprop(work A c ∗ owesA c O ∗ cred (tallyAt (dcell 0 c o) () NN)) := by
  intro Kt
  unfold sendDev work sendT
  iintro ⟨⟨#HR, ⟨HQ, HW⟩, Hs, Hd, Hr1, ⟨T0, R0, T1⟩, HO⟩, Hk⟩
  iapply (step_tri (part_tri c (A c) o.isLt) _ _)
  isplitl [HQ HW Hs]
  · isplitl [HQ]
    · iexact HQ
    isplitl [HW]
    · iexact HW
    iexact Hs
  iintro ⟨HQ, HW, Hs⟩
  iapply ((dma_tri A κ c ho O) _)
  isplitl [Hs Hd Hr1 HO T0 R0 T1]
  · isplitr
    · iexact HR
    isplitl [Hs]
    · iexact Hs
    isplitl [Hd]
    · iexact Hd
    isplitl [Hr1]
    · iexact Hr1
    isplitl [HO]
    · iexact HO
    isplitl [T0]
    · iexact T0
    isplitl [R0]
    · iexact R0
    iexact T1
  iintro ⟨HO, Hc⟩
  iapply Hk
  isplitl [HQ HW]
  · isplitl [HQ]
    · iexact HQ
    iexact HW
  isplitl [HO]
  · iexact HO
  iexact Hc

/-- The body: from the staged inputs and free scratch to the result, every debt paid. -/
theorem body_tri (c : Dev nD) :
    Tri c iprop(Rec A κ ∗ Inp c (A c) ∗ anyPts c mOut ∗ scr c ∗ talkPre c) (bodyDev c)
      iprop(Inp c (A c) ∗ pts c mOut (outV A c) ∗ scr c ∗ talkPost c) := by
  intro Kt
  unfold bodyDev scr talkPre talkPost
  rw [others_n c (fun e : Dev nD => (dutyTok ER (barCell e) 0 c : sProp 𝕄)),
    bigSep_univ_at (fun e : Dev nD => (upT c e : sProp 𝕄)) c, others_n c (fun e : Dev nD => (upT c e : sProp 𝕄)),
    bigSep_univ_at (fun e : Dev nD => (posT 0 c e : sProp 𝕄)) c, others_o c (fun e : Dev nD => (posT 0 c e : sProp 𝕄)),
    others_o c (fun e : Dev nD => (iprop(sendT c e ∗ castT c e ∗ dueT c e) : sProp 𝕄)),
    others_o c (fun e : Dev nD => (posT 1 c e : sProp 𝕄))]
  iintro ⟨⟨#HR, HI, HOut, ⟨HQ, HK, HV, HW, HCx, HOwn, HRs, HRr, HRed, HAg⟩, HO, HcB, HaB, Ht, #Hup, Hpos, Hpeer⟩, Hk⟩
  ihave HRs := (cut_o mRs c (apart_Rs c) (all_Rs c)) $$ HRs
  ihave HRr := (cut_n mRr c (apart_Rr c) (all_Rr c)) $$ HRr
  ihave HAg := (cut_n mAg c (apart_Ag c) (all_Ag c)) $$ HAg
  icases HRs with ⟨Rs0, Rs1, Rs2, Rs3⟩
  icases HRr with ⟨Rr0, Rn1, Rn2, Rn3⟩
  icases HAg with ⟨Ag0, An1, An2, An3⟩
  icases Ht with ⟨T1, T2, T3⟩
  icases Hup with ⟨-, #U1, #U2, #U3⟩
  icases Hpos with ⟨P0, P1, P2, P3⟩
  icases Hpeer with ⟨⟨S1, C1, D1⟩, ⟨S2, C2, D2⟩, ⟨S3, C3, D3⟩⟩
  ihave B1 := (show iprop(anySlot c mRr (n1 c).isLt ∗ anySlot c mAg (n1 c).isLt ∗ upT c (n1 c)) ⊢ (barPay (n1 c) c : sProp 𝕄) from by unfold barPay upT; exact .rfl) $$ [Rn1 An1]
  · isplitl [Rn1]
    · iexact Rn1
    isplitl [An1]
    · iexact An1
    iexact U1
  ihave B2 := (show iprop(anySlot c mRr (n2 c).isLt ∗ anySlot c mAg (n2 c).isLt ∗ upT c (n2 c)) ⊢ (barPay (n2 c) c : sProp 𝕄) from by unfold barPay upT; exact .rfl) $$ [Rn2 An2]
  · isplitl [Rn2]
    · iexact Rn2
    isplitl [An2]
    · iexact An2
    iexact U2
  ihave B3 := (show iprop(anySlot c mRr (n3 c).isLt ∗ anySlot c mAg (n3 c).isLt ∗ upT c (n3 c)) ⊢ (barPay (n3 c) c : sProp 𝕄) from by unfold barPay upT; exact .rfl) $$ [Rn3 An3]
  · isplitl [Rn3]
    · iexact Rn3
    isplitl [An3]
    · iexact An3
    iexact U3
  iapply (step_tri (bar_tri A κ c) _ _)
  isplitl [HO T1 B1 T2 B2 T3 B3 HcB HaB]
  · isplitr
    · iexact HR
    isplitl [HO]
    · iexact HO
    isplitl [T1 B1]
    · isplitl [T1]
      · iexact T1
      iexact B1
    isplitl [T2 B2]
    · isplitl [T2]
      · iexact T2
      iexact B2
    isplitl [T3 B3]
    · isplitl [T3]
      · iexact T3
      iexact B3
    isplitl [HcB]
    · iexact HcB
    iexact HaB
  iintro ⟨HO, HaB, B1, B2, B3⟩
  iapply (step_tri (stage_tri c (A c)) _ _)
  isplitl [HI HQ HK HV HW]
  · isplitl [HI]
    · iexact HI
    isplitl [HQ]
    · iexact HQ
    isplitl [HK]
    · iexact HK
    isplitl [HV]
    · iexact HV
    iexact HW
  iintro ⟨HI, HQ, HW⟩
  unfold barPay
  icases B1 with ⟨X1, Y1, E1, G1⟩
  icases B2 with ⟨X2, Y2, E2, G2⟩
  icases B3 with ⟨X3, Y3, E3, G3⟩
  ihave Hw := (show iprop((QKV c (A c) ∗ anyPts c mCtx) ∗ pts c mW (woV (A c))) ⊢ (work A c : sProp 𝕄) from .rfl) $$ [HQ HCx HW]
  · isplitl [HQ HCx]
    · isplitl [HQ]
      · iexact HQ
      iexact HCx
    iexact HW
  iapply (step_tri (send_tri A κ c (o1_ne c) (rs2 c)) _ _)
  isplitl [Hw Rs1 X1 E1 S1 HO]
  · isplitr
    · iexact HR
    isplitl [Hw]
    · iexact Hw
    isplitl [Rs1]
    · iexact Rs1
    isplitl [X1]
    · iexact X1
    isplitl [E1]
    · iexact E1
    isplitl [S1]
    · iexact S1
    iexact HO
  iintro ⟨Hw, HO, S1⟩
  iapply (step_tri (send_tri A κ c (o2_ne c) (rs3 c)) _ _)
  isplitl [Hw Rs2 X2 E2 S2 HO]
  · isplitr
    · iexact HR
    isplitl [Hw]
    · iexact Hw
    isplitl [Rs2]
    · iexact Rs2
    isplitl [X2]
    · iexact X2
    isplitl [E2]
    · iexact E2
    isplitl [S2]
    · iexact S2
    iexact HO
  iintro ⟨Hw, HO, S2⟩
  iapply (step_tri (send_tri A κ c (o3_ne c) (ag1 c)) _ _)
  isplitl [Hw Rs3 X3 E3 S3 HO]
  · isplitr
    · iexact HR
    isplitl [Hw]
    · iexact Hw
    isplitl [Rs3]
    · iexact Rs3
    isplitl [X3]
    · iexact X3
    isplitl [E3]
    · iexact E3
    isplitl [S3]
    · iexact S3
    iexact HO
  iintro ⟨Hw, HO, S3⟩
  unfold work
  icases Hw with ⟨HQ, HW⟩
  iapply (step_tri (own_tri c (A c)) _ _)
  isplitl [HQ HW HOwn]
  · isplitl [HQ]
    · iexact HQ
    isplitl [HW]
    · iexact HW
    iexact HOwn
  iintro ⟨HQ, HW, HOwn⟩
  unfold dueT posT
  icases D1 with ⟨V1, W1⟩
  icases P1 with ⟨Pa1, Pb1, Pc1, Pd1⟩
  icases D2 with ⟨V2, W2⟩
  icases P2 with ⟨Pa2, Pb2, Pc2, Pd2⟩
  icases D3 with ⟨V3, W3⟩
  icases P3 with ⟨Pa3, Pb3, Pc3, Pd3⟩
  iapply (step_tri (recv_tri A κ c (o1_ne c)) _ _)
  isplitl [V1 HO Pb1]
  · isplitr
    · iexact HR
    isplitl [V1]
    · iexact V1
    isplitl [HO]
    · iexact HO
    iexact Pb1
  iintro ⟨HO, Pb1, V1⟩
  iapply (step_tri (recv_tri A κ c (o2_ne c)) _ _)
  isplitl [V2 HO Pb2]
  · isplitr
    · iexact HR
    isplitl [V2]
    · iexact V2
    isplitl [HO]
    · iexact HO
    iexact Pb2
  iintro ⟨HO, Pb2, V2⟩
  iapply (step_tri (recv_tri A κ c (o3_ne c)) _ _)
  isplitl [V3 HO Pb3]
  · isplitr
    · iexact HR
    isplitl [V3]
    · iexact V3
    isplitl [HO]
    · iexact HO
    iexact Pb3
  iintro ⟨HO, Pb3, V3⟩
  ihave Hr := (show iprop(slotPts c mRr (o1 c).isLt (rrV A c) ∗ slotPts c mRr (o2 c).isLt (rrV A c) ∗ slotPts c mRr (o3 c).isLt (rrV A c)) ⊢ (rr3 A c : sProp 𝕄) from .rfl) $$ [V1 V2 V3]
  · isplitl [V1]
    · iexact V1
    isplitl [V2]
    · iexact V2
    iexact V3
  iapply (step_tri (sum_tri A c) _ _)
  isplitl [HOwn Hr HOut HRed]
  · isplitl [HOwn]
    · iexact HOwn
    isplitl [Hr]
    · iexact Hr
    isplitl [HOut]
    · iexact HOut
    iexact HRed
  iintro ⟨HOwn, Hr, HOut, HRed⟩
  ihave HRed := (cut_red A c) $$ HRed
  icases HRed with ⟨Q1, Q2, Q3⟩
  unfold castT
  icases C1 with ⟨Ca1, Cb1, Cc1⟩
  iapply (step_tri (cast_tri A κ c (o1_ne c) (ag2 c)) _ _)
  isplitl [Q1 Y1 G1 HO Ca1 Cb1 Cc1]
  · isplitr
    · iexact HR
    isplitl [Q1]
    · iexact Q1
    isplitl [Y1]
    · iexact Y1
    isplitl [G1]
    · iexact G1
    isplitl [HO]
    · iexact HO
    isplitl [Ca1]
    · iexact Ca1
    isplitl [Cb1]
    · iexact Cb1
    iexact Cc1
  iintro ⟨HO, Q1⟩
  icases C2 with ⟨Ca2, Cb2, Cc2⟩
  iapply (step_tri (cast_tri A κ c (o2_ne c) (ag3 c)) _ _)
  isplitl [Q2 Y2 G2 HO Ca2 Cb2 Cc2]
  · isplitr
    · iexact HR
    isplitl [Q2]
    · iexact Q2
    isplitl [Y2]
    · iexact Y2
    isplitl [G2]
    · iexact G2
    isplitl [HO]
    · iexact HO
    isplitl [Ca2]
    · iexact Ca2
    isplitl [Cb2]
    · iexact Cb2
    iexact Cc2
  iintro ⟨HO, Q2⟩
  icases C3 with ⟨Ca3, Cb3, Cc3⟩
  iapply (step_tri (cast_tri A κ c (o3_ne c) (0)) _ _)
  isplitl [Q3 Y3 G3 HO Ca3 Cb3 Cc3]
  · isplitr
    · iexact HR
    isplitl [Q3]
    · iexact Q3
    isplitl [Y3]
    · iexact Y3
    isplitl [G3]
    · iexact G3
    isplitl [HO]
    · iexact HO
    isplitl [Ca3]
    · iexact Ca3
    isplitl [Cb3]
    · iexact Cb3
    iexact Cc3
  iintro ⟨HO, Q3⟩
  iapply (step_tri (sent_tri A κ c (o1_ne c)) _ _)
  isplitl [S1 HO Pa1]
  · isplitr
    · iexact HR
    isplitl [S1]
    · iexact S1
    isplitl [HO]
    · iexact HO
    iexact Pa1
  iintro ⟨HO, Pa1, S1⟩
  iapply (step_tri (sent_tri A κ c (o2_ne c)) _ _)
  isplitl [S2 HO Pa2]
  · isplitr
    · iexact HR
    isplitl [S2]
    · iexact S2
    isplitl [HO]
    · iexact HO
    iexact Pa2
  iintro ⟨HO, Pa2, S2⟩
  iapply (step_tri (sent_tri A κ c (o3_ne c)) _ _)
  isplitl [S3 HO Pa3]
  · isplitr
    · iexact HR
    isplitl [S3]
    · iexact S3
    isplitl [HO]
    · iexact HO
    iexact Pa3
  iintro ⟨HO, Pa3, S3⟩
  iapply (step_tri (got_tri A κ c (o1_ne c)) _ _)
  isplitl [W1 HO Pd1]
  · isplitr
    · iexact HR
    isplitl [W1]
    · iexact W1
    isplitl [HO]
    · iexact HO
    iexact Pd1
  iintro ⟨HO, Pd1, W1⟩
  iapply (step_tri (fill_tri A c (o1 c) (o1_ne c) _) _ _)
  isplitl [HOut W1]
  · isplitl [HOut]
    · iexact HOut
    iexact W1
  iintro ⟨HOut, W1⟩
  iapply (step_tri (got_tri A κ c (o2_ne c)) _ _)
  isplitl [W2 HO Pd2]
  · isplitr
    · iexact HR
    isplitl [W2]
    · iexact W2
    isplitl [HO]
    · iexact HO
    iexact Pd2
  iintro ⟨HO, Pd2, W2⟩
  iapply (step_tri (fill_tri A c (o2 c) (o2_ne c) _) _ _)
  isplitl [HOut W2]
  · isplitl [HOut]
    · iexact HOut
    iexact W2
  iintro ⟨HOut, W2⟩
  iapply (step_tri (got_tri A κ c (o3_ne c)) _ _)
  isplitl [W3 HO Pd3]
  · isplitr
    · iexact HR
    isplitl [W3]
    · iexact W3
    isplitl [HO]
    · iexact HO
    iexact Pd3
  iintro ⟨HO, Pd3, W3⟩
  iapply (step_tri (fill_tri A c (o3 c) (o3_ne c) _) _ _)
  isplitl [HOut W3]
  · isplitl [HOut]
    · iexact HOut
    iexact W3
  iintro ⟨HOut, W3⟩
  iapply (step_tri (gone_tri A κ c (o1_ne c)) _ _)
  isplitl [Q1 HO Pc1]
  · isplitr
    · iexact HR
    isplitl [Q1]
    · iexact Q1
    isplitl [HO]
    · iexact HO
    iexact Pc1
  iintro ⟨HO, Pc1, Q1⟩
  iapply (step_tri (gone_tri A κ c (o2_ne c)) _ _)
  isplitl [Q2 HO Pc2]
  · isplitr
    · iexact HR
    isplitl [Q2]
    · iexact Q2
    isplitl [HO]
    · iexact HO
    iexact Pc2
  iintro ⟨HO, Pc2, Q2⟩
  iapply ((gone_tri A κ c (o3_ne c)) _)
  isplitl [Q3 HO Pc3]
  · isplitr
    · iexact HR
    isplitl [Q3]
    · iexact Q3
    isplitl [HO]
    · iexact HO
    iexact Pc3
  iintro ⟨HO, Pc3, Q3⟩
  iapply Hk
  ihave HOut := (out_full A c) $$ HOut
  ihave HRed := (join_red A c) $$ [Q1 Q2 Q3]
  · isplitl [Q1]
    · iexact Q1
    isplitl [Q2]
    · iexact Q2
    iexact Q3
  unfold rr3 QKV
  icases Hr with ⟨V1, V2, V3⟩
  icases HQ with ⟨⟨HQ, HK, HV⟩, HCx⟩
  ihave Rs := (join_o mRs c (apart_Rs c) (all_Rs c)) $$ [Rs0 S1 S2 S3]
  · isplitl [Rs0]
    · iexact Rs0
    isplitl [S1]
    · iapply (slot_any c mRs _ _)
      iexact S1
    isplitl [S2]
    · iapply (slot_any c mRs _ _)
      iexact S2
    iapply (slot_any c mRs _ _)
    iexact S3
  ihave Rr := (join_o mRr c (apart_Rr c) (all_Rr c)) $$ [Rr0 V1 V2 V3]
  · isplitl [Rr0]
    · iexact Rr0
    isplitl [V1]
    · iapply (slot_any c mRr _ _)
      iexact V1
    isplitl [V2]
    · iapply (slot_any c mRr _ _)
      iexact V2
    iapply (slot_any c mRr _ _)
    iexact V3
  ihave Ag := (join_o mAg c (apart_Ag c) (all_Ag c)) $$ [Ag0 W1 W2 W3]
  · isplitl [Ag0]
    · iexact Ag0
    isplitl [W1]
    · iapply (slot_any c mAg _ _)
      iexact W1
    isplitl [W2]
    · iapply (slot_any c mAg _ _)
      iexact W2
    iapply (slot_any c mAg _ _)
    iexact W3
  isplitl [HI]
  · iexact HI
  isplitl [HOut]
  · iexact HOut
  isplitl [HQ HK HV HW HCx HOwn Rs Rr HRed Ag]
  · isplitl [HQ]
    · iexists _
      iexact HQ
    isplitl [HK]
    · iexists _
      iexact HK
    isplitl [HV]
    · iexists _
      iexact HV
    isplitl [HW]
    · iexists _
      iexact HW
    isplitl [HCx]
    · iexact HCx
    isplitl [HOwn]
    · iexists _
      iexact HOwn
    isplitl [Rs]
    · iexact Rs
    isplitl [Rr]
    · iexact Rr
    isplitl [HRed]
    · iexists _
      iexact HRed
    iexact Ag
  isplitl [HO]
  · iexact HO
  isplitl [HaB]
  · iexact HaB
  isplitl [P0]
  · iexact P0
  isplitl [Pa1 Pb1 Pc1 Pd1]
  · isplitl [Pa1]
    · iexact Pa1
    isplitl [Pb1]
    · iexact Pb1
    isplitl [Pc1]
    · iexact Pc1
    iexact Pd1
  isplitl [Pa2 Pb2 Pc2 Pd2]
  · isplitl [Pa2]
    · iexact Pa2
    isplitl [Pb2]
    · iexact Pb2
    isplitl [Pc2]
    · iexact Pc2
    iexact Pd2
  isplitl [Pa3]
  · iexact Pa3
  isplitl [Pb3]
  · iexact Pb3
  isplitl [Pc3]
  · iexact Pc3
  iexact Pd3

end Cert.KernelIdeal.Gen

end
-- ==== Proof.Enter.lean ====
/-
  The rights of a device opened at the kernel's entry and closed at its end.
-/
module

public import proofs.«01_k».proof.Proof.BodyRun

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Ins F) (κ : GSem nD τ sig → ℕ)

/-! ## Closing -/

/-- A device's sixteen transfer counters, at zero. -/
def zeros (c : Dev nD) : sProp 𝕄 := bigSep Finset.univ fun p : Fin 4 × Fin 4 => semVal ((c : Thread nD τ), sm p) 0

theorem swap_eq (Φ : Fin 4 → Fin 4 → sProp 𝕄) :
    (bigSep Finset.univ fun a => bigSep Finset.univ fun b => Φ a b) = bigSep Finset.univ fun b => bigSep Finset.univ fun a => Φ a b :=
  (bigSep_univ_prod (fun p : Fin 4 × Fin 4 => Φ p.1 p.2)).symm.trans
    ((bigSep_univ_equiv (Equiv.prodComm (Fin 4) (Fin 4)) (fun p : Fin 4 × Fin 4 => Φ p.1 p.2)).trans (bigSep_univ_prod _))

theorem four_eq (Φ : Fin 4 × Fin 4 → sProp 𝕄) :
    bigSep Finset.univ Φ = bigSep Finset.univ fun e : Fin 4 => iprop(Φ (0, e) ∗ Φ (1, e) ∗ Φ (2, e) ∗ Φ (3, e)) := by
  rw [bigSep_univ_prod, swap_eq]
  refine bigSep_congr fun e _ => ?_
  rw [show (Finset.univ : Finset (Fin 4)) = {0, 1, 2, 3} from by decide, bigSep_insert (by decide), bigSep_insert (by decide),
    bigSep_insert (by decide), bigSep_singleton]
  rfl

theorem close_one (c : Dev nD) (k i : Fin 4) (r : ℕ) (h : ∀ r', r ≤ r' → (rd0 (F := F) A).duties (dcell k c i) r' = ∅) :
    iprop(Rec A κ ∗ atPos ER (dcell k c i) r ∅ 0) ⊢ (|={Set.univ}=> semVal (dcell k c i) 0 : sProp 𝕄) := by
  iintro ⟨#HR, H⟩
  iapply (Rounds.cell_close ER (rd0 A) (κ := κ (dcell k c i)) (Set.mem_univ _) id h)
  isplitr
  · iapply (Rec_inv A κ (dma_mem k c i))
    iexact HR
  iexact H

theorem close_pos (c e : Dev nD) (r : ℕ) (h : ∀ k : Fin 4, ∀ r', r ≤ r' → (rd0 (F := F) A).duties (dcell k c e) r' = ∅) :
    iprop(Rec A κ ∗ posT r c e)
      ⊢ (|={Set.univ}=> iprop(semVal (dcell 0 c e) 0 ∗ semVal (dcell 1 c e) 0 ∗ semVal (dcell 2 c e) 0 ∗ semVal (dcell 3 c e) 0) : sProp 𝕄) := by
  unfold posT
  iintro ⟨#HR, H0, H1, H2, H3⟩
  imod (close_one A κ c 0 e r (h 0)) $$ [H0] with H0
  · isplitr
    · iexact HR
    iexact H0
  imod (close_one A κ c 1 e r (h 1)) $$ [H1] with H1
  · isplitr
    · iexact HR
    iexact H1
  imod (close_one A κ c 2 e r (h 2)) $$ [H2] with H2
  · isplitr
    · iexact HR
    iexact H2
  imod (close_one A κ c 3 e r (h 3)) $$ [H3] with H3
  · isplitr
    · iexact HR
    iexact H3
  imodintro
  isplitl [H0]
  · iexact H0
  isplitl [H1]
  · iexact H1
  isplitl [H2]
  · iexact H2
  iexact H3

theorem close_bar (c : Dev nD) : iprop(Rec A κ ∗ atPos ER (barCell c) 1 ∅ 0) ⊢ (|={Set.univ}=> semVal (barCell c) 0 : sProp 𝕄) := by
  iintro ⟨#HR, H⟩
  iapply (Rounds.cell_close ER (rd0 A) (κ := κ (barCell c)) (Set.mem_univ _) id (duties_later A (barCell c)))
  isplitr
  · iapply (Rec_inv A κ (bar_mem c))
    iexact HR
  iexact H

/-- Every cell a device waits at is closed at the end, its counter back at zero. -/
theorem close_all (c : Dev nD) :
    iprop(Rec A κ ∗ talkPost c) ⊢ (|={Set.univ}=> iprop(owesA c 0 ∗ semVal (barCell c) 0 ∗ zeros c) : sProp 𝕄) := by
  unfold talkPost zeros
  rw [four_eq, bigSep_univ_at _ c]
  iintro ⟨#HR, HO, Hb, Hown, Hrest⟩
  imod (close_bar A κ c) $$ [Hb] with Hb
  · isplitr
    · iexact HR
    iexact Hb
  imod (close_pos A κ c c 0 fun k r' _ => duties_own A k c r') $$ [Hown] with Hown
  · isplitr
    · iexact HR
    iexact Hown
  have h : iprop(Rec A κ ∗ bigSep (Finset.univ.erase c) fun e => posT 1 c e)
      ⊢ (bigSep (Finset.univ.erase c) fun e : Dev nD => iprop(|={Set.univ}=> iprop(semVal (dcell 0 c e) 0 ∗ semVal (dcell 1 c e) 0 ∗ semVal (dcell 2 c e) 0 ∗ semVal (dcell 3 c e) 0)) : sProp 𝕄) :=
    bigSep_with_persistent fun e _ => close_pos A κ c e 1 fun k => duties_later A (dcell k c e)
  ihave Hrest := h $$ [Hrest]
  · isplitr
    · iexact HR
    iexact Hrest
  imod (bigSep_fupd (Finset.univ.erase c) _) $$ Hrest with Hrest
  imodintro
  isplitl [HO]
  · iexact HO
  isplitl [Hb]
  · iexact Hb
  isplitl [Hown]
  · iexact Hown
  iexact Hrest

/-! ## Opening -/

/-- What a device enters the body with, but for what it owes. -/
def talkIn (c : Dev nD) : sProp 𝕄 :=
  iprop(cred (tallyAt (barCell c) () 3) ∗ atPos ER (barCell c) 0 ∅ 0
    ∗ (bigSep (Finset.univ.erase c) fun e => dutyTok ER (barCell e) 0 c)
    ∗ (bigSep Finset.univ fun e => upT c e)
    ∗ (bigSep Finset.univ fun e => posT 0 c e)
    ∗ (bigSep (Finset.univ.erase c) fun e => iprop(sendT c e ∗ castT c e ∗ dueT c e)))
theorem talkPre_eq (c : Dev nD) : (talkPre c : sProp 𝕄) = iprop(owesA c (O₀ c) ∗ talkIn c) := rfl

/-- The tokens device c pays device e with. -/
def payT (c e : Dev nD) : sProp 𝕄 :=
  iprop(dutyTok ER (dcell 0 c e) 0 0 ∗ dutyTok ER (dcell 1 e c) 0 0 ∗ dutyTok ER (dcell 2 c e) 0 0 ∗ dutyTok ER (dcell 3 e c) 0 0)
/-- What the launch hands a device: its place at its barrier cell, the rights to open its sixteen transfer cells,
    the tokens it pays with, and what it is to be paid. -/
def linear (c : Dev nD) : sProp 𝕄 :=
  iprop(atPos ER (barCell c) 0 ∅ 0 ∗ (bigSep Finset.univ fun p : Fin 4 × Fin 4 => openTok ER ((c : Thread nD τ), sm p))
    ∗ (bigSep (Finset.univ.erase c) fun e => dutyTok ER (barCell e) 0 c)
    ∗ (bigSep (Finset.univ.erase c) fun e => payT c e))
def credits (c : Dev nD) : sProp 𝕄 :=
  iprop(cred (tallyAt (barCell c) () 3) ∗ bigSep (Finset.univ.erase c) fun e => dueT c e)

/-- A device's cells open, all at round 0. -/
def posUp (c e : Dev nD) : sProp 𝕄 :=
  iprop(posT 0 c e ∗ (reached ER (dcell 0 c e) 0 ∗ reached ER (dcell 1 c e) 0 ∗ reached ER (dcell 2 c e) 0 ∗ reached ER (dcell 3 c e) 0))

theorem open_one (c : Dev nD) (p : Fin 4 × Fin 4) :
    iprop(Rec A κ ∗ (openTok ER ((c : Thread nD τ), sm p) ∗ semVal ((c : Thread nD τ), sm p) 0))
      ⊢ (|={Set.univ}=> iprop(atPos ER ((c : Thread nD τ), sm p) 0 ∅ 0 ∗ reached ER ((c : Thread nD τ), sm p) 0) : sProp 𝕄) := by
  iintro ⟨#HR, Ho, Hs⟩
  iapply (Rounds.cell_open ER (rd0 A) (g := ((c : Thread nD τ), sm p)) (κ := κ ((c : Thread nD τ), sm p)) (Set.mem_univ _))
  isplitr
  · iapply (Rec_inv A κ (dma_mem p.1 c p.2))
    iexact HR
  isplitl [Ho]
  · iexact Ho
  iexact Hs

theorem open_all (c : Dev nD) :
    iprop(Rec A κ ∗ (bigSep Finset.univ fun p : Fin 4 × Fin 4 => openTok ER ((c : Thread nD τ), sm p)) ∗ zeros c)
      ⊢ (|={Set.univ}=> bigSep Finset.univ fun e : Dev nD => posUp c e : sProp 𝕄) := by
  have h : iprop(Rec A κ ∗ bigSep (Finset.univ : Finset (Fin 4 × Fin 4)) fun p => iprop(openTok ER ((c : Thread nD τ), sm p) ∗ semVal ((c : Thread nD τ), sm p) 0))
      ⊢ (bigSep (Finset.univ : Finset (Fin 4 × Fin 4)) fun p => iprop(|={Set.univ}=> iprop(atPos ER ((c : Thread nD τ), sm p) 0 ∅ 0 ∗ reached ER ((c : Thread nD τ), sm p) 0)) : sProp 𝕄) :=
    bigSep_with_persistent fun p _ => open_one A κ c p
  have e : (bigSep (Finset.univ : Finset (Fin 4 × Fin 4)) fun p => iprop(atPos ER ((c : Thread nD τ), sm p) 0 ∅ 0 ∗ reached ER ((c : Thread nD τ), sm p) 0) : sProp 𝕄)
      = bigSep Finset.univ fun e : Dev nD => posUp c e := by
    rw [four_eq]
    refine bigSep_congr fun e _ => ?_
    unfold posUp posT
    refine BI.equiv_iff.mp ⟨?_, ?_⟩
    · show iprop((atPos ER (dcell 0 c e) 0 ∅ 0 ∗ reached ER (dcell 0 c e) 0) ∗ (atPos ER (dcell 1 c e) 0 ∅ 0 ∗ reached ER (dcell 1 c e) 0)
        ∗ (atPos ER (dcell 2 c e) 0 ∅ 0 ∗ reached ER (dcell 2 c e) 0) ∗ (atPos ER (dcell 3 c e) 0 ∅ 0 ∗ reached ER (dcell 3 c e) 0)) ⊢ _
      iintro ⟨⟨a0, r0⟩, ⟨a1, r1⟩, ⟨a2, r2⟩, ⟨a3, r3⟩⟩
      iframe
    · show _ ⊢ iprop((atPos ER (dcell 0 c e) 0 ∅ 0 ∗ reached ER (dcell 0 c e) 0) ∗ (atPos ER (dcell 1 c e) 0 ∅ 0 ∗ reached ER (dcell 1 c e) 0)
        ∗ (atPos ER (dcell 2 c e) 0 ∅ 0 ∗ reached ER (dcell 2 c e) 0) ∗ (atPos ER (dcell 3 c e) 0 ∅ 0 ∗ reached ER (dcell 3 c e) 0))
      iintro ⟨⟨a0, a1, a2, a3⟩, r0, r1, r2, r3⟩
      iframe
  unfold zeros
  rw [← e]
  iintro ⟨#HR, Ho, Hz⟩
  ihave H := (Entails.of_eq (bigSep_sep' (Finset.univ : Finset (Fin 4 × Fin 4)) (fun p => (openTok ER ((c : Thread nD τ), sm p) : sProp 𝕄))
    (fun p => (semVal ((c : Thread nD τ), sm p) 0 : sProp 𝕄))).symm) $$ [Ho Hz]
  · isplitl [Ho]
    · iexact Ho
    iexact Hz
  ihave H := h $$ [H]
  · isplitr
    · iexact HR
    iexact H
  imod (bigSep_fupd (Finset.univ : Finset (Fin 4 × Fin 4)) _) $$ H with H
  imodintro
  iexact H

/-- A device's way in: its transfer cells opened. -/
theorem enter (c : Dev nD) : iprop(Rec A κ ∗ linear c ∗ credits c ∗ zeros c) ⊢ (|={Set.univ}=> talkIn c : sProp 𝕄) := by
  have hu : (bigSep Finset.univ fun e : Dev nD => posUp c e : sProp 𝕄)
      ⊢ iprop((bigSep Finset.univ fun e : Dev nD => posT 0 c e) ∗ bigSep Finset.univ fun e : Dev nD =>
        iprop(reached ER (dcell 0 c e) 0 ∗ reached ER (dcell 1 c e) 0 ∗ reached ER (dcell 2 c e) 0 ∗ reached ER (dcell 3 c e) 0)) := by
    unfold posUp
    exact Entails.of_eq (bigSep_sep' _ _ _)
  have hr : (bigSep Finset.univ fun e : Dev nD =>
        iprop(reached ER (dcell 0 c e) 0 ∗ reached ER (dcell 1 c e) 0 ∗ reached ER (dcell 2 c e) 0 ∗ reached ER (dcell 3 c e) 0) : sProp 𝕄)
      ⊢ bigSep Finset.univ fun e : Dev nD => upT c e := bigSep_mono fun e _ => by
    unfold upT
    show (iprop(reached ER (dcell 0 c e) 0 ∗ reached ER (dcell 1 c e) 0 ∗ reached ER (dcell 2 c e) 0 ∗ reached ER (dcell 3 c e) 0) : sProp 𝕄)
      ⊢ iprop(reached ER (dcell 1 c e) 0 ∗ reached ER (dcell 3 c e) 0)
    iintro ⟨-, r1, -, r3⟩
    iframe
  have hs : iprop((bigSep Finset.univ fun e : Dev nD =>
        iprop(reached ER (dcell 0 c e) 0 ∗ reached ER (dcell 1 c e) 0 ∗ reached ER (dcell 2 c e) 0 ∗ reached ER (dcell 3 c e) 0))
        ∗ bigSep (Finset.univ.erase c) fun e : Dev nD => iprop(payT c e ∗ dueT c e))
      ⊢ (bigSep (Finset.univ.erase c) fun e => iprop(sendT c e ∗ castT c e ∗ dueT c e) : sProp 𝕄) :=
    bigSep_with_persistent fun e _ => by
      iintro ⟨#HR, Hp⟩
      ihave #Hr := (show (bigSep Finset.univ fun e : Dev nD =>
        iprop(reached ER (dcell 0 c e) 0 ∗ reached ER (dcell 1 c e) 0 ∗ reached ER (dcell 2 c e) 0 ∗ reached ER (dcell 3 c e) 0) : sProp 𝕄)
          ⊢ iprop(reached ER (dcell 0 c e) 0 ∗ reached ER (dcell 1 c e) 0 ∗ reached ER (dcell 2 c e) 0 ∗ reached ER (dcell 3 c e) 0) from bigSep_elim (Finset.mem_univ e)) $$ HR
      unfold payT sendT castT
      icases Hr with ⟨#r0, #r1, #r2, #r3⟩
      icases Hp with ⟨⟨t0, t1, t2, t3⟩, Hd⟩
      isplitl [t0 t1]
      · isplitl [t0]
        · iexact t0
        isplitr
        · iexact r0
        iexact t1
      isplitl [t2 t3]
      · isplitl [t2]
        · iexact t2
        isplitr
        · iexact r2
        iexact t3
      iexact Hd
  unfold linear credits talkIn
  iintro ⟨#HR, ⟨Hat, Ho, Hbt, Hpt⟩, ⟨Hcb, Hcd⟩, Hz⟩
  imod (open_all A κ c) $$ [Ho Hz] with H
  · isplitr
    · iexact HR
    isplitl [Ho]
    · iexact Ho
    iexact Hz
  ihave H := hu $$ H
  icases H with ⟨Hpos, #Hr⟩
  imodintro
  isplitl [Hcb]
  · iexact Hcb
  isplitl [Hat]
  · iexact Hat
  isplitl [Hbt]
  · iexact Hbt
  isplitr
  · iapply hr
    iexact Hr
  isplitl [Hpos]
  · iexact Hpos
  iapply hs
  isplitr
  · iexact Hr
  iapply (Entails.of_eq (bigSep_sep' (Finset.univ.erase c : Finset (Dev nD)) (fun e => (payT c e : sProp 𝕄)) (fun e => (dueT c e : sProp 𝕄))).symm)
  isplitl [Hpt]
  · iexact Hpt
  iexact Hcd

end Cert.KernelIdeal.Gen

end
-- ==== Proof.SegFront.lean ====
module

public import proofs.«01_k».proof.Proof.Segments

@[expose] public section

set_option maxRecDepth 65536

noncomputable section

namespace Cert.KernelIdeal.Gen

open Idealize.ShloMosaic Idealize.SL.Sem

variable {F : FTy → Type} [FloatOps F]

theorem front1 (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) {α : Type} (κ : Dev nD → BitVec 32 → FVec F S1024x1024 .bf16 → KProg F α) :
    (do
      let ⟨d0, v2, v3, v30, c4_i32_18, v31⟩ : Σ' (d0 : Dev nD) (v2 : BitVec 32) (v3 : Sems sig S_) (v30 : BitVec 32) (c4_i32_18 : BitVec 32), BitVec 1 ← k0_part45 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
      let v48 : FVec F S1024x1024 .bf16 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 v3 v30 c4_i32_18 v31
      κ d0 v2 v48) =
    (do
      let d0 : Dev nD ← Prog.lift .deviceId
      barrierOps d0
      let x : Vec F S1024x1024 .bf16 ← Prog.lift (.load arg0 rectWide.toLoadRect (View.loadsAt_vmem h_S1024x1024))
      let w : Vec F S1024x1024 .bf16 ← Prog.lift (.load arg1 rectWide.toLoadRect (View.loadsAt_vmem h_S1024x1024))
      copyOps arg2 arg3 arg6 arg7 arg8 harg6 harg7 harg8 (k0_pay145 x w) (show 0 < 16 by decide)
      κ d0 (placeW d0) (k0_pay145 x w)) := by
  rfl

theorem front2 (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (q : FVec F S1024x1024 .bf16) {α : Type} (κ : KProg F α) :
    (do
      let v94 : FVec F S64x1024 .bf16 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 q
      let v124 : FVec F S64x1024 .bf16 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 q v94
      k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 q v124
      κ) =
    (do
      copyOps arg2 arg3 arg6 arg7 arg8 harg6 harg7 harg8 q (show 1 < 16 by decide)
      copyOps arg2 arg3 arg6 arg7 arg8 harg6 harg7 harg8 q (show 2 < 16 by decide)
      copyOps arg2 arg3 arg6 arg7 arg8 harg6 harg7 harg8 q (show 3 < 16 by decide)
      copyOps arg2 arg3 arg6 arg7 arg8 harg6 harg7 harg8 q (show 4 < 16 by decide)
      copyOps arg2 arg3 arg6 arg7 arg8 harg6 harg7 harg8 q (show 5 < 16 by decide)
      copyOps arg2 arg3 arg6 arg7 arg8 harg6 harg7 harg8 q (show 6 < 16 by decide)
      copyQ arg6 harg6 q (show 7 < 16 by decide)
      copyK arg2 arg7 harg7 (show 7 < 16 by decide)
      κ) := by
  rfl

theorem front3 (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (q : FVec F S1024x1024 .bf16) {α : Type} (κ : FVec F S64x1024 .bf16 → KProg F α) :
    (do
      let ⟨v185, v186⟩ : Σ' (v185 : FVec F S64x1024 .bf16), Vec F S64x1024 .bf16 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 q
      let v217 : FVec F S64x1024 .bf16 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 q v185 v186
      κ v217) =
    (do
      copyK arg3 arg8 harg8 (show 7 < 16 by decide)
      copyOps arg2 arg3 arg6 arg7 arg8 harg6 harg7 harg8 q (show 8 < 16 by decide)
      copyOps arg2 arg3 arg6 arg7 arg8 harg6 harg7 harg8 q (show 9 < 16 by decide)
      copyOps arg2 arg3 arg6 arg7 arg8 harg6 harg7 harg8 q (show 10 < 16 by decide)
      copyOps arg2 arg3 arg6 arg7 arg8 harg6 harg7 harg8 q (show 11 < 16 by decide)
      κ (k0_pay184 q)) := by
  rfl

theorem front4 (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (v2 : BitVec 32) (q : FVec F S1024x1024 .bf16) {α : Type} (κ : KProg F α) :
    (do
      k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 q (k0_pay184 q)
      k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2 q
      κ) =
    (do
      copyOps arg2 arg3 arg6 arg7 arg8 harg6 harg7 harg8 q (show 12 < 16 by decide)
      copyOps arg2 arg3 arg6 arg7 arg8 harg6 harg7 harg8 q (show 13 < 16 by decide)
      copyOps arg2 arg3 arg6 arg7 arg8 harg6 harg7 harg8 q (show 14 < 16 by decide)
      copyOps arg2 arg3 arg6 arg7 arg8 harg6 harg7 harg8 q (show 15 < 16 by decide)
      let o : Vec F S1024x1024 .bf16 ← Prog.lift (.load arg4 rectWide.toLoadRect (View.loadsAt_vmem h_S1024x1024))
      let _o : Vec F S1024x1024 .bf16 ← Prog.lift (.load arg9 rectWide.toLoadRect (View.loadsAt_vmem h_S1024x1024))
      Prog.lift (.store arg9 rectWide (k0_pay197 o) Finset.univ (View.stores_vmem h_S1024x1024 (harg9.storeExact_slice rfl _ packedbf16_S1024x1024_S1024x1024_0_0) (fun _ => rfl)) (.inl rfl))
      κ) := by
  rfl

set_option maxHeartbeats 8000000 in
theorem front_eq (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) {α : Type} (κ : Dev nD → BitVec 32 → KProg F α) :
    (do
      let ⟨d0, v2, v3, v30, c4_i32_18, v31⟩ : Σ' (d0 : Dev nD) (v2 : BitVec 32) (v3 : Sems sig S_) (v30 : BitVec 32) (c4_i32_18 : BitVec 32), BitVec 1 ← k0_part45 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19
      let v48 : FVec F S1024x1024 .bf16 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 v3 v30 c4_i32_18 v31
      let v94 : FVec F S64x1024 .bf16 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48
      let v124 : FVec F S64x1024 .bf16 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v94
      k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v124
      let ⟨v185, v186⟩ : Σ' (v185 : FVec F S64x1024 .bf16), Vec F S64x1024 .bf16 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48
      let v217 : FVec F S64x1024 .bf16 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v185 v186
      k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v217
      k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2 v48
      κ d0 v2) =
    (do
      let d0 : Dev nD ← Prog.lift .deviceId
      barrierOps d0
      stageOps arg0 arg1 arg2 arg3 arg4 arg6 arg7 arg8 arg9 harg6 harg7 harg8 harg9
      κ d0 (placeW d0)) := by
  refine (front1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (fun d0 v2 v48 => do
      let v94 : FVec F S64x1024 .bf16 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48
      let v124 : FVec F S64x1024 .bf16 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v94
      k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v124
      let ⟨v185, v186⟩ : Σ' (v185 : FVec F S64x1024 .bf16), Vec F S64x1024 .bf16 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48
      let v217 : FVec F S64x1024 .bf16 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v185 v186
      k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v48 v217
      k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2 v48
      κ d0 v2)).trans ?_
  refine (bind_congr fun d0 => bind_congr fun _ => bind_congr fun x => bind_congr fun w => bind_congr fun _ =>
    (front2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (k0_pay145 x w) _).trans
      (bind_congr fun _ => bind_congr fun _ => bind_congr fun _ => bind_congr fun _ => bind_congr fun _ => bind_congr fun _ =>
        bind_congr fun _ => bind_congr fun _ => (front3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (k0_pay145 x w) (fun v217 => do
      k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (k0_pay145 x w) v217
      k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (placeW d0) (k0_pay145 x w)
      κ d0 (placeW d0))).trans
          (bind_congr fun _ => bind_congr fun _ => bind_congr fun _ => bind_congr fun _ => bind_congr fun _ =>
            front4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (placeW d0) (k0_pay145 x w) _))).trans ?_
  simp only [stageOps, copyOps, bind_assoc]

end Cert.KernelIdeal.Gen

end
-- ==== Proof.SegA.lean ====
module

public import proofs.«01_k».proof.Proof.Segments

@[expose] public section

set_option maxRecDepth 65536

noncomputable section

namespace Cert.KernelIdeal.Gen

open Idealize.ShloMosaic Idealize.SL.Sem

variable {F : FTy → Type} [FloatOps F]

set_option maxHeartbeats 4000000 in
theorem part54_eq (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (d0 : Dev nD) :
    k0_part54 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 (placeW d0) =
      onlyIf (isntW d0 0) (sendOps d0 arg6 arg7 arg8 arg9 arg10 harg10 arg12 harg12 arg13 harg13 arg16 arg17 (⟨k0_dev4, dev_lt4⟩ : Dev nD) (show 0 < 4 by decide)) >>= fun _ =>
      onlyIf (isntW d0 1) (sendOps d0 arg6 arg7 arg8 arg9 arg10 harg10 arg12 harg12 arg13 harg13 arg16 arg17 (⟨k0_dev5, dev_lt5⟩ : Dev nD) (show 1 < 4 by decide)) >>= fun _ =>
      onlyIf (isntW d0 2) (sendOps d0 arg6 arg7 arg8 arg9 arg10 harg10 arg12 harg12 arg13 harg13 arg16 arg17 (⟨k0_dev6, dev_lt6⟩ : Dev nD) (show 2 < 4 by decide)) >>= fun _ =>
      onlyIf (isntW d0 3) (sendOps d0 arg6 arg7 arg8 arg9 arg10 harg10 arg12 harg12 arg13 harg13 arg16 arg17 (⟨k0_dev7, dev_lt7⟩ : Dev nD) (show 3 < 4 by decide)) >>= fun _ =>
      onlyIf (isW d0 0) (ownOps arg6 arg7 arg8 arg9 arg10 harg10 arg11 (show 0 < 4 by decide)) >>= fun _ =>
      onlyIf (isW d0 1) (ownOps arg6 arg7 arg8 arg9 arg10 harg10 arg11 (show 1 < 4 by decide)) >>= fun _ =>
      onlyIf (isW d0 2) (ownOps arg6 arg7 arg8 arg9 arg10 harg10 arg11 (show 2 < 4 by decide)) >>= fun _ =>
      onlyIf (isW d0 3) (ownOps arg6 arg7 arg8 arg9 arg10 harg10 arg11 (show 3 < 4 by decide)) >>= fun _ =>
      onlyIf (isW d0 0) (reduceOps arg5 arg11 arg12 harg12 arg13 harg13 arg14 harg14 arg15 harg15 arg17 arg18 arg19 (⟨k0_dev8, dev_lt8⟩ : Dev nD) (⟨k0_dev9, dev_lt9⟩ : Dev nD) (⟨k0_dev10, dev_lt10⟩ : Dev nD) (show 0 < 4 by decide) (show 1 < 4 by decide) (show 2 < 4 by decide) (show 3 < 4 by decide)) >>= fun _ =>
      onlyIf (isW d0 1) (reduceOps arg5 arg11 arg12 harg12 arg13 harg13 arg14 harg14 arg15 harg15 arg17 arg18 arg19 (⟨k0_dev11, dev_lt11⟩ : Dev nD) (⟨k0_dev12, dev_lt12⟩ : Dev nD) (⟨k0_dev13, dev_lt13⟩ : Dev nD) (show 1 < 4 by decide) (show 0 < 4 by decide) (show 2 < 4 by decide) (show 3 < 4 by decide)) >>= fun _ =>
      pure ⟨⟩ := by
  rw [k0_part54_eq_skeleton]
  unfold k0_part54_skel
  refine jp_step (isntW d0 0) (sendOps d0 arg6 arg7 arg8 arg9 arg10 harg10 arg12 harg12 arg13 harg13 arg16 arg17 (⟨k0_dev4, dev_lt4⟩ : Dev nD) (show 0 < 4 by decide)) _ (fun _ => rfl) (fun _ => rfl) ?_
  refine jp_step (isntW d0 1) (sendOps d0 arg6 arg7 arg8 arg9 arg10 harg10 arg12 harg12 arg13 harg13 arg16 arg17 (⟨k0_dev5, dev_lt5⟩ : Dev nD) (show 1 < 4 by decide)) _ (fun _ => rfl) (fun _ => rfl) ?_
  refine jp_step (isntW d0 2) (sendOps d0 arg6 arg7 arg8 arg9 arg10 harg10 arg12 harg12 arg13 harg13 arg16 arg17 (⟨k0_dev6, dev_lt6⟩ : Dev nD) (show 2 < 4 by decide)) _ (fun _ => rfl) (fun _ => rfl) ?_
  refine jp_step (isntW d0 3) (sendOps d0 arg6 arg7 arg8 arg9 arg10 harg10 arg12 harg12 arg13 harg13 arg16 arg17 (⟨k0_dev7, dev_lt7⟩ : Dev nD) (show 3 < 4 by decide)) _ (fun _ => rfl) (fun _ => rfl) ?_
  refine jp_step (isW d0 0) (ownOps arg6 arg7 arg8 arg9 arg10 harg10 arg11 (show 0 < 4 by decide)) _ (fun _ => rfl) (fun _ => rfl) ?_
  refine jp_step (isW d0 1) (ownOps arg6 arg7 arg8 arg9 arg10 harg10 arg11 (show 1 < 4 by decide)) _ (fun _ => rfl) (fun _ => rfl) ?_
  refine jp_step (isW d0 2) (ownOps arg6 arg7 arg8 arg9 arg10 harg10 arg11 (show 2 < 4 by decide)) _ (fun _ => rfl) (fun _ => rfl) ?_
  refine jp_step (isW d0 3) (ownOps arg6 arg7 arg8 arg9 arg10 harg10 arg11 (show 3 < 4 by decide)) _ (fun _ => rfl) (fun _ => rfl) ?_
  refine jp_step (isW d0 0) (reduceOps arg5 arg11 arg12 harg12 arg13 harg13 arg14 harg14 arg15 harg15 arg17 arg18 arg19 (⟨k0_dev8, dev_lt8⟩ : Dev nD) (⟨k0_dev9, dev_lt9⟩ : Dev nD) (⟨k0_dev10, dev_lt10⟩ : Dev nD) (show 0 < 4 by decide) (show 1 < 4 by decide) (show 2 < 4 by decide) (show 3 < 4 by decide)) _ (fun _ => rfl) (fun _ => rfl) ?_
  refine jp_step (isW d0 1) (reduceOps arg5 arg11 arg12 harg12 arg13 harg13 arg14 harg14 arg15 harg15 arg17 arg18 arg19 (⟨k0_dev11, dev_lt11⟩ : Dev nD) (⟨k0_dev12, dev_lt12⟩ : Dev nD) (⟨k0_dev13, dev_lt13⟩ : Dev nD) (show 1 < 4 by decide) (show 0 < 4 by decide) (show 2 < 4 by decide) (show 3 < 4 by decide)) _ (fun _ => rfl) (fun _ => rfl) ?_
  rfl

end Cert.KernelIdeal.Gen

end
-- ==== Proof.SegB.lean ====
module

public import proofs.«01_k».proof.Proof.Segments

@[expose] public section

set_option maxRecDepth 65536

noncomputable section

namespace Cert.KernelIdeal.Gen

open Idealize.ShloMosaic Idealize.SL.Sem

variable {F : FTy → Type} [FloatOps F]

set_option maxHeartbeats 4000000 in
theorem part55_eq (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (d0 : Dev nD) :
    k0_part55 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 (placeW d0) =
      onlyIf (isW d0 2) (reduceOps arg5 arg11 arg12 harg12 arg13 harg13 arg14 harg14 arg15 harg15 arg17 arg18 arg19 (⟨k0_dev14, dev_lt14⟩ : Dev nD) (⟨k0_dev15, dev_lt15⟩ : Dev nD) (⟨k0_dev16, dev_lt16⟩ : Dev nD) (show 2 < 4 by decide) (show 0 < 4 by decide) (show 1 < 4 by decide) (show 3 < 4 by decide)) >>= fun _ =>
      onlyIf (isW d0 3) (reduceOps arg5 arg11 arg12 harg12 arg13 harg13 arg14 harg14 arg15 harg15 arg17 arg18 arg19 (⟨k0_dev17, dev_lt17⟩ : Dev nD) (⟨k0_dev18, dev_lt18⟩ : Dev nD) (⟨k0_dev19, dev_lt19⟩ : Dev nD) (show 3 < 4 by decide) (show 0 < 4 by decide) (show 1 < 4 by decide) (show 2 < 4 by decide)) >>= fun _ =>
      onlyIf (isntW d0 0) (sentOps d0 arg12 harg12 arg13 harg13 arg16 (show 0 < 4 by decide)) >>= fun _ =>
      onlyIf (isntW d0 1) (sentOps d0 arg12 harg12 arg13 harg13 arg16 (show 1 < 4 by decide)) >>= fun _ =>
      onlyIf (isntW d0 2) (sentOps d0 arg12 harg12 arg13 harg13 arg16 (show 2 < 4 by decide)) >>= fun _ =>
      onlyIf (isntW d0 3) (sentOps d0 arg12 harg12 arg13 harg13 arg16 (show 3 < 4 by decide)) >>= fun _ =>
      onlyIf (isntW d0 0) (gotOps arg14 harg14 arg15 harg15 arg19 (show 0 < 4 by decide)) >>= fun _ =>
      onlyIf (isntW d0 0) (fillOps arg5 arg15 (show 0 < 4 by decide) (show 0 < 4 by decide)) >>= fun _ =>
      onlyIf (isntW d0 0) (fillOps arg5 arg15 (show 0 < 4 by decide) (show 1 < 4 by decide)) >>= fun _ =>
      onlyIf (isntW d0 0) (fillOps arg5 arg15 (show 0 < 4 by decide) (show 2 < 4 by decide)) >>= fun _ =>
      pure (isntW d0 0) := by
  rw [k0_part55_eq_skeleton]
  unfold k0_part55_skel
  refine jp_step (isW d0 2) (reduceOps arg5 arg11 arg12 harg12 arg13 harg13 arg14 harg14 arg15 harg15 arg17 arg18 arg19 (⟨k0_dev14, dev_lt14⟩ : Dev nD) (⟨k0_dev15, dev_lt15⟩ : Dev nD) (⟨k0_dev16, dev_lt16⟩ : Dev nD) (show 2 < 4 by decide) (show 0 < 4 by decide) (show 1 < 4 by decide) (show 3 < 4 by decide)) _ (fun _ => rfl) (fun _ => rfl) ?_
  refine jp_step (isW d0 3) (reduceOps arg5 arg11 arg12 harg12 arg13 harg13 arg14 harg14 arg15 harg15 arg17 arg18 arg19 (⟨k0_dev17, dev_lt17⟩ : Dev nD) (⟨k0_dev18, dev_lt18⟩ : Dev nD) (⟨k0_dev19, dev_lt19⟩ : Dev nD) (show 3 < 4 by decide) (show 0 < 4 by decide) (show 1 < 4 by decide) (show 2 < 4 by decide)) _ (fun _ => rfl) (fun _ => rfl) ?_
  refine jp_step (isntW d0 0) (sentOps d0 arg12 harg12 arg13 harg13 arg16 (show 0 < 4 by decide)) _ (fun _ => rfl) (fun _ => rfl) ?_
  refine jp_step (isntW d0 1) (sentOps d0 arg12 harg12 arg13 harg13 arg16 (show 1 < 4 by decide)) _ (fun _ => rfl) (fun _ => rfl) ?_
  refine jp_step (isntW d0 2) (sentOps d0 arg12 harg12 arg13 harg13 arg16 (show 2 < 4 by decide)) _ (fun _ => rfl) (fun _ => rfl) ?_
  refine jp_step (isntW d0 3) (sentOps d0 arg12 harg12 arg13 harg13 arg16 (show 3 < 4 by decide)) _ (fun _ => rfl) (fun _ => rfl) ?_
  refine jp_step (isntW d0 0) (gotOps arg14 harg14 arg15 harg15 arg19 (show 0 < 4 by decide)) _ (fun _ => rfl) (fun _ => rfl) ?_
  refine jp_step (isntW d0 0) (fillOps arg5 arg15 (show 0 < 4 by decide) (show 0 < 4 by decide)) _ (fun _ => rfl) (fun _ => rfl) ?_
  refine jp_step (isntW d0 0) (fillOps arg5 arg15 (show 0 < 4 by decide) (show 1 < 4 by decide)) _ (fun _ => rfl) (fun _ => rfl) ?_
  refine jp_step (isntW d0 0) (fillOps arg5 arg15 (show 0 < 4 by decide) (show 2 < 4 by decide)) _ (fun _ => rfl) (fun _ => rfl) ?_
  rfl

set_option maxHeartbeats 4000000 in
theorem part56_eq (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (d0 : Dev nD) :
    k0_part56 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (placeW d0) (isntW d0 0) =
      onlyIf (isntW d0 0) (fillOps arg5 arg15 (show 0 < 4 by decide) (show 3 < 4 by decide)) >>= fun _ =>
      onlyIf (isntW d0 1) (gotOps arg14 harg14 arg15 harg15 arg19 (show 1 < 4 by decide)) >>= fun _ =>
      onlyIf (isntW d0 1) (fillOps arg5 arg15 (show 1 < 4 by decide) (show 0 < 4 by decide)) >>= fun _ =>
      onlyIf (isntW d0 1) (fillOps arg5 arg15 (show 1 < 4 by decide) (show 1 < 4 by decide)) >>= fun _ =>
      onlyIf (isntW d0 1) (fillOps arg5 arg15 (show 1 < 4 by decide) (show 2 < 4 by decide)) >>= fun _ =>
      onlyIf (isntW d0 1) (fillOps arg5 arg15 (show 1 < 4 by decide) (show 3 < 4 by decide)) >>= fun _ =>
      onlyIf (isntW d0 2) (gotOps arg14 harg14 arg15 harg15 arg19 (show 2 < 4 by decide)) >>= fun _ =>
      onlyIf (isntW d0 2) (fillOps arg5 arg15 (show 2 < 4 by decide) (show 0 < 4 by decide)) >>= fun _ =>
      onlyIf (isntW d0 2) (fillOps arg5 arg15 (show 2 < 4 by decide) (show 1 < 4 by decide)) >>= fun _ =>
      onlyIf (isntW d0 2) (fillOps arg5 arg15 (show 2 < 4 by decide) (show 2 < 4 by decide)) >>= fun _ =>
      pure (isntW d0 2) := by
  rw [k0_part56_eq_skeleton]
  unfold k0_part56_skel
  refine jp_step (isntW d0 0) (fillOps arg5 arg15 (show 0 < 4 by decide) (show 3 < 4 by decide)) _ (fun _ => rfl) (fun _ => rfl) ?_
  refine jp_step (isntW d0 1) (gotOps arg14 harg14 arg15 harg15 arg19 (show 1 < 4 by decide)) _ (fun _ => rfl) (fun _ => rfl) ?_
  refine jp_step (isntW d0 1) (fillOps arg5 arg15 (show 1 < 4 by decide) (show 0 < 4 by decide)) _ (fun _ => rfl) (fun _ => rfl) ?_
  refine jp_step (isntW d0 1) (fillOps arg5 arg15 (show 1 < 4 by decide) (show 1 < 4 by decide)) _ (fun _ => rfl) (fun _ => rfl) ?_
  refine jp_step (isntW d0 1) (fillOps arg5 arg15 (show 1 < 4 by decide) (show 2 < 4 by decide)) _ (fun _ => rfl) (fun _ => rfl) ?_
  refine jp_step (isntW d0 1) (fillOps arg5 arg15 (show 1 < 4 by decide) (show 3 < 4 by decide)) _ (fun _ => rfl) (fun _ => rfl) ?_
  refine jp_step (isntW d0 2) (gotOps arg14 harg14 arg15 harg15 arg19 (show 2 < 4 by decide)) _ (fun _ => rfl) (fun _ => rfl) ?_
  refine jp_step (isntW d0 2) (fillOps arg5 arg15 (show 2 < 4 by decide) (show 0 < 4 by decide)) _ (fun _ => rfl) (fun _ => rfl) ?_
  refine jp_step (isntW d0 2) (fillOps arg5 arg15 (show 2 < 4 by decide) (show 1 < 4 by decide)) _ (fun _ => rfl) (fun _ => rfl) ?_
  refine jp_step (isntW d0 2) (fillOps arg5 arg15 (show 2 < 4 by decide) (show 2 < 4 by decide)) _ (fun _ => rfl) (fun _ => rfl) ?_
  rfl

end Cert.KernelIdeal.Gen

end
-- ==== Proof.SegC.lean ====
module

public import proofs.«01_k».proof.Proof.SegFront
public import proofs.«01_k».proof.Proof.SegA
public import proofs.«01_k».proof.Proof.SegB

@[expose] public section

set_option maxRecDepth 65536

noncomputable section

namespace Cert.KernelIdeal.Gen

open Idealize.ShloMosaic Idealize.SL.Sem

variable {F : FTy → Type} [FloatOps F]

/-- What the printed part 57 does after the parts it calls. -/
def tail57 (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (d0 : Dev nD) (v2 : BitVec 32) (v370 : BitVec 1) : KProg F (Σ' (d0 : Dev nD), BitVec 32) := do
  if k0_h31 : v370 = 1#1 then do
    let v398 : Vec F S1x64x1024 .bf16 ← Prog.lift (.load arg15 (Rect.unit (s := S4x256x1024) ![2, 192, 0] S1x64x1024.size inb_S4x256x1024_S1x64x1024_2_192_0).toLoadRect (View.loadsAt_vmem h_S1x64x1024))
    let v401 : Vec F S64x1024 .f32 ← Prog.lift (.load arg5 (Rect.unit (s := S1024x1024) ![896, 0] S64x1024.size inb_S1024x1024_S64x1024_896_0).toLoadRect (View.loadsAt_vmem h_S64x1024))
    Prog.lift (.store arg5 (Rect.unit (s := S1024x1024) ![896, 0] S64x1024.size inb_S1024x1024_S64x1024_896_0) (k0_pay217 v398) Finset.univ (View.stores_vmem_bits_univ h_S64x1024 rfl) (.inl rfl))
    pure ⟨⟩
  else do
    pure ⟨⟩
  let v371 : BitVec 1 := Scalar.cmpi .ne v2 3#32
  let v372 : BitVec 32 := Scalar.extui v371
  let v373 : BitVec 1 := Scalar.cmpi .ne v372 0#32
  if k0_h32 : v373 = 1#1 then do
    let v400 : DmaSems sig S1 := arg19.slice (Rect.unit (s := S4) ![3] S1.size inb_S4_S1_3)
    let v401 : DmaSems sig S_ := v400.squeeze S_ squeezes_S1_S_
    let v402 : Memref sig .tc .vmem S1x256x1024 .bf16 := arg15.slice (Rect.unit (s := S4x256x1024) ![3, 0, 0] S1x256x1024.size inb_S4x256x1024_S1x256x1024_3_0_0) (fun _ => rfl)
    let v403 : Memref sig .tc .vmem S256x1024 .bf16 := v402.squeeze S256x1024 squeezes_S1x256x1024_S256x1024
    Prog.lift (.waitDma2 v401.sem arg14 v403 harg14.wordExact ((harg15.wordExact_slice rfl _ wordsbf16_S4x256x1024_S1x256x1024_3_0_0).reshape _ _))
    pure ⟨⟩
  else do
    pure ⟨⟩
  let v374 : BitVec 1 := Scalar.cmpi .ne v2 3#32
  let v375 : BitVec 32 := Scalar.extui v374
  let v376 : BitVec 1 := Scalar.cmpi .ne v375 0#32
  if k0_h33 : v376 = 1#1 then do
    let v398 : Vec F S1x64x1024 .bf16 ← Prog.lift (.load arg15 (Rect.unit (s := S4x256x1024) ![3, 0, 0] S1x64x1024.size inb_S4x256x1024_S1x64x1024_3_0_0).toLoadRect (View.loadsAt_vmem h_S1x64x1024))
    let v401 : Vec F S64x1024 .f32 ← Prog.lift (.load arg5 (Rect.unit (s := S1024x1024) ![192, 0] S64x1024.size inb_S1024x1024_S64x1024_192_0).toLoadRect (View.loadsAt_vmem h_S64x1024))
    Prog.lift (.store arg5 (Rect.unit (s := S1024x1024) ![192, 0] S64x1024.size inb_S1024x1024_S64x1024_192_0) (k0_pay218 v398) Finset.univ (View.stores_vmem_bits_univ h_S64x1024 rfl) (.inl rfl))
    pure ⟨⟩
  else do
    pure ⟨⟩
  let v377 : BitVec 1 := Scalar.cmpi .ne v2 3#32
  let v378 : BitVec 32 := Scalar.extui v377
  let v379 : BitVec 1 := Scalar.cmpi .ne v378 0#32
  if k0_h34 : v379 = 1#1 then do
    let v398 : Vec F S1x64x1024 .bf16 ← Prog.lift (.load arg15 (Rect.unit (s := S4x256x1024) ![3, 64, 0] S1x64x1024.size inb_S4x256x1024_S1x64x1024_3_64_0).toLoadRect (View.loadsAt_vmem h_S1x64x1024))
    let v401 : Vec F S64x1024 .f32 ← Prog.lift (.load arg5 (Rect.unit (s := S1024x1024) ![448, 0] S64x1024.size inb_S1024x1024_S64x1024_448_0).toLoadRect (View.loadsAt_vmem h_S64x1024))
    Prog.lift (.store arg5 (Rect.unit (s := S1024x1024) ![448, 0] S64x1024.size inb_S1024x1024_S64x1024_448_0) (k0_pay219 v398) Finset.univ (View.stores_vmem_bits_univ h_S64x1024 rfl) (.inl rfl))
    pure ⟨⟩
  else do
    pure ⟨⟩
  let v380 : BitVec 1 := Scalar.cmpi .ne v2 3#32
  let v381 : BitVec 32 := Scalar.extui v380
  let v382 : BitVec 1 := Scalar.cmpi .ne v381 0#32
  if k0_h35 : v382 = 1#1 then do
    let v398 : Vec F S1x64x1024 .bf16 ← Prog.lift (.load arg15 (Rect.unit (s := S4x256x1024) ![3, 128, 0] S1x64x1024.size inb_S4x256x1024_S1x64x1024_3_128_0).toLoadRect (View.loadsAt_vmem h_S1x64x1024))
    let v401 : Vec F S64x1024 .f32 ← Prog.lift (.load arg5 (Rect.unit (s := S1024x1024) ![704, 0] S64x1024.size inb_S1024x1024_S64x1024_704_0).toLoadRect (View.loadsAt_vmem h_S64x1024))
    Prog.lift (.store arg5 (Rect.unit (s := S1024x1024) ![704, 0] S64x1024.size inb_S1024x1024_S64x1024_704_0) (k0_pay220 v398) Finset.univ (View.stores_vmem_bits_univ h_S64x1024 rfl) (.inl rfl))
    pure ⟨⟩
  else do
    pure ⟨⟩
  let v383 : BitVec 1 := Scalar.cmpi .ne v2 3#32
  let v384 : BitVec 32 := Scalar.extui v383
  let v385 : BitVec 1 := Scalar.cmpi .ne v384 0#32
  if k0_h36 : v385 = 1#1 then do
    let v398 : Vec F S1x64x1024 .bf16 ← Prog.lift (.load arg15 (Rect.unit (s := S4x256x1024) ![3, 192, 0] S1x64x1024.size inb_S4x256x1024_S1x64x1024_3_192_0).toLoadRect (View.loadsAt_vmem h_S1x64x1024))
    let v401 : Vec F S64x1024 .f32 ← Prog.lift (.load arg5 (Rect.unit (s := S1024x1024) ![960, 0] S64x1024.size inb_S1024x1024_S64x1024_960_0).toLoadRect (View.loadsAt_vmem h_S64x1024))
    Prog.lift (.store arg5 (Rect.unit (s := S1024x1024) ![960, 0] S64x1024.size inb_S1024x1024_S64x1024_960_0) (k0_pay221 v398) Finset.univ (View.stores_vmem_bits_univ h_S64x1024 rfl) (.inl rfl))
    pure ⟨⟩
  else do
    pure ⟨⟩
  if k0_h37 : k0_cond37 d0 = 1#1 then do
    let v398 : DmaSems sig S1 := arg18.slice (Rect.unit (s := S4) ![0] S1.size inb_S4_S1_0)
    let v399 : DmaSems sig S_ := v398.squeeze S_ squeezes_S1_S_
    let v400 : Memref sig .tc .vmem S1x256x1024 .bf16 := arg15.slice (Rect.unit (s := S4x256x1024) (k0_off13 d0) S1x256x1024.size (k0_off13_inb d0 k0_h37)) (fun _ => rfl)
    let v401 : Memref sig .tc .vmem S256x1024 .bf16 := v400.squeeze S256x1024 squeezes_S1x256x1024_S256x1024
    Prog.lift (.waitDma2 v399.sem v401 arg14 ((harg15.wordExact_slice rfl _ (k0_off13_wordsbf16 d0 k0_h37)).reshape _ _) harg14.wordExact)
    pure ⟨⟩
  else do
    pure ⟨⟩
  if k0_h38 : k0_cond38 d0 = 1#1 then do
    let v398 : DmaSems sig S1 := arg18.slice (Rect.unit (s := S4) ![1] S1.size inb_S4_S1_1)
    let v399 : DmaSems sig S_ := v398.squeeze S_ squeezes_S1_S_
    let v400 : Memref sig .tc .vmem S1x256x1024 .bf16 := arg15.slice (Rect.unit (s := S4x256x1024) (k0_off14 d0) S1x256x1024.size (k0_off14_inb d0 k0_h38)) (fun _ => rfl)
    let v401 : Memref sig .tc .vmem S256x1024 .bf16 := v400.squeeze S256x1024 squeezes_S1x256x1024_S256x1024
    Prog.lift (.waitDma2 v399.sem v401 arg14 ((harg15.wordExact_slice rfl _ (k0_off14_wordsbf16 d0 k0_h38)).reshape _ _) harg14.wordExact)
    pure ⟨⟩
  else do
    pure ⟨⟩
  pure ⟨d0, v2⟩

set_option maxHeartbeats 4000000 in
theorem tail57_eq (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) (d0 : Dev nD) :
    tail57 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 (placeW d0) (isntW d0 2) = (do
      onlyIf (isntW d0 2) (fillOps arg5 arg15 (show 2 < 4 by decide) (show 3 < 4 by decide))
      onlyIf (isntW d0 3) (gotOps arg14 harg14 arg15 harg15 arg19 (show 3 < 4 by decide))
      onlyIf (isntW d0 3) (fillOps arg5 arg15 (show 3 < 4 by decide) (show 0 < 4 by decide))
      onlyIf (isntW d0 3) (fillOps arg5 arg15 (show 3 < 4 by decide) (show 1 < 4 by decide))
      onlyIf (isntW d0 3) (fillOps arg5 arg15 (show 3 < 4 by decide) (show 2 < 4 by decide))
      onlyIf (isntW d0 3) (fillOps arg5 arg15 (show 3 < 4 by decide) (show 3 < 4 by decide))
      onlyIf (isntW d0 0) (goneOps d0 arg14 harg14 arg15 harg15 arg18 (show 0 < 4 by decide))
      onlyIf (isntW d0 1) (goneOps d0 arg14 harg14 arg15 harg15 arg18 (show 1 < 4 by decide))
      pure ⟨d0, placeW d0⟩) := by
  unfold tail57
  refine jp_step (isntW d0 2) (fillOps arg5 arg15 (show 2 < 4 by decide) (show 3 < 4 by decide)) _ (fun _ => rfl) (fun _ => rfl) ?_
  refine jp_step (isntW d0 3) (gotOps arg14 harg14 arg15 harg15 arg19 (show 3 < 4 by decide)) _ (fun _ => rfl) (fun _ => rfl) ?_
  refine jp_step (isntW d0 3) (fillOps arg5 arg15 (show 3 < 4 by decide) (show 0 < 4 by decide)) _ (fun _ => rfl) (fun _ => rfl) ?_
  refine jp_step (isntW d0 3) (fillOps arg5 arg15 (show 3 < 4 by decide) (show 1 < 4 by decide)) _ (fun _ => rfl) (fun _ => rfl) ?_
  refine jp_step (isntW d0 3) (fillOps arg5 arg15 (show 3 < 4 by decide) (show 2 < 4 by decide)) _ (fun _ => rfl) (fun _ => rfl) ?_
  refine jp_step (isntW d0 3) (fillOps arg5 arg15 (show 3 < 4 by decide) (show 3 < 4 by decide)) _ (fun _ => rfl) (fun _ => rfl) ?_
  refine jp_step (isntW d0 0) (goneOps d0 arg14 harg14 arg15 harg15 arg18 (show 0 < 4 by decide)) _ (fun _ => rfl) (fun _ => rfl) ?_
  refine jp_step (isntW d0 1) (goneOps d0 arg14 harg14 arg15 harg15 arg18 (show 1 < 4 by decide)) _ (fun _ => rfl) (fun _ => rfl) ?_
  rfl

set_option maxHeartbeats 4000000 in
theorem part57_eq (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) :
    k0_part57 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 = (do
      let d0 : Dev nD ← Prog.lift .deviceId
      barrierOps d0
      stageOps arg0 arg1 arg2 arg3 arg4 arg6 arg7 arg8 arg9 harg6 harg7 harg8 harg9
      onlyIf (isntW d0 0) (sendOps d0 arg6 arg7 arg8 arg9 arg10 harg10 arg12 harg12 arg13 harg13 arg16 arg17 (⟨k0_dev4, dev_lt4⟩ : Dev nD) (show 0 < 4 by decide))
      onlyIf (isntW d0 1) (sendOps d0 arg6 arg7 arg8 arg9 arg10 harg10 arg12 harg12 arg13 harg13 arg16 arg17 (⟨k0_dev5, dev_lt5⟩ : Dev nD) (show 1 < 4 by decide))
      onlyIf (isntW d0 2) (sendOps d0 arg6 arg7 arg8 arg9 arg10 harg10 arg12 harg12 arg13 harg13 arg16 arg17 (⟨k0_dev6, dev_lt6⟩ : Dev nD) (show 2 < 4 by decide))
      onlyIf (isntW d0 3) (sendOps d0 arg6 arg7 arg8 arg9 arg10 harg10 arg12 harg12 arg13 harg13 arg16 arg17 (⟨k0_dev7, dev_lt7⟩ : Dev nD) (show 3 < 4 by decide))
      onlyIf (isW d0 0) (ownOps arg6 arg7 arg8 arg9 arg10 harg10 arg11 (show 0 < 4 by decide))
      onlyIf (isW d0 1) (ownOps arg6 arg7 arg8 arg9 arg10 harg10 arg11 (show 1 < 4 by decide))
      onlyIf (isW d0 2) (ownOps arg6 arg7 arg8 arg9 arg10 harg10 arg11 (show 2 < 4 by decide))
      onlyIf (isW d0 3) (ownOps arg6 arg7 arg8 arg9 arg10 harg10 arg11 (show 3 < 4 by decide))
      onlyIf (isW d0 0) (reduceOps arg5 arg11 arg12 harg12 arg13 harg13 arg14 harg14 arg15 harg15 arg17 arg18 arg19 (⟨k0_dev8, dev_lt8⟩ : Dev nD) (⟨k0_dev9, dev_lt9⟩ : Dev nD) (⟨k0_dev10, dev_lt10⟩ : Dev nD) (show 0 < 4 by decide) (show 1 < 4 by decide) (show 2 < 4 by decide) (show 3 < 4 by decide))
      onlyIf (isW d0 1) (reduceOps arg5 arg11 arg12 harg12 arg13 harg13 arg14 harg14 arg15 harg15 arg17 arg18 arg19 (⟨k0_dev11, dev_lt11⟩ : Dev nD) (⟨k0_dev12, dev_lt12⟩ : Dev nD) (⟨k0_dev13, dev_lt13⟩ : Dev nD) (show 1 < 4 by decide) (show 0 < 4 by decide) (show 2 < 4 by decide) (show 3 < 4 by decide))
      onlyIf (isW d0 2) (reduceOps arg5 arg11 arg12 harg12 arg13 harg13 arg14 harg14 arg15 harg15 arg17 arg18 arg19 (⟨k0_dev14, dev_lt14⟩ : Dev nD) (⟨k0_dev15, dev_lt15⟩ : Dev nD) (⟨k0_dev16, dev_lt16⟩ : Dev nD) (show 2 < 4 by decide) (show 0 < 4 by decide) (show 1 < 4 by decide) (show 3 < 4 by decide))
      onlyIf (isW d0 3) (reduceOps arg5 arg11 arg12 harg12 arg13 harg13 arg14 harg14 arg15 harg15 arg17 arg18 arg19 (⟨k0_dev17, dev_lt17⟩ : Dev nD) (⟨k0_dev18, dev_lt18⟩ : Dev nD) (⟨k0_dev19, dev_lt19⟩ : Dev nD) (show 3 < 4 by decide) (show 0 < 4 by decide) (show 1 < 4 by decide) (show 2 < 4 by decide))
      onlyIf (isntW d0 0) (sentOps d0 arg12 harg12 arg13 harg13 arg16 (show 0 < 4 by decide))
      onlyIf (isntW d0 1) (sentOps d0 arg12 harg12 arg13 harg13 arg16 (show 1 < 4 by decide))
      onlyIf (isntW d0 2) (sentOps d0 arg12 harg12 arg13 harg13 arg16 (show 2 < 4 by decide))
      onlyIf (isntW d0 3) (sentOps d0 arg12 harg12 arg13 harg13 arg16 (show 3 < 4 by decide))
      onlyIf (isntW d0 0) (gotOps arg14 harg14 arg15 harg15 arg19 (show 0 < 4 by decide))
      onlyIf (isntW d0 0) (fillOps arg5 arg15 (show 0 < 4 by decide) (show 0 < 4 by decide))
      onlyIf (isntW d0 0) (fillOps arg5 arg15 (show 0 < 4 by decide) (show 1 < 4 by decide))
      onlyIf (isntW d0 0) (fillOps arg5 arg15 (show 0 < 4 by decide) (show 2 < 4 by decide))
      onlyIf (isntW d0 0) (fillOps arg5 arg15 (show 0 < 4 by decide) (show 3 < 4 by decide))
      onlyIf (isntW d0 1) (gotOps arg14 harg14 arg15 harg15 arg19 (show 1 < 4 by decide))
      onlyIf (isntW d0 1) (fillOps arg5 arg15 (show 1 < 4 by decide) (show 0 < 4 by decide))
      onlyIf (isntW d0 1) (fillOps arg5 arg15 (show 1 < 4 by decide) (show 1 < 4 by decide))
      onlyIf (isntW d0 1) (fillOps arg5 arg15 (show 1 < 4 by decide) (show 2 < 4 by decide))
      onlyIf (isntW d0 1) (fillOps arg5 arg15 (show 1 < 4 by decide) (show 3 < 4 by decide))
      onlyIf (isntW d0 2) (gotOps arg14 harg14 arg15 harg15 arg19 (show 2 < 4 by decide))
      onlyIf (isntW d0 2) (fillOps arg5 arg15 (show 2 < 4 by decide) (show 0 < 4 by decide))
      onlyIf (isntW d0 2) (fillOps arg5 arg15 (show 2 < 4 by decide) (show 1 < 4 by decide))
      onlyIf (isntW d0 2) (fillOps arg5 arg15 (show 2 < 4 by decide) (show 2 < 4 by decide))
      onlyIf (isntW d0 2) (fillOps arg5 arg15 (show 2 < 4 by decide) (show 3 < 4 by decide))
      onlyIf (isntW d0 3) (gotOps arg14 harg14 arg15 harg15 arg19 (show 3 < 4 by decide))
      onlyIf (isntW d0 3) (fillOps arg5 arg15 (show 3 < 4 by decide) (show 0 < 4 by decide))
      onlyIf (isntW d0 3) (fillOps arg5 arg15 (show 3 < 4 by decide) (show 1 < 4 by decide))
      onlyIf (isntW d0 3) (fillOps arg5 arg15 (show 3 < 4 by decide) (show 2 < 4 by decide))
      onlyIf (isntW d0 3) (fillOps arg5 arg15 (show 3 < 4 by decide) (show 3 < 4 by decide))
      onlyIf (isntW d0 0) (goneOps d0 arg14 harg14 arg15 harg15 arg18 (show 0 < 4 by decide))
      onlyIf (isntW d0 1) (goneOps d0 arg14 harg14 arg15 harg15 arg18 (show 1 < 4 by decide))
      pure ⟨d0, placeW d0⟩) := by
  rw [k0_part57_eq_skeleton]
  unfold k0_part57_skel
  refine (front_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (fun d0 v2 => do
      k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 v2
      let v340 : BitVec 1 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 v2
      let v370 : BitVec 1 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2 v340
      tail57 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 d0 v2 v370)).trans ?_
  refine bind_congr fun d0 => bind_congr fun _ => bind_congr fun _ => ?_
  simp only [part54_eq, part55_eq, part56_eq, tail57_eq, bind_assoc, pure_bind]

set_option maxHeartbeats 4000000 in
theorem body_eq (arg0 : VM S1024x1024 .bf16) (harg0 : arg0.IsWhole) (arg1 : VM S1024x1024 .bf16) (harg1 : arg1.IsWhole) (arg2 : VM S1024x1024 .bf16) (harg2 : arg2.IsWhole) (arg3 : VM S1024x1024 .bf16) (harg3 : arg3.IsWhole) (arg4 : VM S1024x1024 .bf16) (harg4 : arg4.IsWhole) (arg5 : VM S1024x1024 .f32) (harg5 : arg5.IsWhole) (arg6 : VM S1024x1024 .bf16) (harg6 : arg6.IsWhole) (arg7 : VM S1024x1024 .bf16) (harg7 : arg7.IsWhole) (arg8 : VM S1024x1024 .bf16) (harg8 : arg8.IsWhole) (arg9 : VM S1024x1024 .bf16) (harg9 : arg9.IsWhole) (arg10 : VM S256x1024 .bf16) (harg10 : arg10.IsWhole) (arg11 : VM S256x1024 .f32) (harg11 : arg11.IsWhole) (arg12 : VM S4x256x1024 .bf16) (harg12 : arg12.IsWhole) (arg13 : VM S4x256x1024 .bf16) (harg13 : arg13.IsWhole) (arg14 : VM S256x1024 .bf16) (harg14 : arg14.IsWhole) (arg15 : VM S4x256x1024 .bf16) (harg15 : arg15.IsWhole) (arg16 arg17 arg18 arg19 : DmaSems sig S4) :
    cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 = bodyOps arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 := by
  rw [cc0__body_eq_skeleton]
  unfold cc0__body_skel bodyOps
  rw [part57_eq]
  simp only [bind_assoc, pure_bind]
  refine bind_congr fun d0 => ?_
  refine bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => bind_congr fun _ => ?_
  refine jp_step (isntW d0 2) (goneOps d0 arg14 harg14 arg15 harg15 arg18 (show 2 < 4 by decide)) _ (fun _ => rfl) (fun _ => rfl) ?_
  refine jp_step (isntW d0 3) (goneOps d0 arg14 harg14 arg15 harg15 arg18 (show 3 < 4 by decide)) _ (fun _ => rfl) (fun _ => rfl) ?_
  rfl

end Cert.KernelIdeal.Gen

end
-- ==== Proof.Region.lean ====
/-
  The kernel as a region of @main: what its arrays hold at entry and at the end, what a device carries
  through its one point, and the body's obligation there.
-/
module

public import proofs.«01_k».proof.Proof.Enter
public import proofs.«01_k».proof.Proof.SegC
public import proofs.«01_k».proof.Proof.Gen.KernelIdeal.Points
public import Idealize.ShloMosaic.Lib.Pipeline.ValueKit
public import Idealize.ShloMosaic.Lib.Pipeline.RegionTalk

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat BodyObligation)

variable (m : (ℓ : Loc nD τ sig) → Buf (Elt F) ℓ)

/-! ## Contents -/

/-- The kernel's operands on each device, as the host lines before it leave them. -/
def ins (c : Dev nD) : Ins F where
  x := V1 m c main_v19
  wq := V1 m c main_arg1
  k := V1 m c main_v11
  v := V1 m c main_v18
  wo := V1 m c main_arg4

/-- What the kernel leaves in its result array. -/
def outs : Outs (F := F) := fun _ r c => if h : r = main_v20 then h ▸ (outV (ins m) c : Buf (Elt F) ((c : Thread nD τ).loc main_v20)) else V1 m c r
theorem outs_out (c : Dev nD) : outs m 2 main_v20 c = outV (ins m) c := by
  unfold outs
  rw [dif_pos rfl]

/-! ## The proof data -/

/-- What a device carries into the point, and out of it. -/
def Φin (c : Dev nD) : sProp 𝕄 := iprop((∃ κ, Rec (ins m) κ ∗ talkIn c) ∗ scr c ∗ ∃ r, prngReg c r)
def Φout (c : Dev nD) : sProp 𝕄 := iprop((semVal (barCell c) 0 ∗ zeros c) ∗ scr c ∗ ∃ r, prngReg c r)

def dats (_ : Fin 1) (c : Dev nD) : Dat τ (Elt F) Unit ℕ UU ℕ cfg0 c where
  A w := match w with
    | ⟨0, _⟩ => V1 m c main_v19
    | ⟨1, _⟩ => V1 m c main_arg1
    | ⟨2, _⟩ => V1 m c main_v11
    | ⟨3, _⟩ => V1 m c main_v18
    | ⟨4, _⟩ => V1 m c main_arg4
    | ⟨5, _⟩ => V1 m c main_v20
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => outV (ins m) c
  Φ t := match t with
    | ⟨0, _⟩ => Φin m c
    | ⟨_ + 1, _⟩ => Φout c
  q _ := fullShare
  owed t := match t with
    | ⟨0, _⟩ => O₀ c
    | ⟨_ + 1, _⟩ => 0

/-! ## The windows are whole arrays -/

theorem blk_emb0 (t : Fin cfg0.N) (y : S1024x1024.Idx) : (win0_0.blk t).view.emb y = y := by
  funext a
  refine Fin.ext ?_
  show 0 * _ + 1 * _ = _
  rw [Nat.zero_mul, Nat.zero_add, Nat.one_mul]
theorem blk_emb1 (t : Fin cfg0.N) (y : S1024x1024.Idx) : (win0_1.blk t).view.emb y = y := by
  funext a
  refine Fin.ext ?_
  show 0 * _ + 1 * _ = _
  rw [Nat.zero_mul, Nat.zero_add, Nat.one_mul]
theorem blk_emb2 (t : Fin cfg0.N) (y : S1024x1024.Idx) : (win0_2.blk t).view.emb y = y := by
  funext a
  refine Fin.ext ?_
  show 0 * _ + 1 * _ = _
  rw [Nat.zero_mul, Nat.zero_add, Nat.one_mul]
theorem blk_emb3 (t : Fin cfg0.N) (y : S1024x1024.Idx) : (win0_3.blk t).view.emb y = y := by
  funext a
  refine Fin.ext ?_
  show 0 * _ + 1 * _ = _
  rw [Nat.zero_mul, Nat.zero_add, Nat.one_mul]
theorem blk_emb4 (t : Fin cfg0.N) (y : S1024x1024.Idx) : (win0_4.blk t).view.emb y = y := by
  funext a
  refine Fin.ext ?_
  show 0 * _ + 1 * _ = _
  rw [Nat.zero_mul, Nat.zero_add, Nat.one_mul]
theorem blk_emb5 (t : Fin cfg0.N) (y : S1024x1024.Idx) : (win0_5.blk t).view.emb y = y := by
  funext a
  refine Fin.ext ?_
  show 0 * _ + 1 * _ = _
  rw [Nat.zero_mul, Nat.zero_add, Nat.one_mul]

theorem before0 (c : Dev nD) (t : Fin cfg0.N) (d) : (dats m 0 c).before (0 : Fin 6) t d = (ins m c).x := by
  unfold Dat.before
  rw [if_pos (fetch0_0 t)]
  funext y
  show (win0_0.blk t).view.read (Elt F) (V1 m c main_v19) y = _
  rw [View.read_apply, blk_emb0]
  rfl
theorem before1 (c : Dev nD) (t : Fin cfg0.N) (d) : (dats m 0 c).before (1 : Fin 6) t d = (ins m c).wq := by
  unfold Dat.before
  rw [if_pos (fetch0_1 t)]
  funext y
  show (win0_1.blk t).view.read (Elt F) (V1 m c main_arg1) y = _
  rw [View.read_apply, blk_emb1]
  rfl
theorem before2 (c : Dev nD) (t : Fin cfg0.N) (d) : (dats m 0 c).before (2 : Fin 6) t d = (ins m c).k := by
  unfold Dat.before
  rw [if_pos (fetch0_2 t)]
  funext y
  show (win0_2.blk t).view.read (Elt F) (V1 m c main_v11) y = _
  rw [View.read_apply, blk_emb2]
  rfl
theorem before3 (c : Dev nD) (t : Fin cfg0.N) (d) : (dats m 0 c).before (3 : Fin 6) t d = (ins m c).v := by
  unfold Dat.before
  rw [if_pos (fetch0_3 t)]
  funext y
  show (win0_3.blk t).view.read (Elt F) (V1 m c main_v18) y = _
  rw [View.read_apply, blk_emb3]
  rfl
theorem before4 (c : Dev nD) (t : Fin cfg0.N) (d) : (dats m 0 c).before (4 : Fin 6) t d = (ins m c).wo := by
  unfold Dat.before
  rw [if_pos (fetch0_4 t)]
  funext y
  show (win0_4.blk t).view.read (Elt F) (V1 m c main_arg4) y = _
  rw [View.read_apply, blk_emb4]
  rfl

theorem arr_in (c : Dev nD) (n : ℕ) (w : Fin 6) (h : w ≠ 5) : (dats m 0 c).arrAt w n = V1 m c (Proc.devRef .tc (Pipeline.arrRef spec0 w)) := by
  refine ((dats m 0 c).arrAt_in w ?_ n).trans ?_
  · fin_cases w <;> first | rfl | exact absurd rfl h
  · fin_cases w <;> rfl
theorem arr_start (c : Dev nD) (w : Fin 6) : (dats m 0 c).arrAt w 0 = V1 m c (Proc.devRef .tc (Pipeline.arrRef spec0 w)) := by
  fin_cases w <;> rfl
theorem arr_out (c : Dev nD) : (dats m 0 c).arrAt (5 : Fin 6) cfg0.N = (outV (ins m) c : Vec F S1024x1024 .f32) := by
  refine (dats m 0 c).arrAt_eq_of_covers (5 : Fin 6) (outV (ins m) c : Vec F S1024x1024 .f32) (by decide +kernel) fun t hf y => ?_
  show outV (ins m) c y = outV (ins m) c ((win0_5.blk t).view.emb y)
  rw [blk_emb5]
theorem arr_end (c : Dev nD) (w : Fin 6) : (dats m 0 c).arrAt w cfg0.N = V2 m (outs m) c (Proc.devRef .tc (Pipeline.arrRef spec0 w)) := by
  by_cases h : w = 5
  · subst h
    rw [arr_out]
    show _ = Function.update (V1 m c) (main_v20 : DevRef τ sig) (outs m 2 main_v20 c) (main_v20 : DevRef τ sig)
    rw [Function.update_self, outs_out]
  · rw [arr_in m c _ w h]
    exact (V2_of m (outs m) c (Pipeline.arrRef spec0 w) (by fin_cases w <;> first | exact absurd rfl h | decide)).symm

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-- A staging buffer of device c holding X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) (t : Fin cfg0.N) : sProp 𝕄 :=
  iprop(Φin m c ∗ (dats m 0 c).owesAt () t.castSucc
    ∗ (∃ d, stg c cc0_stg0_0 ((dats m 0 c).before (0 : Fin 6) t d)) ∗ (∃ d, stg c cc0_stg1_0 ((dats m 0 c).before (1 : Fin 6) t d))
    ∗ (∃ d, stg c cc0_stg2_0 ((dats m 0 c).before (2 : Fin 6) t d)) ∗ (∃ d, stg c cc0_stg3_0 ((dats m 0 c).before (3 : Fin 6) t d))
    ∗ (∃ d, stg c cc0_stg4_0 ((dats m 0 c).before (4 : Fin 6) t d)) ∗ (∃ d, stg c cc0_stg5_0 ((dats m 0 c).before (5 : Fin 6) t d)))
def bodyPost (c : Dev nD) (t : Fin cfg0.N) : sProp 𝕄 :=
  iprop(Φout c ∗ (dats m 0 c).owesAt () t.succ
    ∗ stg c cc0_stg0_0 (ins m c).x ∗ stg c cc0_stg1_0 (ins m c).wq ∗ stg c cc0_stg2_0 (ins m c).k ∗ stg c cc0_stg3_0 (ins m c).v
    ∗ stg c cc0_stg4_0 (ins m c).wo ∗ stg c cc0_stg5_0 (outV (ins m) c))

theorem body_runs (c : Dev nD) (Kt : PUnit → sProp 𝕄) (P : sProp 𝕄)
    (h : P ⊢ wp frame (wpE (defs₀ (F := F)) 𝒱₀ (c : Thread nD τ) none) Set.univ (bodyDev c) Kt) :
    P ⊢ wp frame (wpE (defs₀ (F := F)) 𝒱₀ (c : Thread nD τ) none) Set.univ (bodyAt0 (F := F) t0_0) Kt := by
  obtain ⟨R, hR, hc⟩ := body_dev (F := F)
  have e : bodyAt0 (F := F) t0_0 = Prog.lift .deviceId >>= R := (body_eq (F := F) _ _ _ _ _ _ _ _ _ _ _ _ _ _ _ _ _ _ _ _ _ _ _ _ _ _ _ _ _ _ _ _ _ _ _ _).trans hR
  rw [e, Prog.bind_lift, wp_deviceId, hc c]
  exact h

theorem sound_body (c : Dev nD) :
    bodyPre m c t0_0 ⊢ wp frame (wpE (defs₀ (F := F)) 𝒱₀ (c : Thread nD τ) none) Set.univ (bodyAt0 (F := F) t0_0) (fun _ => bodyPost m c t0_0) := by
  refine body_runs c _ _ ?_
  refine BI.Entails.trans ?_ (wp_fupd _ _ _ _ _)
  show bodyPre m c t0_0 ⊢ wp frame (wpE (defs₀ (F := F)) 𝒱₀ (c : Thread nD τ) none) Set.univ (bodyDev c) (fun _ => iprop(|={Set.univ}=> bodyPost m c t0_0))
  unfold bodyPre Φin
  iintro ⟨⟨⟨%κ, #HR, Ht⟩, Hs, Hp⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before0] at h0
  rw [before1] at h1
  rw [before2] at h2
  rw [before3] at h3
  rw [before4] at h4
  subst h0 h1 h2 h3 h4
  unfold Dat.owesAt Pipeline.owesWithin
  icases Ho with ⟨%W, -, HO⟩
  iapply (body_tri (ins m) κ c _)
  isplitl [Ht Hs H0 H1 H2 H3 H4 H5 HO]
  · isplitr
    · iexact HR
    isplitl [H0 H1 H2 H3 H4]
    · unfold Inp
      isplitl [H0]
      · iexact H0
      isplitl [H1]
      · iexact H1
      isplitl [H2]
      · iexact H2
      isplitl [H3]
      · iexact H3
      iexact H4
    isplitl [H5]
    · iexists g5
      iexact H5
    isplitl [Hs]
    · iexact Hs
    iapply (Entails.of_eq (talkPre_eq (F := F) c).symm)
    isplitl [HO]
    · unfold owesA
      iexists W
      iexact HO
    iexact Ht
  unfold Inp
  iintro ⟨⟨H0, H1, H2, H3, H4⟩, H5, Hs, Ht⟩
  imod (close_all (ins m) κ c) $$ [Ht] with ⟨HO, Hb, Hz⟩
  · isplitr
    · iexact HR
    iexact Ht
  imodintro
  unfold bodyPost Φout owesA Dat.owesAt Pipeline.owesWithin
  isplitl [Hb Hz Hs Hp]
  · isplitl [Hb Hz]
    · isplitl [Hb]
      · iexact Hb
      iexact Hz
    isplitl [Hs]
    · iexact Hs
    iexact Hp
  isplitl [HO]
  · icases HO with ⟨%W', HO⟩
    iexists W'
    isplitr
    · ipureintro
      exact fun _ _ => Or.inl trivial
    iexact HO
  isplitl [H0]
  · iexists _
    isplitr
    · ipureintro
      rfl
    iexact H0
  isplitl [H1]
  · iexists _
    isplitr
    · ipureintro
      rfl
    iexact H1
  isplitl [H2]
  · iexists _
    isplitr
    · ipureintro
      rfl
    iexact H2
  isplitl [H3]
  · iexists _
    isplitr
    · ipureintro
      rfl
    iexact H3
  isplitl [H4]
  · iexists _
    isplitr
    · ipureintro
      rfl
    iexact H4
  iexists _
  isplitr
  · ipureintro
    rfl
  iexact H5

theorem body_obligation (c : Dev nD) : BodyObligation (dats (F := F) m 0 c) (defs₀ (F := F)) 𝒱₀ () Set.univ := fun t => by
  rw [show t = t0_0 from fin_N0 t, bigSep_W0, bigSep_W0]
  simp only [owns_whole_eq]
  show bodyPre m c t0_0 ⊢ wp frame (wpE (defs₀ (F := F)) 𝒱₀ (c : Thread nD τ) none) Set.univ (bodyAt0 (F := F) t0_0) (fun _ => bodyPost m c t0_0)
  exact sound_body m c

end Cert.KernelIdeal.Gen

end
-- ==== Proof.RegionSeg.lean ====
/-
  The kernel's region record: entered with what the launch kept for it, left with its counters at zero.
-/
module

public import proofs.«01_k».proof.Proof.Region

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-- What the launch keeps for a device's kernel. -/
def Tk (c : Dev nD) : sProp 𝕄 := iprop((∃ κ, records (ins m) κ ∗ linear c) ∗ credits c)
def Xk (c : Dev nD) : sProp 𝕄 := iprop(∃ κ, Rec (ins m) κ ∗ talkIn c)
def Yk (c : Dev nD) : sProp 𝕄 := semVal (barCell c) 0

theorem hopen0 (c : Dev nD) : iprop(Tk m c ∗ Pipeline.ownSems0 sm c ∗ levAts L lv) ⊢ (|={Set.univ}=> Xk m c : sProp 𝕄) := by
  unfold Tk Xk
  iintro ⟨⟨⟨%κ, #HR, Hl⟩, Hc⟩, Hz, #Hlev⟩
  have hz : (Pipeline.ownSems0 sm c : sProp 𝕄) ⊢ zeros c := .rfl
  ihave Hz := hz $$ Hz
  imod (enter (ins m) κ c) $$ [Hl Hc Hz] with H
  · isplitr
    · unfold Rec
      isplitr
      · iexact HR
      iexact Hlev
    isplitl [Hl]
    · iexact Hl
    isplitl [Hc]
    · iexact Hc
    iexact Hz
  imodintro
  iexists κ
  isplitr
  · unfold Rec
    isplitr
    · iexact HR
    iexact Hlev
  iexact H

theorem held_none (c : Dev nD) (W : Valuation τ sig (Elt F)) : (StableHlo.held (c.tc : Thread nD τ) (∅ : Finset (DevRef τ sig)) W : sProp 𝕄) = BI.emp := by
  unfold StableHlo.held
  exact BI.bigSep_empty

theorem scr_eq (c : Dev nD) : (Pipeline.scopedRest (Pipeline.pin (pcfgs (F := F)) adm 0).spec c : sProp 𝕄) = scr c :=
  (scopedRest0_eq (Ix := Unit) (Name := ℕ) (U := UU) (Lvl := ℕ) (Val := Elt F) c).trans rfl

theorem hin0 (c : Dev nD) : iprop(Pipeline.scopedRest (Pipeline.pin (pcfgs (F := F)) adm 0).spec c ∗ (∃ r, prngReg c r)
      ∗ StableHlo.held (c.tc : Thread nD τ) (∅ : Finset (DevRef τ sig)) (V1 m c) ∗ Xk m c)
    ⊢ (dats m 0 c).Φ 0 := by
  rw [show (dats m 0 c).Φ 0 = Φin m c from rfl, scr_eq]
  unfold Φin Xk
  iintro ⟨Hs, Hp, -, HX⟩
  isplitl [HX]
  · iexact HX
  isplitl [Hs]
  · iexact Hs
  iexact Hp

theorem hout0 (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (V2 m (outs m) c) ∗ Pipeline.ownSems0 sm c ∗ Yk c) := by
  rw [show (dats m 0 c).Φ (Fin.last _) = Φout c from rfl, scr_eq, held_none]
  unfold Φout Yk
  iintro ⟨⟨Hb, Hz⟩, Hs, Hp⟩
  have hz : (zeros c : sProp 𝕄) ⊢ Pipeline.ownSems0 sm c := .rfl
  isplitl [Hs]
  · iexact Hs
  isplitl [Hp]
  · iexact Hp
  isplitr
  · iempintro
  isplitl [Hz]
  · iapply hz
    iexact Hz
  iexact Hb

/-! ## Levels -/

theorem lv_none (c : Dev nD) (s : DmaSem sig) (u : Unit) (h : ∀ p, sm p ≠ .dma s) : lv ((c : Thread nD τ), .dma s) u = 0 := by
  unfold lv
  rw [if_neg (fun h => by cases h)]
  have e : dec (.dma s) = none := by
    unfold dec
    exact dif_neg fun ⟨p, hp⟩ => h p hp
  rw [e]

theorem staging_apart : ∀ (w : Fin 6) (s : Fin ((win0 w).nbuf)) (p : Fin 4 × Fin 4), sm p ≠ .dma ((win0 w).sem s) := by
  intro w s p
  fin_cases w <;> (revert s p; decide)

theorem cut0 : Pipeline.LevelCutOwed (pcfgs (F := F)) adm (dats m) () L lv 0 (fun _ => 0) where
  hι c w s := by
    rw [L_tc]
    exact Finset.mem_singleton_self _
  hιb c w s := Nat.le_of_eq (lv_none c _ () (staging_apart w s))
  hD c t g u h := by
    have ht : (dats m 0 c).owed t = O₀ c ∨ (dats m 0 c).owed t = 0 := by
      rcases t with ⟨t, ht⟩
      match t with
      | 0 => exact .inl rfl
      | _ + 1 => exact .inr rfl
    rcases ht with e | e <;> rw [e] at h
    · obtain ⟨e, rfl | rfl | rfl⟩ := O₀_pos h
      · refine ⟨by rw [L_tc]; exact Finset.mem_singleton_self _, ?_⟩
        rw [lv_dma]
        decide
      · refine ⟨by rw [L_tc]; exact Finset.mem_singleton_self _, ?_⟩
        rw [lv_dma]
        decide
      · refine ⟨by rw [L_tc]; exact Finset.mem_singleton_self _, ?_⟩
        rw [lv_bar]
        decide
    · exact absurd h (Nat.lt_irrefl 0)

theorem share_eq (c : Dev nD) (w : Fin cfg0.W) : (dats m 0 c).share w = fullShare := by
  unfold Dat.share
  split <;> rfl

/-- The buffers outside the kernel's reach. -/
def others : Finset (DevRef τ sig) := Pipeline.ucRefs τ sig \ Pipeline.arrRefs (τ := τ) (pcfgs (F := F) 0).spec

theorem others_same (c : Dev nD) (b : DevRef τ sig) (hb : b ∈ (others (F := F)) \ ∅) : V2 m (outs m) c b = V1 m c b := by
  have h : b ≠ (main_v20 : DevRef τ sig) := by
    rintro rfl
    refine (Finset.mem_sdiff.mp (Finset.mem_sdiff.mp hb).1).2 ?_
    unfold Pipeline.arrRefs
    exact Finset.mem_map_of_mem _ (Finset.mem_image_of_mem _ (Finset.mem_univ (5 : Fin 6)))
  exact Function.update_of_ne h _ _

set_option backward.isDefEq.respectTransparency.types false in
def reg0 : Pipeline.RegionSeg (pcfgs (F := F)) adm (dats m) () defs₀ 𝒱₀ L lv 0 :=
  Pipeline.RegionSeg.ofTalk (pcfgs (F := F)) adm (dats m) () defs₀ 𝒱₀ L lv 0 sm (by decide : Pipeline.OwnSemFacts spec0 sm)
    ∅ (others (F := F)) (Finset.empty_subset _) launch0.toP rfl (fun c => (body_obligation m c).loose)
    (fun _ => 0) O₀ (fun c => (zero_add (O₀ c)).symm) (fun _ => rfl) (fun _ => rfl) (share_eq m)
    (V1 m) (V2 m (outs m)) (others_same m)
    (Tk m) Yk (Xk m) Yk (hopen0 m) (hin0 m) (hout0 m)
    (fun c => by iintro H; imodintro; iexact H)
    (fun _ => 0) (cut0 m) (fun _ => iprop(emp)) (arr_start m) (arr_end m)

end Cert.KernelIdeal.Gen

end
-- ==== Proof.Deal.lean ====
/-
  What the launch funds and deals out: the tokens, each to the device that pays with it, and the credits.
-/
module

public import proofs.«01_k».proof.Proof.RegionSeg

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tokens -/

def barTok : Dev nD × Dev nD ↪ GSem nD τ sig × ℕ × Dev nD :=
  ⟨fun p => (barCell p.1, 0, p.2), fun _ _ h => Prod.ext (congrArg (fun x : GSem nD τ sig × ℕ × Dev nD => x.1.1.1) h)
    (congrArg (fun x : GSem nD τ sig × ℕ × Dev nD => x.2.2) h)⟩
def dmaTok : Dev nD × (Fin 4 × Fin 4) ↪ GSem nD τ sig × ℕ × Dev nD :=
  ⟨fun x => (dmaEmb x, 0, 0), fun _ _ h => dmaEmb.injective (congrArg (fun x : GSem nD τ sig × ℕ × Dev nD => x.1) h)⟩
/-- Every duty of the one round. -/
def allToks : Finset (GSem nD τ sig × ℕ × Dev nD) := Finset.univ.map barTok ∪ Finset.univ.map dmaTok

theorem toks_apart : Disjoint (Finset.univ.map barTok : Finset (GSem nD τ sig × ℕ × Dev nD)) (Finset.univ.map dmaTok) := by
  rw [Finset.disjoint_left]
  rintro x h₁ h₂
  obtain ⟨p, -, rfl⟩ := Finset.mem_map.mp h₁
  obtain ⟨q, -, h⟩ := Finset.mem_map.mp h₂
  exact sm_ne_bar q.2 (congrArg (fun x : GSem nD τ sig × ℕ × Dev nD => x.1.2) h)
theorem cells_apart : Disjoint (barCells : Finset (GSem nD τ sig)) dmaCells := by
  rw [Finset.disjoint_left]
  rintro g h₁ h₂
  obtain ⟨c, -, rfl⟩ := Finset.mem_map.mp h₁
  obtain ⟨q, -, h⟩ := Finset.mem_map.mp h₂
  exact sm_ne_bar q.2 (congrArg Prod.snd h)

abbrev tokOf (x : GSem nD τ sig × ℕ × Dev nD) : sProp 𝕄 := dutyTok ER x.1 x.2.1 x.2.2

theorem deal_bar : bigSep (Finset.univ.map barTok) (tokOf (F := F))
    ⊢ bigSep Finset.univ fun c : Dev nD => bigSep (Finset.univ.erase c) fun e : Dev nD => (dutyTok ER (barCell e) 0 c : sProp 𝕄) := by
  rw [bigSep_map, bigSep_univ_prod]
  show (bigSep Finset.univ fun e : Fin 4 => bigSep Finset.univ fun c : Fin 4 => (dutyTok ER (barCell e) 0 c : sProp 𝕄)) ⊢ _
  rw [swap_eq]
  exact bigSep_mono fun c _ => bigSep_subset (Finset.erase_subset _ _)

/-- The sixteen tokens of a device's transfer cells, by the other device. -/
theorem deal_dma : bigSep (Finset.univ.map dmaTok) (tokOf (F := F))
    ⊢ bigSep Finset.univ fun c : Dev nD => bigSep (Finset.univ.erase c) fun e : Dev nD => payT (F := F) c e := by
  rw [bigSep_map, bigSep_univ_prod]
  have e : (bigSep Finset.univ fun c : Dev nD => bigSep Finset.univ fun p : Fin 4 × Fin 4 => tokOf (F := F) (dmaTok (c, p)))
      = bigSep Finset.univ fun c : Dev nD => bigSep Finset.univ fun e : Dev nD => payT (F := F) c e := by
    have h1 : (bigSep Finset.univ fun c : Dev nD => bigSep Finset.univ fun p : Fin 4 × Fin 4 => tokOf (F := F) (dmaTok (c, p)))
        = bigSep Finset.univ fun c : Fin 4 => bigSep Finset.univ fun e : Fin 4 =>
          iprop(dutyTok ER (dcell 0 c e) 0 0 ∗ dutyTok ER (dcell 1 c e) 0 0 ∗ dutyTok ER (dcell 2 c e) 0 0 ∗ dutyTok ER (dcell 3 c e) 0 0) :=
      bigSep_congr fun c _ => four_eq _
    rw [h1]
    unfold payT
    simp only [bigSep_sep']
    rw [swap_eq (fun c e => (dutyTok ER (dcell 1 c e) 0 0 : sProp 𝕄)), swap_eq (fun c e => (dutyTok ER (dcell 3 c e) 0 0 : sProp 𝕄))]
  rw [e]
  exact bigSep_mono fun c _ => bigSep_subset (Finset.erase_subset _ _)

/-! ## Credits -/

theorem bar_eq_iff (c e : Dev nD) : barCell c = barCell e ↔ c = e :=
  ⟨fun h => congrArg (fun g : GSem nD τ sig => g.1.1) h, fun h => congrArg barCell h⟩
theorem dcell_eq_iff (k l : Fin 4) (c i e j : Dev nD) : dcell k c i = dcell l e j ↔ c = e ∧ k = l ∧ i = j := by
  constructor
  · intro h
    have h1 : c = e := congrArg (fun g : GSem nD τ sig => g.1.1) h
    have h2 : (k, i) = (l, j) := sm_inj (congrArg Prod.snd h)
    exact ⟨h1, congrArg Prod.fst h2, congrArg Prod.snd h2⟩
  · rintro ⟨rfl, rfl, rfl⟩
    rfl
theorem bar_ne_dcell (c : Dev nD) (k : Fin 4) (e i : Dev nD) : barCell c ≠ dcell k e i := fun h => sm_ne_bar (k, i) (congrArg Prod.snd h).symm

theorem tally_dd (k l : Fin 4) (c i e j : Dev nD) (n : ℕ) :
    (tallyAt (dcell l e j) () n : CellTallies nD τ sig Unit) (dcell k c i) () = if c = e ∧ k = l ∧ i = j then n else 0 := by
  rw [tallyAt_apply]
  simp only [dcell_eq_iff, and_true]
theorem tally_bb (c e : Dev nD) (n : ℕ) :
    (tallyAt (barCell e) () n : CellTallies nD τ sig Unit) (barCell c) () = if c = e then n else 0 := by
  rw [tallyAt_apply]
  simp only [bar_eq_iff, and_true]
theorem tally_db (k : Fin 4) (c i e : Dev nD) (n : ℕ) : (tallyAt (barCell e) () n : CellTallies nD τ sig Unit) (dcell k c i) () = 0 := by
  rw [tallyAt_apply, if_neg fun h => bar_ne_dcell e k c i h.1.symm]
theorem tally_bd (k : Fin 4) (c i e : Dev nD) (n : ℕ) : (tallyAt (dcell k e i) () n : CellTallies nD τ sig Unit) (barCell c) () = 0 := by
  rw [tallyAt_apply, if_neg fun h => bar_ne_dcell c k e i h.1]

theorem owed_bar (d c : Dev nD) :
    O₀ d (barCell c) () = (if c = n3 d then 1 else 0) + (if c = n2 d then 1 else 0) + (if c = n1 d then 1 else 0) := by
  unfold O₀ br2 br3 rs1 rs2 rs3 ag1 ag2 ag3
  simp only [Pi.add_apply, Finsupp.add_apply, tally_bb, tally_bd, Pi.zero_apply, Finsupp.zero_apply, Nat.zero_add]

/-- Each other device is one of the three. -/
theorem one_of : ∀ c d : Dev nD, c ≠ d →
    (c = o1 d ∧ c ≠ o2 d ∧ c ≠ o3 d) ∨ (c ≠ o1 d ∧ c = o2 d ∧ c ≠ o3 d) ∨ (c ≠ o1 d ∧ c ≠ o2 d ∧ c = o3 d) := by decide
theorem one_sum {c d : Dev nD} (h : c ≠ d) (n : ℕ) :
    (if c = o3 d then n else 0) + (if c = o2 d then n else 0) + (if c = o1 d then n else 0) = n := by
  rcases one_of c d h with ⟨h1, h2, h3⟩ | ⟨h1, h2, h3⟩ | ⟨h1, h2, h3⟩
  · simp only [if_neg h3, if_neg h2, if_pos h1, Nat.zero_add]
  · simp only [if_neg h3, if_pos h2, if_neg h1, Nat.zero_add, Nat.add_zero]
  · simp only [if_pos h3, if_neg h2, if_neg h1, Nat.add_zero]

theorem owed_one (d c e : Dev nD) (h : e ≠ c) : O₀ d (dcell 1 c e) () = if e = d then NN else 0 := by
  unfold O₀ br2 br3 rs1 rs2 rs3 ag1 ag2 ag3
  simp only [Pi.add_apply, Finsupp.add_apply, tally_dd, tally_db, Pi.zero_apply, Finsupp.zero_apply, Nat.zero_add, Nat.add_zero,
    show ¬((1 : Fin 4) = 3) by decide, true_and, false_and, and_false, if_false]
  by_cases hd : e = d
  · subst hd
    simp only [and_true, if_true]
    exact one_sum (Ne.symm h) NN
  · simp only [hd, and_false, if_false]
theorem owed_three (d c e : Dev nD) (h : e ≠ c) : O₀ d (dcell 3 c e) () = if e = d then NN else 0 := by
  unfold O₀ br2 br3 rs1 rs2 rs3 ag1 ag2 ag3
  simp only [Pi.add_apply, Finsupp.add_apply, tally_dd, tally_db, Pi.zero_apply, Finsupp.zero_apply, Nat.zero_add, Nat.add_zero,
    show ¬((3 : Fin 4) = 1) by decide, true_and, false_and, and_false, if_false]
  by_cases hd : e = d
  · subst hd
    simp only [and_true, if_true]
    exact one_sum (Ne.symm h) NN
  · simp only [hd, and_false, if_false]

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c
  decide
theorem launch_one (c e : Dev nD) (h : e ≠ c) :
    tallyOn (dcell 1 c e) (launchCredit (Pipeline.owing O₀) 0 (dcell 1 c e)) = (tallyAt (dcell 1 c e) () NN : CellTallies nD τ sig Unit) := by
  unfold tallyAt
  refine congrArg _ (Finsupp.ext fun u => ?_)
  cases u
  rw [Pipeline.launchCredit_owing, Finsupp.single_eq_same, Finset.sum_congr rfl fun d _ => owed_one d c e h, Finset.sum_ite_eq, if_pos (Finset.mem_univ _)]
theorem launch_three (c e : Dev nD) (h : e ≠ c) :
    tallyOn (dcell 3 c e) (launchCredit (Pipeline.owing O₀) 0 (dcell 3 c e)) = (tallyAt (dcell 3 c e) () NN : CellTallies nD τ sig Unit) := by
  unfold tallyAt
  refine congrArg _ (Finsupp.ext fun u => ?_)
  cases u
  rw [Pipeline.launchCredit_owing, Finsupp.single_eq_same, Finset.sum_congr rfl fun d _ => owed_three d c e h, Finset.sum_ite_eq, if_pos (Finset.mem_univ _)]

def smEmb : Fin 4 × Fin 4 ↪ SemLoc sig := ⟨sm, sm_inj⟩

/-- A cell's launch credit. -/
abbrev credOf (g : GSem nD τ sig) : sProp 𝕄 := cred (tallyOn g (launchCredit (Pipeline.owing O₀) 0 g))

theorem creds (c : Dev nD) : (Pipeline.launchCred O₀ c : sProp 𝕄) ⊢ credits c := by
  have h1 : (bigSep (Finset.univ.erase (SemLoc.reg barS)) fun s : SemLoc sig => credOf (F := F) ((c : Thread nD τ), s))
      ⊢ bigSep (Finset.univ.map smEmb) fun s : SemLoc sig => credOf (F := F) ((c : Thread nD τ), s) := by
    refine bigSep_subset fun s hs => ?_
    obtain ⟨p, -, rfl⟩ := Finset.mem_map.mp hs
    exact Finset.mem_erase.mpr ⟨sm_ne_bar p, Finset.mem_univ _⟩
  have h2 : (bigSep (Finset.univ.map smEmb) fun s : SemLoc sig => credOf (F := F) ((c : Thread nD τ), s))
      ⊢ bigSep (Finset.univ.erase c) fun e : Dev nD => dueT (F := F) c e := by
    rw [bigSep_map, four_eq]
    refine BIBase.Entails.trans (bigSep_subset (Finset.erase_subset c Finset.univ)) (bigSep_mono fun e he => ?_)
    unfold dueT
    show iprop(credOf (F := F) (dcell 0 c e) ∗ credOf (F := F) (dcell 1 c e) ∗ credOf (F := F) (dcell 2 c e) ∗ credOf (F := F) (dcell 3 c e)) ⊢ _
    unfold credOf
    rw [launch_one c e (Finset.ne_of_mem_erase he), launch_three c e (Finset.ne_of_mem_erase he)]
    iintro ⟨-, H1, -, H3⟩
    isplitl [H1]
    · iexact H1
    iexact H3
  unfold Pipeline.launchCred credits
  rw [bigSep_univ_at _ (SemLoc.reg barS), launch_bar]
  exact sep_mono_right (h1.trans h2)

end Cert.KernelIdeal.Gen

end
-- ==== Proof.RunMain.lean ====
/-
  The run of @main on the four devices.
-/
module

public import proofs.«01_k».proof.Proof.Deal

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev EP : Emb (UR sig nD τ) (MT nD τ sig Unit (Elt F) ℕ UU ℕ) := embL

/-! ## The launch -/

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- A resource held by one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

def G : Dev nD → sProp 𝕄 := onDev 0 (BI.own (ER (launchOf barCells dmaCells allToks)))

/-- Beside the buffers: before the kernel, and after it. -/
def E : Fin 2 → Dev nD → sProp 𝕄
  | 0 => fun c => iprop(Tk m c ∗ (∃ r, prngReg c r) ∗ owesA c (O₀ c))
  | 1 => fun c => iprop(semVal (barCell c) 0 ∗ owesA c 0)

theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ s : SemLoc sig, s.isScoped .tc = false → s = .reg barS := by decide

/-- What of a device's launch holdings is not the protocol's ghost state. -/
def bundle (c : Dev nD) : sProp 𝕄 := iprop(credits c ∗ owesA c (O₀ c) ∗ ∃ r, prngReg c r)

theorem E_intro (κ : GSem nD τ sig → ℕ) (c : Dev nD) : iprop(records (ins m) κ ∗ (linear c ∗ bundle c)) ⊢ E m 0 c := by
  unfold bundle E Tk
  dsimp only
  iintro ⟨#HR, Hl, Hc, HO, Hp⟩
  isplitl [Hl Hc]
  · isplitl [Hl]
    · iexists κ
      isplitr
      · iexact HR
      iexact Hl
    iexact Hc
  isplitl [Hp]
  · iexact Hp
  iexact HO

theorem core_split (c : Dev nD) :
    iprop(unscopedSems0 c ∗ owes (c : Thread nD τ) (O₀ c) ∅ ∗ Pipeline.launchCred O₀ c ∗ prngReg c (ρ c) ∗ G c)
      ⊢ (iprop(bundle c ∗ (semVal (barCell c) 0 ∗ G c)) : sProp 𝕄) := by
  rw [unscoped_bar]
  unfold bundle owesA
  iintro ⟨Hs, HO, Hc, Hp, HG⟩
  isplitl [HO Hc Hp]
  · isplitl [Hc]
    · iapply (creds (F := F) c)
      iexact Hc
    isplitl [HO]
    · iexists ∅
      iexact HO
    iexists (ρ c)
    iexact Hp
  isplitl [Hs]
  · iexact Hs
  iexact HG

theorem launch_E :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hsplit : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => bundle c) ∗ (bigSep Finset.univ fun c : Dev nD => semVal (barCell c) 0) ∗ bigSep Finset.univ G) : sProp 𝕄) := by
    refine BIBase.Entails.trans (bigSep_mono fun c _ => core_split ρ c) ?_
    rw [bigSep_sep', bigSep_sep']
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep Finset.univ fun p : Fin 4 × Fin 4 => (openTok ER ((c : Thread nD τ), sm p) : sProp 𝕄)) :=
    Entails.of_eq (by
      rw [bigSep_map, bigSep_univ_prod]
      rfl)
  have htok : bigSep allToks (fun x => (dutyTok ER x.1 x.2.1 x.2.2 : sProp 𝕄))
      ⊢ iprop((bigSep Finset.univ fun c : Dev nD => bigSep (Finset.univ.erase c) fun e : Dev nD => (dutyTok ER (barCell e) 0 c : sProp 𝕄))
        ∗ bigSep Finset.univ fun c : Dev nD => bigSep (Finset.univ.erase c) fun e : Dev nD => payT (F := F) c e) := by
    unfold allToks
    rw [bigSep_union toks_apart]
    exact BI.sep_mono deal_bar deal_dma
  have hG : bigSep Finset.univ (G (F := F)) ⊢ BI.own (ER (launchOf barCells dmaCells allToks)) :=
    Entails.of_eq (bigSep_onDev (F := F) 0 (BI.own (ER (launchOf barCells dmaCells allToks))))
  have hall (κ : GSem nD τ sig → ℕ) : iprop(records (ins m) κ ∗ bigSep Finset.univ fun c : Dev nD => iprop(linear c ∗ bundle c)) ⊢ bigSep Finset.univ (E m 0) :=
    bigSep_with_persistent fun c _ => E_intro m κ c
  have hlin : iprop((bigSep Finset.univ fun c : Dev nD => (atPos ER (barCell c) 0 ∅ 0 : sProp 𝕄))
        ∗ (bigSep Finset.univ fun c : Dev nD => bigSep Finset.univ fun p : Fin 4 × Fin 4 => (openTok ER ((c : Thread nD τ), sm p) : sProp 𝕄))
        ∗ (bigSep Finset.univ fun c : Dev nD => bigSep (Finset.univ.erase c) fun e : Dev nD => (dutyTok ER (barCell e) 0 c : sProp 𝕄))
        ∗ bigSep Finset.univ fun c : Dev nD => bigSep (Finset.univ.erase c) fun e : Dev nD => payT (F := F) c e)
      ⊢ bigSep Finset.univ fun c : Dev nD => linear (F := F) c := Entails.of_eq (by
    unfold linear
    rw [bigSep_sep', bigSep_sep', bigSep_sep'])
  iintro ⟨H, -⟩
  ihave H := hsplit $$ H
  icases H with ⟨HB, Hv, HG⟩
  ihave Hu := hG $$ HG
  imod (Rounds.fund_launch ER (rd0 (ins m)) cells_apart (fun g _ h => h) allToks) $$ [Hv Hu] with ⟨%κ, -, #Hinv, #Hr, Hat, Hopen, Htok⟩
  · isplitl [Hv]
    · iapply hv
      iexact Hv
    iexact Hu
  imodintro
  ihave Htok := htok $$ Htok
  icases Htok with ⟨Hb, Hd⟩
  iapply (hall κ)
  isplitr
  · unfold records
    isplitr
    · iexact Hinv
    iexact Hr
  iapply (Entails.of_eq (bigSep_sep' (Finset.univ : Finset (Dev nD)) (fun c => linear (F := F) c) (fun c => bundle (F := F) c)).symm)
  isplitr [HB]
  · iapply hlin
    isplitl [Hat]
    · iapply hat
      iexact Hat
    isplitl [Hopen]
    · iapply hopen
      iexact Hopen
    isplitl [Hb]
    · iexact Hb
    iexact Hd
  iexact HB

/-! ## The kernel between the host lines -/

theorem arrs_sub : Pipeline.arrRefs (τ := τ) (pcfgs (F := F) 0).spec ⊆ Pipeline.ucRefs τ sig :=
  Pipeline.arrRefs_sub_ucRefs _ fun w => by fin_cases w <;> rfl

theorem pre_reg (c : Dev nD) : iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (others (F := F)) (V1 m c) ∗ emp) ∗ Tk m c ∗ ∃ Wd, owes (c : Thread nD τ) (0 + O₀ c) Wd)
  rw [zero_add, StableHlo.held_sub_split (c.tc : Thread nD τ) (arrs_sub (F := F)) (V1 m c)]
  unfold E owesA others
  dsimp only
  iintro ⟨⟨Ha, Hr⟩, HT, Hp, HO⟩
  isplitl [Ha]
  · iexact Ha
  isplitl [Hp]
  · iexact Hp
  isplitl [Hr]
  · isplitl [Hr]
    · iexact Hr
    iempintro
  isplitl [HT]
  · iexact HT
  iexact HO

theorem post_reg (c : Dev nD) : (reg0 m).post c ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (others (F := F)) (V2 m (outs m) c) ∗ emp) ∗ Yk c ∗ ∃ Wd, owes (c : Thread nD τ) (0 : CellTallies nD τ sig Unit) Wd) ⊢ _
  rw [StableHlo.held_sub_split (c.tc : Thread nD τ) (arrs_sub (F := F)) (V2 m (outs m) c)]
  unfold E owesA others Yk
  dsimp only
  iintro ⟨Ha, -, ⟨Hr, -⟩, Hb, HO⟩
  isplitl [Ha Hr]
  · isplitl [Ha]
    · iexact Ha
    iexact Hr
  isplitl [Hb]
  · iexact Hb
  iexact HO

/-! ## The run -/

set_option backward.isDefEq.respectTransparency.types false in
/-- From any memory with zero counters every weakly fair run of @main on the four devices ends, each argument
    as it was, the result as the kernel's values say, every counter at zero. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = V3 m (outs m) c b) ∧ r.2.sem = fun _ => 0) :=
  Pipeline.θ_run_regions_kit_dev_sems (pcfgs (F := F)) adm (dats m) () cellOf_inj EP defs₀ 𝒱₀ L lv m ρ main
    (segs m (outs m) 𝒱₀ L lv (E m) () (dats m) (reg0 m))
    (fun c Q => by
      rewrite [main_chain c, Pipeline.Seg.run_eq_chain,
        show (segs m (outs m) 𝒱₀ L lv (E m) () (dats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]
      · iexact HP
      unfold G
      rw [bigSep_onDev]
      iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, pre_reg m c, post_reg m c, by
      unfold E owesA
      show iprop(StableHlo.held (c : Thread nD τ) (Pipeline.ucRefs τ sig) (V3 m (outs m) c) ∗ (semVal (barCell c) 0 ∗ ∃ W, owes (c : Thread nD τ) (0 : CellTallies nD τ sig Unit) W))
        ⊢ iprop((StableHlo.held (c : Thread nD τ) (Pipeline.ucRefs τ sig) (V3 m (outs m) c) ∗ semVal (barCell c) 0) ∗ ∃ W, owes (c : Thread nD τ) (0 : CellTallies nD τ sig Unit) W)
      iintro ⟨Hh, Hb, HO⟩
      isplitr [HO]
      · isplitl [Hh]
        · iexact Hh
        iexact Hb
      iexact HO⟩)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ G c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (ρ c) ∗ G c)) : sProp 𝕄) := by
        rw [← bigSep_sep']
        exact bigSep_mono fun c _ => by rw [← Pipeline.unscopedBufs_held (Ix := Unit) (Name := ℕ) (U := UU) (Lvl := ℕ) c (V0 m c)]; exact BI.Entails.refl _
      iintro ⟨H, Hla⟩
      ihave H := hsplit $$ H
      icases H with ⟨Hh, Hr⟩
      imod (launch_E m ρ) $$ [Hr Hla] with HE
      · isplitl [Hr]
        · iexact Hr
        iexact Hla
      imodintro
      rw [bigSep_sep']
      isplitl [Hh]
      · iexact Hh
      iexact HE)
    (QY := fun c s => (∀ b ∈ Pipeline.ucRefs τ sig, s.mem ((c : Thread nD τ).1, b) = V3 m (outs m) c b) ∧ s.sem (barCell c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh]
        · iexact Hh
        iexact HSI
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_eq sm hsm
      exact (h c).2⟩)

/-- The same, told of the arguments and the result. -/
theorem run_args : θ_run defs (onTc (τ := τ) (main (F := F))) ⟨m, fun _ => 0, ρ⟩ (fun r =>
    (∀ c : Dev nD, r.2.mem ((c.tc : Thread nD τ).loc main_v21) = V3 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => by
    refine ⟨fun c => ?_, h.2⟩
    have h := h.1 c
    exact ⟨h (Proc.devRef .tc main_v21) (Finset.mem_filter.mpr ⟨StableHlo.devRef_mem_tcRefs main_v21, by decide⟩),
      (h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c),
      (h (Proc.devRef .tc main_arg4) (Finset.mem_filter.mpr ⟨StableHlo.devRef_mem_tcRefs main_arg4, by decide⟩)).trans (V3_main_arg4 m (outs m) c)⟩)
    (run_main m ρ)

end Cert.KernelIdeal.Gen

end
-- ==== Proof.Frames.lean ====
/-
  The three frames: every run of each program ends with its arguments as they were and every counter at zero.
-/
module

public import proofs.«01_k».proof.Defs
public import proofs.«01_k».proof.Proof.Gen.Kernel
public import proofs.«01_k».proof.Proof.Gen.ReferenceIdeal.Run
public import proofs.«01_k».proof.Proof.RunMain
public import Idealize.ShloMosaic.Lib.Tactic

@[expose] public section

noncomputable section

namespace Cert.Proof

open Idealize.ShloMosaic Idealize.SL.Sem

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Gen.run_args (F := Ideal) m ρ)

set_option maxHeartbeats 40000000 in
set_option maxRecDepth 100000 in
/-- The kernel as printed is the idealization's text at another instance. -/
theorem frame_kernel : Cert.quiescent_Kernel (hKernel := Cert.Kernel.Gen.facts) := fun m ρ _ => by
  have h := Cert.KernelIdeal.Gen.run_args (F := Bits) m ρ
  have h' : θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
    (θ_run Cert.KernelIdeal.defs _ _).mono (fun _ h => ⟨fun c => (h.1 c).2, h.2⟩) h
  exact (Eq.mp (by sl_kernel_rfl) h')

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

end Cert.Proof

end
-- ==== Proof.KVal.lean ====
/-
  The kernel's payloads over the extended reals, read at an index.
-/
module

public import proofs.«01_k».proof.Proof.Vals
public import Idealize.ShloMosaic.Lib.Pointwise

@[expose] public section

set_option maxRecDepth 16384

noncomputable section

namespace Cert.KernelIdeal.Gen

open Idealize.ShloMosaic Idealize.SL.Sem

theorem pay145_apply (x w : Vec Ideal S1024x1024 .bf16) (i j : Fin 1024) :
    k0_pay145 x w (ix2 i j) = ∑ e : Fin 1024, x (ix2 i e) * w (ix2 e j) := by
  unfold k0_pay145
  pointwise

theorem pay197_eq (w : Vec Ideal S1024x1024 .bf16) : k0_pay197 w = w := by
  unfold k0_pay197
  funext i
  pointwise

/-- The factor the scores are scaled by. -/
abbrev scl : EReal := Ideal.ofBits FTy.f32 0x3DB504F3#32

theorem pay1_apply (q k v : Vec Ideal S256x128 .bf16) (i : Fin 256) (e : Fin 128) :
    k0_pay1 q k v (ix2 i e)
      = (∑ t : Fin 256, Ideal.exp ((∑ d : Fin 128, q (ix2 i d) * k (ix2 t d)) * scl) * v (ix2 t e))
        * Ideal.div 1 (∑ t : Fin 256, Ideal.exp ((∑ d : Fin 128, q (ix2 i d) * k (ix2 t d)) * scl)) := by
  unfold k0_pay1
  pointwise

theorem pay199_apply (x : Vec Ideal S256x1024 .bf16) (w : Vec Ideal S1024x1024 .bf16) (i : Fin 256) (j : Fin 1024) :
    k0_pay199 x w (ix2 i j) = ∑ e : Fin 1024, x (ix2 i e) * w (ix2 e j) := by
  unfold k0_pay199
  pointwise

theorem pay16_apply (x : Vec Ideal S256x1024 .bf16) (w : Vec Ideal S1024x1024 .bf16) (i : Fin 256) (j : Fin 1024) :
    k0_pay16 x w (ix3 0 i j) = ∑ e : Fin 1024, x (ix2 i e) * w (ix2 e j) := by
  unfold k0_pay16
  pointwise

theorem pay121_apply (o : Vec Ideal S256x1024 .f32) (a b c : Vec Ideal S1x256x1024 .bf16) (i : Fin 256) (j : Fin 1024) :
    k0_pay121 o a b c (ix2 i j) = o (ix2 i j) + a (ix3 0 i j) + b (ix3 0 i j) + c (ix3 0 i j) := by
  unfold k0_pay121
  pointwise

theorem pay126_apply (o : Vec Ideal S256x1024 .f32) (a b c : Vec Ideal S1x256x1024 .bf16) (i : Fin 256) (j : Fin 1024) :
    k0_pay126 o a b c (ix2 i j) = o (ix2 i j) + a (ix3 0 i j) + b (ix3 0 i j) + c (ix3 0 i j) := by
  unfold k0_pay126
  pointwise
  exact pay121_apply o a b c i j

theorem pay206_apply (o : Vec Ideal S1x64x1024 .bf16) (i : Fin 64) (j : Fin 1024) :
    k0_pay206 o (ix2 i j) = o (ix3 0 i j) := by
  unfold k0_pay206
  pointwise

/-! ## Places -/

/-- Row r of class s among all the rows. -/
def cls {s : ℕ} (hs : s < 4) (r : Fin 256) : Fin 1024 := ⟨256 * (r.val / 64) + 64 * s + r.val % 64, by have := r.isLt; omega⟩
/-- Lane e of head h among a device's lanes. -/
def col {h : ℕ} (hh : h < 8) (e : Fin 128) : Fin 1024 := ⟨128 * h + e.val, by have := e.isLt; omega⟩

theorem perm_apply (f : Vec Ideal S1024x1024 .bf16) {s h : ℕ} (hs : s < 4) (hh : h < 8) (r : Fin 256) (e : Fin 128) :
    rd (rectQ hs hh) (permV f) (ix2 r e) = f (ix2 (cls hs r) (col hh e)) := by
  have hr := r.isLt
  refine congrArg f (funext fun a => Fin.ext ?_)
  match a with
  | ⟨0, _⟩ =>
    show prow (256 * s + 1 * r.val) = 256 * (r.val / 64) + 64 * s + r.val % 64
    have e1 : (256 * s + 1 * r.val) / 64 = 4 * s + r.val / 64 := by omega
    have e2 : (256 * s + 1 * r.val) / 256 = s := by omega
    have e3 : (256 * s + 1 * r.val) % 64 = r.val % 64 := by omega
    unfold prow
    rw [e1, e2, e3]
    omega
  | ⟨1, _⟩ =>
    show 128 * h + 1 * e.val = 128 * h + e.val
    omega

/-! ## The heads -/

/-- Score of rows i and t at head h of a device. -/
def scK (a : Ins Ideal) {h : ℕ} (hh : h < 8) (i t : Fin 1024) : EReal :=
  (∑ d : Fin 128, (∑ e : Fin 1024, a.x (ix2 i e) * a.wq (ix2 e (col hh d))) * a.k (ix2 t (col hh d))) * scl

/-- Lane e of head h of a device at row i: the values of the rows of class s, weighted. -/
def cxK (a : Ins Ideal) {s h : ℕ} (hs : s < 4) (hh : h < 8) (i : Fin 1024) (e : Fin 128) : EReal :=
  (∑ t : Fin 256, Ideal.exp (scK a hh i (cls hs t)) * a.v (ix2 (cls hs t) (col hh e)))
    * Ideal.div 1 (∑ t : Fin 256, Ideal.exp (scK a hh i (cls hs t)))

theorem head_apply (a : Ins Ideal) {s h : ℕ} (hs : s < 4) (hh : h < 8) (r : Fin 256) (e : Fin 128) :
    headV a hs hh (ix2 r e) = cxK a hs hh (cls hs r) e := by
  unfold headV qpV kpV vpV
  rw [pay1_apply]
  simp only [perm_apply, pay145_apply]
  rfl

theorem ctx_apply (a : Ins Ideal) {s : ℕ} (hs : s < 4) (r : Fin 256) (k : Fin 1024) :
    ctxV a hs (ix2 r k) = cxK a hs (h := k.val / 128) (by have := k.isLt; omega) (cls hs r) ⟨k.val % 128, by omega⟩ := by
  refine Eq.trans ?_ (head_apply a hs _ r ⟨k.val % 128, by omega⟩)
  unfold ctxV
  refine congrArg _ (funext fun x => ?_)
  match x with
  | ⟨0, _⟩ => rfl
  | ⟨1, _⟩ => rfl

/-- A device's share of the result at row i and column j. -/
def shK (a : Ins Ideal) {s : ℕ} (hs : s < 4) (i j : Fin 1024) : EReal :=
  ∑ k : Fin 1024, cxK a hs (h := k.val / 128) (by have := k.isLt; omega) i ⟨k.val % 128, by omega⟩ * a.wo (ix2 k j)

theorem part_apply (a : Ins Ideal) {s : ℕ} (hs : s < 4) (r : Fin 256) (j : Fin 1024) :
    partV a hs (ix3 0 r j) = shK a hs (cls hs r) j := by
  unfold partV woV
  rw [pay16_apply]
  simp only [ctx_apply, pay197_eq]
  rfl

theorem own_apply (a : Ins Ideal) {s : ℕ} (hs : s < 4) (r : Fin 256) (j : Fin 1024) :
    ownV a hs (ix2 r j) = shK a hs (cls hs r) j := by
  unfold ownV woV
  rw [pay199_apply]
  simp only [ctx_apply, pay197_eq]
  rfl

variable (A : Dev nD → Ins Ideal)

/-- The other devices' shares and the own one are all the shares. -/
theorem shares (f : Fin 4 → EReal) (c : Dev nD) : f c + f (o1 c) + f (o2 c) + f (o3 c) = ∑ d : Fin 4, f d := by
  rw [Fin.sum_univ_four]
  have h : ∀ c : Fin 4, f c + f ((![1, 0, 0, 0] : Fin 4 → Fin 4) c) + f ((![2, 2, 1, 1] : Fin 4 → Fin 4) c) + f ((![3, 3, 3, 2] : Fin 4 → Fin 4) c)
      = f 0 + f 1 + f 2 + f 3 := by
    intro c
    fin_cases c
    · rfl
    · show f 1 + f 0 + f 2 + f 3 = _
      abel
    · show f 2 + f 0 + f 1 + f 3 = _
      abel
    · show f 3 + f 0 + f 1 + f 2 = _
      abel
  exact h c

theorem sum_apply (c : Dev nD) (r : Fin 256) (j : Fin 1024) :
    sumV A c (ix2 r j) = ∑ d : Fin 4, shK (A d) c.isLt (cls c.isLt r) j := by
  unfold sumV
  rw [pay121_apply, own_apply, part_apply, part_apply, part_apply]
  exact shares (fun d => shK (A d) c.isLt (cls c.isLt r) j) c

theorem red_apply (c : Dev nD) (r : Fin 256) (j : Fin 1024) :
    redV A c (ix2 r j) = ∑ d : Fin 4, shK (A d) c.isLt (cls c.isLt r) j := by
  unfold redV
  rw [pay126_apply, own_apply, part_apply, part_apply, part_apply]
  exact shares (fun d => shK (A d) c.isLt (cls c.isLt r) j) c

theorem ixC_eq {i j : ℕ} (hi : i < 256) (hj : j < 1024) : ixC hi hj = ix2 ⟨i, hi⟩ ⟨j, hj⟩ := by
  funext a
  match a with
  | ⟨0, _⟩ => rfl
  | ⟨1, _⟩ => rfl
theorem ixB_eq {i j : ℕ} (hi : i < 64) (hj : j < 1024) : ixB hi hj = ix2 ⟨i, hi⟩ ⟨j, hj⟩ := by
  funext a
  match a with
  | ⟨0, _⟩ => rfl
  | ⟨1, _⟩ => rfl

/-- A row's class. -/
theorem cls_lt (i : Fin 1024) : i.val / 64 % 4 < 4 := by omega
/-- A row's place in its class. -/
def plc (i : Fin 1024) : Fin 256 := ⟨64 * (i.val / 256) + i.val % 64, by have := i.isLt; omega⟩
theorem cls_plc (i : Fin 1024) : cls (cls_lt i) (plc i) = i := by
  have hi := i.isLt
  refine Fin.ext ?_
  show 256 * ((64 * (i.val / 256) + i.val % 64) / 64) + 64 * (i.val / 64 % 4) + (64 * (i.val / 256) + i.val % 64) % 64 = i.val
  omega

/-- The result on any device: all the shares. -/
theorem out_apply (c : Dev nD) (i j : Fin 1024) :
    outV A c (ix2 i j) = ∑ d : Fin 4, shK (A d) (cls_lt i) i j := by
  have key : ∀ (q : Dev nD), i.val / 64 % 4 = q.val → ∑ d : Fin 4, shK (A d) q.isLt (cls q.isLt (plc i)) j = ∑ d : Fin 4, shK (A d) (cls_lt i) i j := by
    intro q hq
    have : q = ⟨i.val / 64 % 4, cls_lt i⟩ := Fin.ext hq.symm
    subst this
    rw [cls_plc]
  unfold outV
  split_ifs with h
  · rw [ixC_eq]
    exact (sum_apply A c (plc i) j).trans (key c h)
  · rw [ixB_eq, pay206_apply]
    refine Eq.trans ?_ (key ⟨i.val / 64 % 4, cls_lt i⟩ rfl)
    refine Eq.trans ?_ (red_apply A ⟨i.val / 64 % 4, cls_lt i⟩ (plc i) j)
    unfold agV
    dsimp only [rd]
    rw [ixC_eq]
    have e : ∀ (q q' : Dev nD) (r r' : Fin 256) (l l' : Fin 1024), q.val = q'.val → r.val = r'.val → l.val = l'.val → redV A q (ix2 r l) = redV A q' (ix2 r' l') := by
      intro q q' r r' l l' e1 e2 e3
      rw [Fin.ext e1, Fin.ext e2, Fin.ext e3]
    refine e _ _ _ _ _ _ ?_ ?_ ?_
    · show i.val / 64 % 4 + 1 * 0 = i.val / 64 % 4
      omega
    · show 64 * (i.val / 256) + 1 * (i.val % 64) = 64 * (i.val / 256) + i.val % 64
      omega
    · show 0 + 1 * j.val = j.val
      omega

end Cert.KernelIdeal.Gen
-- ==== Proof.Args.lean ====
/-
  The kernel's operands on each device as the host lines before it cut them from the arguments, over the extended reals.
-/
module

public import proofs.«01_k».proof.Proof.RunMain
public import proofs.«01_k».proof.Proof.KVal
public import Idealize.ShloMosaic.Lib.StableHlo.Run
public import Idealize.ShloMosaic.Lib.StableHlo.RunRead

@[expose] public section

set_option maxRecDepth 16384

noncomputable section

namespace Cert.KernelIdeal.Gen

open Idealize.ShloMosaic Idealize.ShloMosaic.TcCoe Idealize.SL.Sem Idealize.ShloMosaic.StableHlo

variable (m : (ℓ : Loc nD τ sig) → Buf (Elt Ideal) ℓ)

/-- The first head of a device, as the host lines compute it. -/
def firstHead (c : Dev nD) : IVec S_ 32 :=
  select (cmpi .slt (muli (id (Host.remui (Host.divui (constantI S_ 32 (Dev.word c)) (constantI S_ 32 1#32)) (constantI S_ 32 4#32))) (constantI S_ 32 8#32)) (constantI S_ 32 0#32))
    (addi (muli (id (Host.remui (Host.divui (constantI S_ 32 (Dev.word c)) (constantI S_ 32 1#32)) (constantI S_ 32 4#32))) (constantI S_ 32 8#32)) (constantI S_ 32 32#32))
    (muli (id (Host.remui (Host.divui (constantI S_ 32 (Dev.word c)) (constantI S_ 32 1#32)) (constantI S_ 32 4#32))) (constantI S_ 32 8#32))

/-- A device's heads of an array of all the heads. -/
def cutHeads (c : Dev nD) (a : FVec Ideal S1x1024x32x128 .bf16) : FVec Ideal S1024x1024 .bf16 :=
  shapeCast S1024x1024 (Host.dynamicSlice S1024x8x128 (shapeCast S1024x32x128 a shapeCasts_S1x1024x32x128_S1024x32x128)
    (fun k => ((![constantI S_ 32 0#32, firstHead c, constantI S_ 32 0#32] : Fin 3 → IVec S_ 32) k (Shape.Idx.first h_S_)).toInt) sliceFits_S1024x32x128_S1024x8x128)
    shapeCasts_S1024x8x128_S1024x1024

theorem read_v9 (c : Dev nD) : (upto (hostOps0 c) (V0 m c) 16 (Proc.devRef .tc main_v9) : IVec S_ 32) = firstHead c := by
  after_reads_simp
  rfl
theorem read_v16 (c : Dev nD) : (upto (hostOps0 c) (V0 m c) 28 (Proc.devRef .tc main_v16) : IVec S_ 32) = firstHead c := by
  after_reads_simp
  rfl
theorem read_c4 (c : Dev nD) : (upto (hostOps0 c) (V0 m c) 16 (Proc.devRef .tc main_c_4) : IVec S_ 32) = constantI S_ 32 0#32 := by
  after_reads_simp
theorem read_c5 (c : Dev nD) : (upto (hostOps0 c) (V0 m c) 16 (Proc.devRef .tc main_c_5) : IVec S_ 32) = constantI S_ 32 0#32 := by
  after_reads_simp
theorem read_c9 (c : Dev nD) : (upto (hostOps0 c) (V0 m c) 28 (Proc.devRef .tc main_c_9) : IVec S_ 32) = constantI S_ 32 0#32 := by
  after_reads_simp
theorem read_c10 (c : Dev nD) : (upto (hostOps0 c) (V0 m c) 28 (Proc.devRef .tc main_c_10) : IVec S_ 32) = constantI S_ 32 0#32 := by
  after_reads_simp

theorem v11_eq (c : Dev nD) : V1 m c main_v11 = cutHeads c (m ((c.tc : Thread nD τ).loc main_arg2)) := by
  unfold_abbrev_sides
  after_reads_simp
  unfold cutHeads
  refine congrArg (fun f : Fin 3 → ℤ => (shapeCast S1024x1024 (Host.dynamicSlice S1024x8x128
    (shapeCast S1024x32x128 (m ((c.tc : Thread nD τ).loc main_arg2) : FVec Ideal S1x1024x32x128 .bf16) shapeCasts_S1x1024x32x128_S1024x32x128)
    f sliceFits_S1024x32x128_S1024x8x128) shapeCasts_S1024x8x128_S1024x1024 : FVec Ideal S1024x1024 .bf16)) (funext fun k => ?_)
  match k with
  | 0 => exact congrArg (fun w : IVec S_ 32 => (w (Shape.Idx.first h_S_)).toInt) (read_c4 m c)
  | 1 => exact congrArg (fun w : IVec S_ 32 => (w (Shape.Idx.first h_S_)).toInt) (read_v9 m c)
  | 2 => exact congrArg (fun w : IVec S_ 32 => (w (Shape.Idx.first h_S_)).toInt) (read_c5 m c)

theorem v18_eq (c : Dev nD) : V1 m c main_v18 = cutHeads c (m ((c.tc : Thread nD τ).loc main_arg3)) := by
  unfold_abbrev_sides
  after_reads_simp
  unfold cutHeads
  refine congrArg (fun f : Fin 3 → ℤ => (shapeCast S1024x1024 (Host.dynamicSlice S1024x8x128
    (shapeCast S1024x32x128 (m ((c.tc : Thread nD τ).loc main_arg3) : FVec Ideal S1x1024x32x128 .bf16) shapeCasts_S1x1024x32x128_S1024x32x128)
    f sliceFits_S1024x32x128_S1024x8x128) shapeCasts_S1024x8x128_S1024x1024 : FVec Ideal S1024x1024 .bf16)) (funext fun k => ?_)
  match k with
  | 0 => exact congrArg (fun w : IVec S_ 32 => (w (Shape.Idx.first h_S_)).toInt) (read_c9 m c)
  | 1 => exact congrArg (fun w : IVec S_ 32 => (w (Shape.Idx.first h_S_)).toInt) (read_v16 m c)
  | 2 => exact congrArg (fun w : IVec S_ 32 => (w (Shape.Idx.first h_S_)).toInt) (read_c10 m c)

theorem v19_eq (c : Dev nD) : V1 m c main_v19 = (shapeCast S1024x1024 (m ((c.tc : Thread nD τ).loc main_arg0)) shapeCasts_S1x1024x1024_S1024x1024 : FVec Ideal S1024x1024 .bf16) := by
  unfold_abbrev_sides
  after_reads_simp
  rfl

theorem firstHead_eq : ∀ c : Dev nD, (firstHead c (Shape.Idx.first h_S_)).toInt = 8 * c.val := by
  decide +kernel

theorem start0 (c : Dev nD) : Host.clampedStart S1024x32x128 S1024x8x128 rfl
    (fun k => ((![constantI S_ 32 0#32, firstHead c, constantI S_ 32 0#32] : Fin 3 → IVec S_ 32) k (Shape.Idx.first h_S_)).toInt) 0 = 0 := by
  revert c
  decide +kernel
theorem start1 (c : Dev nD) : Host.clampedStart S1024x32x128 S1024x8x128 rfl
    (fun k => ((![constantI S_ 32 0#32, firstHead c, constantI S_ 32 0#32] : Fin 3 → IVec S_ 32) k (Shape.Idx.first h_S_)).toInt) 1 = 8 * c.val := by
  revert c
  decide +kernel
theorem start2 (c : Dev nD) : Host.clampedStart S1024x32x128 S1024x8x128 rfl
    (fun k => ((![constantI S_ 32 0#32, firstHead c, constantI S_ 32 0#32] : Fin 3 → IVec S_ 32) k (Shape.Idx.first h_S_)).toInt) 2 = 0 := by
  revert c
  decide +kernel

theorem cut_apply (c : Dev nD) (a : FVec Ideal S1x1024x32x128 .bf16) (t k : Fin 1024) :
    cutHeads c a (ix2 t k) = a (ix4 0 t ⟨8 * c.val + k.val / 128, by have := k.isLt; have : c.val < 4 := c.isLt; omega⟩ ⟨k.val % 128, by omega⟩) := by
  unfold cutHeads
  pointwise
  have e : ∀ (t t' : Fin 1024) (h h' : Fin 32) (d d' : Fin 128), t.val = t'.val → h.val = h'.val → d.val = d'.val →
      a (ix4 0 t h d) = a (ix4 0 t' h' d') := by
    intro t t' h h' d d' e1 e2 e3
    rw [Fin.ext e1, Fin.ext e2, Fin.ext e3]
  refine e _ _ _ _ _ _ ?_ ?_ ?_
  · show Host.clampedStart _ _ _ _ 0 + t.val = t.val
    rw [start0]
    omega
  · show Host.clampedStart _ _ _ _ 1 + k.val / 128 = 8 * c.val + k.val / 128
    rw [start1]
  · show Host.clampedStart _ _ _ _ 2 + k.val % 128 = k.val % 128
    rw [start2]
    omega

theorem cast_apply (a : FVec Ideal S1x1024x1024 .bf16) (i e : Fin 1024) :
    (shapeCast S1024x1024 a shapeCasts_S1x1024x1024_S1024x1024 : FVec Ideal S1024x1024 .bf16) (ix2 i e) = a (ix3 0 i e) := by
  pointwise

theorem x_apply (c : Dev nD) (i e : Fin 1024) :
    (V1 m c main_v19 : FVec Ideal S1024x1024 .bf16) (ix2 i e) = (m ((c.tc : Thread nD τ).loc main_arg0) : FVec Ideal S1x1024x1024 .bf16) (ix3 0 i e) :=
  (congrFun (v19_eq m c) (ix2 i e)).trans (cast_apply _ i e)

theorem spread_apply (a : FVec Ideal S1024x1024 .f32) (i j : Fin 1024) :
    (broadcastInDim S1x1024x1024 ![1, 2] bcast_S1024x1024_S1x1024x1024_1_2 a : FVec Ideal S1x1024x1024 .f32) (ix3 0 i j) = a (ix2 i j) := by
  pointwise

theorem v21_eq (c : Dev nD) : V3 m (outs m) c main_v21 = broadcastInDim S1x1024x1024 ![1, 2] bcast_S1024x1024_S1x1024x1024_1_2 (V2 m (outs m) c main_v20) := by
  unfold_abbrev_sides
  after_reads_simp

theorem v20_eq (c : Dev nD) : V2 m (outs m) c main_v20 = outV (ins m) c := by
  rw [← outs_out]
  exact Function.update_self ..

theorem v21_apply (c : Dev nD) (i j : Fin 1024) :
    (V3 m (outs m) c main_v21 : FVec Ideal S1x1024x1024 .f32) (ix3 0 i j) = outV (ins m) c (ix2 i j) :=
  (congrFun (v21_eq m c) (ix3 0 i j)).trans ((spread_apply _ i j).trans (congrFun (v20_eq m c) (ix2 i j)))

end Cert.KernelIdeal.Gen
-- ==== Proof.RefVal.lean ====
/-
  The reference's result in steps: the mask, the scores, the weights, the contexts, the product with the output weights.
-/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Each row's block. -/
def blkV : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- The rows' blocks, standing. -/
def rowB : IVec S1024x1 32 :=
  broadcastInDim S1024x1 ![0] bcast_S1024_S1024x1_0 blkV

/-- The rows' blocks, lying. -/
def colB : IVec S1x1024 32 :=
  broadcastInDim S1x1024 ![1] bcast_S1024_S1x1024_1 blkV

/-- The stride, as the remainder takes it. -/
def fourV : IVec S_ 32 :=
  select (cmpi .eq (id (constantI S_ 32 4#32)) (constantI S_ 32 0#32)) (constantI S_ 32 1#32) (id (constantI S_ 32 4#32))

/-- The lying blocks modulo the stride. -/
def colMod : IVec S1x1024 32 :=
  select (andi (cmpi .ne (cmpi .slt (Host.remsi colB (broadcastInDim S1x1024 ![] bcast_S_S1x1024 fourV)) (broadcastInDim S1x1024 ![] bcast_S_S1x1024 (constantI S_ 32 0#32))) (broadcastInDim S1x1024 ![] bcast_S_S1x1024 (cmpi .slt fourV (constantI S_ 32 0#32)))) (cmpi .ne (Host.remsi colB (broadcastInDim S1x1024 ![] bcast_S_S1x1024 fourV)) (broadcastInDim S1x1024 ![] bcast_S_S1x1024 (constantI S_ 32 0#32)))) (addi (Host.remsi colB (broadcastInDim S1x1024 ![] bcast_S_S1x1024 fourV)) (broadcastInDim S1x1024 ![] bcast_S_S1x1024 fourV)) (Host.remsi colB (broadcastInDim S1x1024 ![] bcast_S_S1x1024 fourV))

/-- The standing blocks modulo the stride. -/
def rowMod : IVec S1024x1 32 :=
  select (andi (cmpi .ne (cmpi .slt (Host.remsi rowB (broadcastInDim S1024x1 ![] bcast_S_S1024x1 fourV)) (broadcastInDim S1024x1 ![] bcast_S_S1024x1 (constantI S_ 32 0#32))) (broadcastInDim S1024x1 ![] bcast_S_S1024x1 (cmpi .slt fourV (constantI S_ 32 0#32)))) (cmpi .ne (Host.remsi rowB (broadcastInDim S1024x1 ![] bcast_S_S1024x1 fourV)) (broadcastInDim S1024x1 ![] bcast_S_S1024x1 (constantI S_ 32 0#32)))) (addi (Host.remsi rowB (broadcastInDim S1024x1 ![] bcast_S_S1024x1 fourV)) (broadcastInDim S1024x1 ![] bcast_S_S1024x1 fourV)) (Host.remsi rowB (broadcastInDim S1024x1 ![] bcast_S_S1024x1 fourV))

/-- Whether two rows lie in one block. -/
def eqB : IVec S1024x1024 1 :=
  cmpi .eq (broadcastInDim S1024x1024 ![0, 1] bcast_S1024x1_S1024x1024_0_1 rowB) (broadcastInDim S1024x1024 ![0, 1] bcast_S1x1024_S1024x1024_0_1 colB)

/-- Whether two rows' blocks agree modulo the stride. -/
def modEq : IVec S1024x1024 1 :=
  cmpi .eq (broadcastInDim S1024x1024 ![0, 1] bcast_S1x1024_S1024x1024_0_1 colMod) (broadcastInDim S1024x1024 ![0, 1] bcast_S1024x1_S1024x1024_0_1 rowMod)

/-- Which pairs of rows attend. -/
def maskV : IVec S1024x1024 1 :=
  ori eqB modEq

/-- Which rows attend to some row. -/
def keepV : IVec S1x1x1024x1 1 :=
  broadcastInDim S1x1x1024x1 ![2] bcast_S1024_S1x1x1024x1_2 (Host.reduce IntOp.ori maskV (constantI S_ 1 0#1) reducesTo_S1024x1024_S1024_d1 h_S_)

/-- The scaled scores. -/
def scV (x : FVec F S1x1024x1024 .bf16) (wq : FVec F S1024x4096 .bf16) (k : FVec F S1x1024x32x128 .bf16) : FVec F S1x32x1024x1024 .f32 :=
  mulf (Host.dotGeneral dot_S1x1024x32x128_S1x1024x32x128_S1x32x1024x1024_3_3_1_1_02_02 none (shapeCast S1x1024x32x128 (Host.dotGeneral dot_S1x1024x1024_S1024x4096_S1x1024x4096_2_0_01_1_n_n none (extf .f32 x bitsLt_bf16_f32) (extf .f32 wq bitsLt_bf16_f32)) shapeCasts_S1x1024x4096_S1x1024x32x128) (extf .f32 k bitsLt_bf16_f32)) (broadcastInDim S1x32x1024x1024 ![] bcast_S_S1x32x1024x1024 (constant S_ .f32 0x3DB504F3#32))

/-- The masked scores. -/
def mscV (x : FVec F S1x1024x1024 .bf16) (wq : FVec F S1024x4096 .bf16) (k : FVec F S1x1024x32x128 .bf16) : FVec F S1x32x1024x1024 .f32 :=
  select (broadcastInDim S1x32x1024x1024 ![0, 1, 2, 3] bcast_S1x1x1024x1024_S1x32x1024x1024_0_1_2_3 (broadcastInDim S1x1x1024x1024 ![2, 3] bcast_S1024x1024_S1x1x1024x1024_2_3 maskV)) (scV x wq k) (broadcastInDim S1x32x1024x1024 ![] bcast_S_S1x32x1024x1024 (id (constant S_ .f32 0xFF800000#32)))

/-- The exponentials of the masked scores less the greatest. -/
def expV (x : FVec F S1x1024x1024 .bf16) (wq : FVec F S1024x4096 .bf16) (k : FVec F S1x1024x32x128 .bf16) : FVec F S1x32x1024x1024 .f32 :=
  Host.exp (subf (mscV x wq k) (broadcastInDim S1x32x1024x1024 ![0, 1, 2, 3] bcast_S1x32x1024x1_S1x32x1024x1024_0_1_2_3 (broadcastInDim S1x32x1024x1 ![0, 1, 2] bcast_S1x32x1024_S1x32x1024x1_0_1_2 (Host.reduce FloatOps.maximumf (mscV x wq k) (constant S_ .f32 0xFF800000#32) reducesTo_S1x32x1024x1024_S1x32x1024_d3 h_S_))))

/-- The weights. -/
def wgtV (x : FVec F S1x1024x1024 .bf16) (wq : FVec F S1024x4096 .bf16) (k : FVec F S1x1024x32x128 .bf16) : FVec F S1x32x1024x1024 .f32 :=
  select (broadcastInDim S1x32x1024x1024 ![0, 1, 2, 3] bcast_S1x1x1024x1_S1x32x1024x1024_0_1_2_3 keepV) (Host.divf (expV x wq k) (broadcastInDim S1x32x1024x1024 ![0, 1, 2, 3] bcast_S1x32x1024x1_S1x32x1024x1024_0_1_2_3 (select (broadcastInDim S1x32x1024x1 ![0, 1, 2, 3] bcast_S1x1x1024x1_S1x32x1024x1_0_1_2_3 keepV) (broadcastInDim S1x32x1024x1 ![0, 1, 2] bcast_S1x32x1024_S1x32x1024x1_0_1_2 (Host.reduceAdd (expV x wq k) (constant S_ .f32 0x00000000#32) reducesTo_S1x32x1024x1024_S1x32x1024_d3 h_S_)) (broadcastInDim S1x32x1024x1 ![] bcast_S_S1x32x1024x1 (id (constant S_ .f32 0x3F800000#32)))))) (broadcastInDim S1x32x1024x1024 ![] bcast_S_S1x32x1024x1024 (id (constant S_ .f32 0x00000000#32)))

/-- The heads' contexts, beside each other. -/
def cxV (x : FVec F S1x1024x1024 .bf16) (wq : FVec F S1024x4096 .bf16) (k : FVec F S1x1024x32x128 .bf16) (v : FVec F S1x1024x32x128 .bf16) : FVec F S1x1024x4096 .f32 :=
  shapeCast S1x1024x4096 (transpose S1x1024x32x128 [0, 3, 1, 2] (Host.dotGeneral dot_S1x1024x32x128_S1x32x1024x1024_S1x32x128x1024_1_3_3_2_02_01 none (extf .f32 v bitsLt_bf16_f32) (wgtV x wq k)) transposes_S1x32x128x1024_S1x1024x32x128_0_3_1_2) shapeCasts_S1x1024x32x128_S1x1024x4096

/-- The result. -/
def refV (x : FVec F S1x1024x1024 .bf16) (wq : FVec F S1024x4096 .bf16) (k : FVec F S1x1024x32x128 .bf16) (v : FVec F S1x1024x32x128 .bf16) (wo : FVec F S4096x1024 .bf16) : FVec F S1x1024x1024 .f32 :=
  Host.dotGeneral dot_S1x1024x4096_S4096x1024_S1x1024x1024_2_0_01_1_n_n none (cxV x wq k v) (extf .f32 wo bitsLt_bf16_f32)

set_option maxHeartbeats 4000000 in
theorem res_eq (m : (ℓ : Loc nD τ sig) → Buf (Elt F) ℓ) (c : Dev nD) :
    res_main_v44 m c = refV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Value
-- ==== Proof.RefMask.lean ====
/-
  The reference's mask read at a pair of rows: two rows attend to each other when their blocks agree modulo the stride.
-/
module

public import proofs.«01_k».proof.Proof.RefVal

@[expose] public section

set_option maxRecDepth 16384

noncomputable section

namespace Cert.ReferenceIdeal.Value

open Cert.ReferenceIdeal Cert.ReferenceIdeal.Gen Idealize.ShloMosaic Idealize.ShloMosaic.TcCoe Idealize.SL.Sem

theorem blk_apply (i : Fin 1024) : blkV (ix1 i) = BitVec.ofNat 32 (i.val / 64) := by
  unfold blkV
  pointwise
  revert i
  decide +kernel

/-- A block's number modulo the stride, as the reference computes it. -/
def modS (b : BitVec 32) : BitVec 32 :=
  Scalar.select
    (IntOp.andi
      (IntOp.cmpi .ne (IntOp.cmpi .slt (IntOp.remsi .host b (Scalar.select (IntOp.cmpi .eq 4#32 0#32) 1#32 4#32)) 0#32)
        (IntOp.cmpi .slt (Scalar.select (IntOp.cmpi .eq 4#32 0#32) 1#32 4#32) 0#32))
      (IntOp.cmpi .ne (IntOp.remsi .host b (Scalar.select (IntOp.cmpi .eq 4#32 0#32) 1#32 4#32)) 0#32))
    (IntOp.addi (IntOp.remsi .host b (Scalar.select (IntOp.cmpi .eq 4#32 0#32) 1#32 4#32))
      (Scalar.select (IntOp.cmpi .eq 4#32 0#32) 1#32 4#32))
    (IntOp.remsi .host b (Scalar.select (IntOp.cmpi .eq 4#32 0#32) 1#32 4#32))

theorem colMod_apply (j : Fin 1024) : colMod (ix2 0 j) = modS (blkV (ix1 j)) := by
  unfold colMod colB fourV
  pointwise
  rfl

theorem rowMod_apply (j : Fin 1024) : rowMod (ix2 j 0) = modS (blkV (ix1 j)) := by
  unfold rowMod rowB fourV
  pointwise
  rfl

theorem mask_scalar : ∀ a b : Fin 16,
    IntOp.ori (IntOp.cmpi CmpIPredicate.eq (BitVec.ofNat 32 a.val) (BitVec.ofNat 32 b.val))
        (IntOp.cmpi CmpIPredicate.eq (modS (BitVec.ofNat 32 b.val)) (modS (BitVec.ofNat 32 a.val)))
      = if a.val % 4 = b.val % 4 then 1#1 else 0#1 := by
  decide +kernel

theorem mask_apply (i j : Fin 1024) : maskV (ix2 i j) = if i.val / 64 % 4 = j.val / 64 % 4 then 1#1 else 0#1 := by
  have hi := i.isLt
  have hj := j.isLt
  unfold maskV eqB modEq rowB colB
  pointwise
  rw [colMod_apply, rowMod_apply, blk_apply, blk_apply]
  exact mask_scalar ⟨i.val / 64, by omega⟩ ⟨j.val / 64, by omega⟩

theorem fold_ori {ι : Type} [DecidableEq ι] (s : Finset ι) (f : ι → BitVec 1) (h : ∃ t ∈ s, f t = 1#1) :
    Finset.fold IntOp.ori 0#1 f s = 1#1 := by
  induction s using Finset.induction_on with
  | empty => simp at h
  | insert a s ha ih =>
    have o1 : ∀ x : BitVec 1, IntOp.ori 1#1 x = 1#1 := by decide
    have o2 : ∀ x : BitVec 1, IntOp.ori x 1#1 = 1#1 := by decide
    rw [Finset.fold_insert ha]
    obtain ⟨t, ht, e⟩ := h
    rcases Finset.mem_insert.mp ht with rfl | ht
    · rw [e, o1]
    · rw [ih ⟨t, ht, e⟩, o2]

theorem keep_apply (i : Fin 1024) : keepV (ix4 0 0 i 0) = 1#1 := by
  unfold keepV
  pointwise
  exact fold_ori _ _ ⟨i, Finset.mem_univ _, by rw [mask_apply, if_pos rfl]⟩

end Cert.ReferenceIdeal.Value
-- ==== Proof.Soft.lean ====
/-
  A softmax over the members of a class in two forms: the kernel divides the weighted sum once, the reference shifts by the
  greatest score, gives the others −∞ and divides each weight. Over the extended reals the two agree for real scores.
-/
module

public import Idealize.ShloMosaic.Lib.Pointwise
public import Idealize.ShloMosaic.Lib.IdealHost

@[expose] public section

noncomputable section

namespace Cert.Spec

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real goes into a sum. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The greatest of scores of which some are real and the others −∞ is real. -/
theorem fold_real {m : ℕ} (C : Fin m → Prop) [DecidablePred C] (a : Fin m → ℝ) (hC : ∃ t, C t) :
    ∃ μ : ℝ, Finset.univ.fold max (⊥ : EReal) (fun t => if C t then (a t : EReal) else ⊥) = (μ : EReal) := by
  obtain ⟨t0, h0⟩ := hC
  have e : Finset.univ.fold max (⊥ : EReal) (fun t => if C t then (a t : EReal) else ⊥)
      = Finset.univ.sup (fun t => if C t then (a t : EReal) else ⊥) := rfl
  obtain ⟨t, _, ht⟩ := Finset.exists_mem_eq_sup (Finset.univ : Finset (Fin m)) ⟨t0, Finset.mem_univ _⟩
    (fun t => if C t then (a t : EReal) else ⊥)
  have hle := Finset.le_sup (f := fun t => if C t then (a t : EReal) else ⊥) (Finset.mem_univ t0)
  rw [e, ht]
  rw [ht] at hle
  by_cases hc : C t
  · exact ⟨a t, by simp only [if_pos hc]⟩
  · simp only [if_neg hc, if_pos h0] at hle
    exact absurd (le_bot_iff.mp hle) (EReal.coe_ne_bot _)

theorem soft {n m : ℕ} (p : Fin n → Fin m) (hp : Function.Injective p) (C : Fin m → Prop) [DecidablePred C]
    (hC : ∀ t, C t ↔ ∃ r, p r = t) (hn : 0 < n) (a : Fin m → ℝ) (v : Fin m → EReal) :
    (∑ r, Ideal.exp (a (p r) : EReal) * v (p r)) * Ideal.div 1 (∑ r, Ideal.exp (a (p r) : EReal))
      = ∑ t, v t * Ideal.div
          (Ideal.exp ((if C t then (a t : EReal) else ⊥) - Finset.univ.fold max (⊥ : EReal) (fun t => if C t then (a t : EReal) else ⊥)))
          (∑ t, Ideal.exp ((if C t then (a t : EReal) else ⊥) - Finset.univ.fold max (⊥ : EReal) (fun t => if C t then (a t : EReal) else ⊥))) := by
  obtain ⟨μ, hμ⟩ := fold_real C a ⟨p ⟨0, hn⟩, (hC _).mpr ⟨_, rfl⟩⟩
  rw [hμ]
  have hw : ∀ t, Ideal.exp ((if C t then (a t : EReal) else ⊥) - (μ : EReal))
      = ((if C t then Real.exp (a t) * Real.exp (-μ) else 0 : ℝ) : EReal) := by
    intro t
    by_cases hc : C t
    · simp only [if_pos hc]
      rw [← Real.exp_add, ← sub_eq_add_neg, ← EReal.coe_sub]
      rfl
    · simp only [if_neg hc]
      rw [EReal.bot_sub]
      rfl
  have hset : ∀ f : Fin m → EReal, (∑ t, if C t then f t else 0) = ∑ r, f (p r) := by
    intro f
    rw [← Finset.sum_filter, show (Finset.univ.filter C) = Finset.univ.map ⟨p, hp⟩ from ?_, Finset.sum_map]
    · rfl
    · ext t
      simp [hC]
  have hZpos : 0 < ∑ r, Real.exp (a (p r)) :=
    Finset.sum_pos (fun _ _ => Real.exp_pos _) ⟨⟨0, hn⟩, Finset.mem_univ _⟩
  have hZ : (∑ r, Ideal.exp (a (p r) : EReal)) = ((∑ r, Real.exp (a (p r)) : ℝ) : EReal) := by
    rw [coe_sum]
    rfl
  have hZ' : (∑ t, ((if C t then Real.exp (a t) * Real.exp (-μ) else 0 : ℝ) : EReal))
      = (((∑ r, Real.exp (a (p r))) * Real.exp (-μ) : ℝ) : EReal) := by
    rw [Finset.sum_mul, coe_sum, ← hset (fun t => ((Real.exp (a t) * Real.exp (-μ) : ℝ) : EReal))]
    refine Finset.sum_congr rfl fun t _ => ?_
    split_ifs <;> rfl
  simp only [hw]
  rw [hZ', hZ, Ideal.div_coe (ne_of_gt hZpos), one_mul, mul_comm, coe_mul_sum _ (by positivity)]
  have hne : (∑ r, Real.exp (a (p r))) * Real.exp (-μ) ≠ 0 := mul_ne_zero (ne_of_gt hZpos) (Real.exp_ne_zero _)
  rw [← hset (fun t => ((1 / ∑ r, Real.exp (a (p r)) : ℝ) : EReal) * (Ideal.exp (a t : EReal) * v t))]
  refine Finset.sum_congr rfl fun t _ => ?_
  rw [Ideal.div_coe hne]
  by_cases hc : C t
  · simp only [if_pos hc]
    rw [← EReal.coe_mul, mul_comm (v t), show Ideal.exp (a t : EReal) = ((Real.exp (a t) : ℝ) : EReal) from rfl, ← mul_assoc, ← EReal.coe_mul]
    congr 2
    field_simp
  · simp only [if_neg hc, EReal.coe_zero, zero_mul, mul_zero]

end Cert.Spec
-- ==== Proof.RefAttn.lean ====
/-
  The reference's attention read at an index: for real scores it is the kernel's form, the values of a class's rows weighted
  by exponentials and divided once.
-/
module

public import proofs.«01_k».proof.Proof.RefMask
public import proofs.«01_k».proof.Proof.KVal
public import proofs.«01_k».proof.Proof.Soft

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Gen (scl cls cls_lt)

variable (x : FVec Ideal S1x1024x1024 .bf16) (wq : FVec Ideal S1024x4096 .bf16) (k v : FVec Ideal S1x1024x32x128 .bf16)
  (wo : FVec Ideal S4096x1024 .bf16)

/-- Lane d of head h among all the lanes. -/
def lane (h : Fin 32) (d : Fin 128) : Fin 4096 := ⟨h.val * 128 + d.val, by have := h.isLt; have := d.isLt; omega⟩

theorem sc_apply (h : Fin 32) (i t : Fin 1024) : scV x wq k (ix4 0 h i t)
    = (∑ d : Fin 128, (∑ e : Fin 1024, x (ix3 0 i e) * wq (ix2 e (lane h d))) * k (ix4 0 t h d)) * scl := by
  unfold scV
  pointwise
  rfl

theorem bits_bot : Ideal.ofBits FTy.f32 0xFF800000#32 = ⊥ := by
  simp [Ideal.ofBits, Ideal.ieee]

theorem bits_top : Ideal.ofBits FTy.f32 0x7F800000#32 = ⊤ := by
  simp [Ideal.ofBits, Ideal.ieee]

/-- The scores of row i with the rows of other classes at −∞. -/
def msk (h : Fin 32) (i t : Fin 1024) : EReal :=
  if i.val / 64 % 4 = t.val / 64 % 4 then scV x wq k (ix4 0 h i t) else ⊥

theorem msc_apply (h : Fin 32) (i t : Fin 1024) : mscV x wq k (ix4 0 h i t) = msk x wq k h i t := by
  unfold mscV msk
  pointwise
  rw [mask_apply]
  split_ifs with hc
  · rfl
  · exact bits_bot

theorem exp_apply (h : Fin 32) (i t : Fin 1024) : expV x wq k (ix4 0 h i t)
    = Ideal.exp (msk x wq k h i t - Finset.univ.fold max ⊥ (fun t => msk x wq k h i t)) := by
  unfold expV
  pointwise
  simp only [msc_apply, bits_bot]

theorem wgt_apply (h : Fin 32) (i t : Fin 1024) : wgtV x wq k (ix4 0 h i t)
    = Ideal.div (Ideal.exp (msk x wq k h i t - Finset.univ.fold max ⊥ (fun t => msk x wq k h i t)))
        (∑ t : Fin 1024, Ideal.exp (msk x wq k h i t - Finset.univ.fold max ⊥ (fun t => msk x wq k h i t))) := by
  unfold wgtV
  pointwise
  rw [keep_apply]
  simp only [exp_apply]
  rfl

theorem cls_inj {s : ℕ} (hs : s < 4) : Function.Injective (cls hs) := by
  intro a b e
  have ha := a.isLt
  have hb := b.isLt
  have e' : 256 * (a.val / 64) + 64 * s + a.val % 64 = 256 * (b.val / 64) + 64 * s + b.val % 64 := congrArg Fin.val e
  refine Fin.ext ?_
  omega

theorem cls_mem (i t : Fin 1024) : i.val / 64 % 4 = t.val / 64 % 4 ↔ ∃ r, cls (cls_lt i) r = t := by
  constructor
  · intro h
    refine ⟨Cert.KernelIdeal.Gen.plc t, ?_⟩
    have e : ∀ {s : ℕ} (hs : s < 4), t.val / 64 % 4 = s → cls hs (Cert.KernelIdeal.Gen.plc t) = t := by
      intro s hs e
      subst e
      exact Cert.KernelIdeal.Gen.cls_plc t
    exact e _ h.symm
  · rintro ⟨r, rfl⟩
    have hr := r.isLt
    show i.val / 64 % 4 = (256 * (r.val / 64) + 64 * (i.val / 64 % 4) + r.val % 64) / 64 % 4
    omega

/-- A head's context at a row, in the kernel's form. -/
theorem head_eq (h : Fin 32) (i : Fin 1024) (d : Fin 128) (hf : ∀ t, ∃ r : ℝ, scV x wq k (ix4 0 h i t) = (r : EReal)) :
    ∑ t : Fin 1024, v (ix4 0 t h d) * wgtV x wq k (ix4 0 h i t)
      = (∑ r : Fin 256, Ideal.exp (scV x wq k (ix4 0 h i (cls (cls_lt i) r))) * v (ix4 0 (cls (cls_lt i) r) h d))
        * Ideal.div 1 (∑ r : Fin 256, Ideal.exp (scV x wq k (ix4 0 h i (cls (cls_lt i) r)))) := by
  choose a ha using hf
  simp only [wgt_apply, msk, ha]
  exact (Cert.Spec.soft (cls (cls_lt i)) (cls_inj _) (fun t => i.val / 64 % 4 = t.val / 64 % 4) (cls_mem i) (by omega) a
    (fun t => v (ix4 0 t h d))).symm

/-- The head a lane belongs to. -/
abbrev hd (K : Fin 4096) : Fin 32 := ⟨K.val / 128, by have := K.isLt; omega⟩
/-- A lane's place in its head. -/
abbrev ln (K : Fin 4096) : Fin 128 := ⟨K.val % 128, by omega⟩

theorem ref_apply (i j : Fin 1024) : refV x wq k v wo (ix3 0 i j)
    = ∑ K : Fin 4096, (∑ t : Fin 1024, v (ix4 0 t (hd K) (ln K)) * wgtV x wq k (ix4 0 (hd K) i t)) * wo (ix2 K j) := by
  unfold refV cxV
  pointwise

end Cert.ReferenceIdeal.Value
-- ==== Proof.Agree.lean ====
/-
  The kernel's result is the reference's, over the extended reals: the devices' shares, each of its own heads, add up to the
  product of all the heads with all the output weights, when the input, the query weights and the keys are real.
-/
module

public import proofs.«01_k».proof.Proof.RefAttn

@[expose] public section

set_option maxRecDepth 16384

noncomputable section

namespace Cert.Spec

open Idealize.ShloMosaic Idealize.SL.Sem
open Cert.KernelIdeal.Gen (Ins scl cls cls_lt col scK cxK shK)
open Cert.ReferenceIdeal.Value (lane hd ln scV wgtV refV sc_apply head_eq ref_apply)

/-! ## Reals -/

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem real_sum {n : ℕ} (f : Fin n → EReal) (hf : ∀ i, ∃ r : ℝ, f i = r) : ∃ r : ℝ, ∑ i, f i = r := by
  choose g hg using hf
  exact ⟨∑ i, g i, by rw [coe_sum]; exact Finset.sum_congr rfl fun i _ => hg i⟩

theorem scl_real : ∃ r : ℝ, scl = r := by
  simp [scl, Ideal.ofBits, Ideal.ieee, -EReal.coe_mul]

/-- A number whose magnitude is below ∞ is real. -/
theorem real_of_lt (a : EReal) (h : Ideal.cmp .olt (max a (-a)) (Ideal.ofBits FTy.f32 0x7F800000#32) = 1#1) : ∃ r : ℝ, a = r := by
  rw [Cert.ReferenceIdeal.Value.bits_top] at h
  induction a using EReal.rec with
  | bot => simp [Ideal.cmp] at h
  | coe r => exact ⟨r, rfl⟩
  | top => simp [Ideal.cmp] at h

/-! ## The shares -/

/-- Lane k of device c among all the lanes. -/
def wide (c : Fin 4) (k : Fin 1024) : Fin 4096 := ⟨1024 * c.val + k.val, by have := c.isLt; have := k.isLt; omega⟩
/-- Head h of device c among all the heads. -/
def head {h : ℕ} (c : Fin 4) (hh : h < 8) : Fin 32 := ⟨8 * c.val + h, by have := c.isLt; omega⟩

/-- A sum over all the lanes, device by device. -/
theorem sum_wide (f : Fin 4096 → EReal) : ∑ c : Fin 4, ∑ k : Fin 1024, f (wide c k) = ∑ K : Fin 4096, f K := by
  rw [← Fintype.sum_prod_type']
  refine Fintype.sum_equiv (finProdFinEquiv (m := 4) (n := 1024)) _ _ fun p => congrArg f (Fin.ext ?_)
  show 1024 * p.1.val + p.2.val = p.2.val + 1024 * p.1.val
  omega

section

variable (A : Fin 4 → Ins Ideal)
variable (X : FVec Ideal Cert.ReferenceIdeal.S1x1024x1024 .bf16) (WQ : FVec Ideal Cert.ReferenceIdeal.S1024x4096 .bf16)
  (K V : FVec Ideal Cert.ReferenceIdeal.S1x1024x32x128 .bf16) (WO : FVec Ideal Cert.ReferenceIdeal.S4096x1024 .bf16)

/-- The devices' operands are the parts of the whole arrays. -/
structure Parts : Prop where
  x : ∀ c i e, (A c).x (ix2 i e) = X (ix3 0 i e)
  wq : ∀ c e k, (A c).wq (ix2 e k) = WQ (ix2 e (wide c k))
  k : ∀ c t k, (A c).k (ix2 t k) = K (ix4 0 t (hd (wide c k)) (ln (wide c k)))
  v : ∀ c t k, (A c).v (ix2 t k) = V (ix4 0 t (hd (wide c k)) (ln (wide c k)))
  wo : ∀ c k j, (A c).wo (ix2 k j) = WO (ix2 (wide c k) j)

variable {A X WQ K V WO}

theorem hd_col (c : Fin 4) {h : ℕ} (hh : h < 8) (d : Fin 128) : hd (wide c (col hh d)) = head c hh := by
  have hd := d.isLt
  refine Fin.ext ?_
  show (1024 * c.val + (128 * h + d.val)) / 128 = 8 * c.val + h
  omega
theorem ln_col (c : Fin 4) {h : ℕ} (hh : h < 8) (d : Fin 128) : ln (wide c (col hh d)) = d := by
  have hd := d.isLt
  refine Fin.ext ?_
  show (1024 * c.val + (128 * h + d.val)) % 128 = d.val
  omega
theorem wide_col (c : Fin 4) {h : ℕ} (hh : h < 8) (d : Fin 128) : wide c (col hh d) = lane (head c hh) d := by
  refine Fin.ext ?_
  show 1024 * c.val + (128 * h + d.val) = (8 * c.val + h) * 128 + d.val
  omega

theorem score_eq (P : Parts A X WQ K V WO) (c : Fin 4) {h : ℕ} (hh : h < 8) (i t : Fin 1024) :
    scK (A c) hh i t = scV X WQ K (ix4 0 (head c hh) i t) := by
  rw [sc_apply]
  unfold scK
  simp only [P.x, P.wq, P.k, hd_col, ln_col]
  simp only [wide_col]

theorem context_eq (P : Parts A X WQ K V WO) (c : Fin 4) {h : ℕ} (hh : h < 8) (i : Fin 1024) (d : Fin 128)
    (hf : ∀ t, ∃ r : ℝ, scV X WQ K (ix4 0 (head c hh) i t) = (r : EReal)) :
    cxK (A c) (cls_lt i) hh i d = ∑ t : Fin 1024, V (ix4 0 t (head c hh) d) * wgtV X WQ K (ix4 0 (head c hh) i t) := by
  rw [head_eq X WQ K V (head c hh) i d hf]
  unfold cxK
  simp only [score_eq P, P.v, hd_col, ln_col]

theorem shares_eq (P : Parts A X WQ K V WO) (i j : Fin 1024)
    (hf : ∀ h t, ∃ r : ℝ, scV X WQ K (ix4 0 h i t) = (r : EReal)) :
    ∑ c : Fin 4, shK (A c) (cls_lt i) i j = refV X WQ K V WO (ix3 0 i j) := by
  rw [ref_apply, ← sum_wide]
  refine Finset.sum_congr rfl fun c _ => ?_
  unfold shK
  refine Finset.sum_congr rfl fun k _ => ?_
  have hk := k.isLt
  rw [context_eq P c (by omega : k.val / 128 < 8) i ⟨k.val % 128, by omega⟩ (fun t => hf _ t), P.wo]
  have e1 : head c (by omega : k.val / 128 < 8) = hd (wide c k) := by
    refine Fin.ext ?_
    show 8 * c.val + k.val / 128 = (1024 * c.val + k.val) / 128
    omega
  have e2 : (⟨k.val % 128, by omega⟩ : Fin 128) = ln (wide c k) := by
    refine Fin.ext ?_
    show k.val % 128 = (1024 * c.val + k.val) % 128
    omega
  rw [e1, e2]

theorem scores_real (hX : ∀ i e, ∃ r : ℝ, X (ix3 0 i e) = (r : EReal)) (hW : ∀ e k, ∃ r : ℝ, WQ (ix2 e k) = (r : EReal))
    (hK : ∀ t h d, ∃ r : ℝ, K (ix4 0 t h d) = (r : EReal)) (h : Fin 32) (i t : Fin 1024) :
    ∃ r : ℝ, scV X WQ K (ix4 0 h i t) = (r : EReal) := by
  rw [sc_apply]
  exact real_mul (real_sum _ fun d => real_mul (real_sum _ fun e => real_mul (hX i e) (hW e _)) (hK t h d)) scl_real

end

end Cert.Spec
-- ==== Proof.Whole.lean ====
/-
  The value claim: on every device the kernel ends with the reference's result, for a real input, real query weights and real
  keys; and the frames under the same condition.
-/
module

public import proofs.«01_k».proof.Proof.Frames
public import proofs.«01_k».proof.Proof.Args
public import proofs.«01_k».proof.Proof.Agree

@[expose] public section

set_option maxRecDepth 16384

noncomputable section

namespace Cert.Proof

open Idealize.ShloMosaic Idealize.ShloMosaic.TcCoe Idealize.SL.Sem

/-- The facts of the precondition's two prints. -/
theorem preKernel : Cert.Pre_finite_scores_KernelIdeal.Facts := ⟨by decide, by decide, by decide, by decide⟩
theorem preReference : Cert.Pre_finite_scores_ReferenceIdeal.Facts := ⟨by decide, by decide, by decide, by decide⟩

theorem frame_ideal_pre : Cert.quiescent_KernelIdeal_pre_finite_scores_KernelIdeal
    (hKernelIdeal := Cert.KernelIdeal.Gen.facts) (hPre_finite_scores_KernelIdeal := preKernel) := fun m ρ _ => frame_ideal m ρ trivial

theorem frame_reference_pre : Cert.quiescent_ReferenceIdeal_pre_finite_scores_ReferenceIdeal
    (hReferenceIdeal := Cert.ReferenceIdeal.Gen.facts) (hPre_finite_scores_ReferenceIdeal := preReference) := fun m ρ _ => frame_reference m ρ trivial

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments. -/
abbrev refX : FVec Ideal Cert.ReferenceIdeal.S1x1024x1024 .bf16 := m' (((0 : Dev Cert.ReferenceIdeal.nD).tc : Thread Cert.ReferenceIdeal.nD Cert.ReferenceIdeal.τ).loc Cert.ReferenceIdeal.main_arg0)
abbrev refW : FVec Ideal Cert.ReferenceIdeal.S1024x4096 .bf16 := m' (((0 : Dev Cert.ReferenceIdeal.nD).tc : Thread Cert.ReferenceIdeal.nD Cert.ReferenceIdeal.τ).loc Cert.ReferenceIdeal.main_arg1)
abbrev refK : FVec Ideal Cert.ReferenceIdeal.S1x1024x32x128 .bf16 := m' (((0 : Dev Cert.ReferenceIdeal.nD).tc : Thread Cert.ReferenceIdeal.nD Cert.ReferenceIdeal.τ).loc Cert.ReferenceIdeal.main_arg2)
abbrev refV : FVec Ideal Cert.ReferenceIdeal.S1x1024x32x128 .bf16 := m' (((0 : Dev Cert.ReferenceIdeal.nD).tc : Thread Cert.ReferenceIdeal.nD Cert.ReferenceIdeal.τ).loc Cert.ReferenceIdeal.main_arg3)
abbrev refO : FVec Ideal Cert.ReferenceIdeal.S4096x1024 .bf16 := m' (((0 : Dev Cert.ReferenceIdeal.nD).tc : Thread Cert.ReferenceIdeal.nD Cert.ReferenceIdeal.τ).loc Cert.ReferenceIdeal.main_arg4)

/-- A device's arguments. -/
abbrev devX (c : Dev Cert.KernelIdeal.nD) : FVec Ideal Cert.KernelIdeal.S1x1024x1024 .bf16 := m ((c.tc : Thread Cert.KernelIdeal.nD Cert.KernelIdeal.τ).loc Cert.KernelIdeal.main_arg0)
abbrev devW (c : Dev Cert.KernelIdeal.nD) : FVec Ideal Cert.KernelIdeal.S1024x1024 .bf16 := m ((c.tc : Thread Cert.KernelIdeal.nD Cert.KernelIdeal.τ).loc Cert.KernelIdeal.main_arg1)
abbrev devK (c : Dev Cert.KernelIdeal.nD) : FVec Ideal Cert.KernelIdeal.S1x1024x32x128 .bf16 := m ((c.tc : Thread Cert.KernelIdeal.nD Cert.KernelIdeal.τ).loc Cert.KernelIdeal.main_arg2)
abbrev devV (c : Dev Cert.KernelIdeal.nD) : FVec Ideal Cert.KernelIdeal.S1x1024x32x128 .bf16 := m ((c.tc : Thread Cert.KernelIdeal.nD Cert.KernelIdeal.τ).loc Cert.KernelIdeal.main_arg3)
abbrev devO (c : Dev Cert.KernelIdeal.nD) : FVec Ideal Cert.KernelIdeal.S1024x1024 .bf16 := m ((c.tc : Thread Cert.KernelIdeal.nD Cert.KernelIdeal.τ).loc Cert.KernelIdeal.main_arg4)

/-- Each device holds its part of the reference's arguments. -/
structure Held : Prop where
  x : ∀ c, devX m c = refX m'
  w : ∀ c : Fin 4, devW m c = Layout.block ⟨2, ![1024, 1024]⟩ ⟨2, ![1024, 4096]⟩ 1 4 c (refW m')
  k : ∀ c, devK m c = refK m'
  v : ∀ c, devV m c = refV m'
  o : ∀ c : Fin 4, devO m c = Layout.block ⟨2, ![1024, 1024]⟩ ⟨2, ![4096, 1024]⟩ 0 4 c (refO m')

variable {m m'}

theorem Held.w_apply (H : Held m m') (c : Fin 4) (e k : Fin 1024) : devW m c (ix2 e k) = refW m' (ix2 e (Cert.Spec.wide c k)) := by
  rw [H.w c]
  refine congrArg (refW m') (funext fun a => Fin.ext ?_)
  match a with
  | ⟨0, _⟩ => rfl
  | ⟨1, _⟩ =>
    show c.val * 1024 + k.val = 1024 * c.val + k.val
    omega

theorem Held.o_apply (H : Held m m') (c : Fin 4) (k j : Fin 1024) : devO m c (ix2 k j) = refO m' (ix2 (Cert.Spec.wide c k) j) := by
  rw [H.o c]
  refine congrArg (refO m') (funext fun a => Fin.ext ?_)
  match a with
  | ⟨0, _⟩ =>
    show c.val * 1024 + k.val = 1024 * c.val + k.val
    omega
  | ⟨1, _⟩ => rfl

theorem cut_wide (c : Fin 4) (a : FVec Ideal Cert.KernelIdeal.S1x1024x32x128 .bf16) (t k : Fin 1024) :
    Cert.KernelIdeal.Gen.cutHeads c a (ix2 t k) = a (ix4 0 t (Cert.ReferenceIdeal.Value.hd (Cert.Spec.wide c k)) (Cert.ReferenceIdeal.Value.ln (Cert.Spec.wide c k))) := by
  have hk := k.isLt
  refine (Cert.KernelIdeal.Gen.cut_apply c a t k).trans ?_
  have e : ∀ (h h' : Fin 32) (d d' : Fin 128), h.val = h'.val → d.val = d'.val → a (ix4 0 t h d) = a (ix4 0 t h' d') := by
    intro h h' d d' e1 e2
    rw [Fin.ext e1, Fin.ext e2]
  refine e _ _ _ _ ?_ ?_
  · show 8 * c.val + k.val / 128 = (1024 * c.val + k.val) / 128
    omega
  · show k.val % 128 = (1024 * c.val + k.val) % 128
    omega

/-- The operands the host lines cut are the parts of the whole arrays. -/
theorem Held.parts (H : Held m m') : Cert.Spec.Parts (fun c => Cert.KernelIdeal.Gen.ins m c) (refX m') (refW m') (refK m') (refV m') (refO m') where
  x c i e := (Cert.KernelIdeal.Gen.x_apply m c i e).trans (congrFun (H.x c) (ix3 0 i e))
  wq c e k := (congrFun (Cert.KernelIdeal.Gen.V1_of m c Cert.KernelIdeal.main_arg1 (by decide)) (ix2 e k)).trans (H.w_apply c e k)
  k c t k := (congrFun (Cert.KernelIdeal.Gen.v11_eq m c) (ix2 t k)).trans ((cut_wide c _ t k).trans (congrFun (H.k c) _))
  v c t k := (congrFun (Cert.KernelIdeal.Gen.v18_eq m c) (ix2 t k)).trans ((cut_wide c _ t k).trans (congrFun (H.v c) _))
  wo c k j := (congrFun (Cert.KernelIdeal.Gen.V1_of m c Cert.KernelIdeal.main_arg4 (by decide)) (ix2 k j)).trans (H.o_apply c k j)

theorem result_eq (H : Held m m') (hf : ∀ h i t, ∃ r : ℝ, Cert.ReferenceIdeal.Value.scV (refX m') (refW m') (refK m') (ix4 0 h i t) = (r : EReal))
    (c : Dev Cert.KernelIdeal.nD) :
    Cert.KernelIdeal.Gen.V3 m (Cert.KernelIdeal.Gen.outs m) c Cert.KernelIdeal.main_v21
      = (Cert.ReferenceIdeal.Value.refV (refX m') (refW m') (refK m') (refV m') (refO m') : FVec Ideal Cert.ReferenceIdeal.S1x1024x1024 .f32) := by
  have key : ∀ i j : Fin 1024, (Cert.KernelIdeal.Gen.V3 m (Cert.KernelIdeal.Gen.outs m) c Cert.KernelIdeal.main_v21 : FVec Ideal Cert.ReferenceIdeal.S1x1024x1024 .f32) (ix3 0 i j)
      = Cert.ReferenceIdeal.Value.refV (refX m') (refW m') (refK m') (refV m') (refO m') (ix3 0 i j) := fun i j =>
    (Cert.KernelIdeal.Gen.v21_apply m c i j).trans ((Cert.KernelIdeal.Gen.out_apply _ c i j).trans (Cert.Spec.shares_eq H.parts i j fun h t => hf h i t))
  refine funext fun (q : Cert.ReferenceIdeal.S1x1024x1024.Idx) => ?_
  have hq : q = ix3 (0 : Fin 1) (q 1 : Fin 1024) (q 2 : Fin 1024) := by
    funext a
    match a with
    | ⟨0, _⟩ => exact Fin.ext (by have h0 : (q 0).val < 1 := (q 0).isLt; show (q 0).val = 0; omega)
    | ⟨1, _⟩ => rfl
    | ⟨2, _⟩ => rfl
  rw [hq]
  exact key _ _

end

theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preKernel) := fun m ρ m' ρ' hpre hagree => by
  have H : Held m m' := ⟨fun c => (hagree c).1, fun c => (hagree c).2.1, fun c => (hagree c).2.2.1, fun c => (hagree c).2.2.2.1, fun c => (hagree c).2.2.2.2⟩
  have hX : ∀ i e : Fin 1024, ∃ r : ℝ, refX m' (ix3 0 i e) = (r : EReal) := fun i e => by
    rw [← H.x 0]
    exact Cert.Spec.real_of_lt _ (congrFun (hpre 0).1 (ix3 0 i e))
  have hK : ∀ (t : Fin 1024) (h : Fin 32) (d : Fin 128), ∃ r : ℝ, refK m' (ix4 0 t h d) = (r : EReal) := fun t h d => by
    rw [← H.k 0]
    exact Cert.Spec.real_of_lt _ (congrFun (hpre 0).2.2 (ix4 0 t h d))
  have hW : ∀ (e : Fin 1024) (k : Fin 4096), ∃ r : ℝ, refW m' (ix2 e k) = (r : EReal) := fun e k => by
    have hk := k.isLt
    have e1 : k = Cert.Spec.wide ⟨k.val / 1024, by omega⟩ ⟨k.val % 1024, by omega⟩ := by
      refine Fin.ext ?_
      show k.val = 1024 * (k.val / 1024) + k.val % 1024
      omega
    rw [e1, ← H.w_apply]
    exact Cert.Spec.real_of_lt _ (congrFun (hpre _).2.1 (ix2 e _))
  have hr := result_eq H (Cert.Spec.scores_real hX hW hK)
  refine ⟨Cert.ReferenceIdeal.Value.res_main_v44 m' 0, ?_, ?_⟩
  · exact (θ_run Cert.KernelIdeal.defs _ _).mono (fun r h c =>
      ⟨(h.1 c).1.trans ((hr c).trans (Cert.ReferenceIdeal.Value.res_eq m' 0).symm), (h.1 c).2⟩) (Cert.KernelIdeal.Gen.run_args (F := Ideal) m ρ)
  · exact (θ_run Cert.ReferenceIdeal.defs _ _).mono (fun r h => h 0) (Cert.ReferenceIdeal.Value.run (F := Ideal) m' ρ')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  preKernel, preReference, frame_kernel, frame_ideal, frame_ideal_pre, frame_reference,
  frame_reference_pre, trivial, algebraic⟩

end Cert.Proof

end
